-- ==== Defs.lean ====
def Pre_Kernel [hPre_ids_in_vocab : Cert.Pre_ids_in_vocab.Facts] (m : (ℓ : Loc Cert.Kernel.nD Cert.Kernel.τ Cert.Kernel.sig) → Buf (Elt Bits) ℓ) : Prop :=
  ∀ c : Dev Cert.Kernel.nD,
    (Cert.Pre_ids_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_ids_in_vocab : Cert.Pre_ids_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_vocab [hPre_ids_in_vocab : Cert.Pre_ids_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_ids_in_vocab : Cert.Pre_ids_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_ids_in_vocab : Cert.Pre_ids_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_ids_in_vocab [hReferenceIdeal : Cert.ReferenceIdeal.Facts] [hPre_ids_in_vocab : Cert.Pre_ids_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "inv_s" .f32 0x3CA3D70A#32 ((50⁻¹ : ℝ) : EReal)

def algebraic_KernelIdeal_ReferenceIdeal [hKernelIdeal : Cert.KernelIdeal.Facts] [hReferenceIdeal : Cert.ReferenceIdeal.Facts] [hPre_ids_in_vocab : Cert.Pre_ids_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_ids_in_vocab : Cert.Pre_ids_in_vocab.Facts),
    quiescent_Kernel (hKernel := hKernel) (hPre_ids_in_vocab := hPre_ids_in_vocab)
    ∧ quiescent_KernelIdeal (hKernelIdeal := hKernelIdeal) (hPre_ids_in_vocab := hPre_ids_in_vocab)
    ∧ quiescent_ReferenceIdeal (hReferenceIdeal := hReferenceIdeal)
    ∧ quiescent_ReferenceIdeal_pre_ids_in_vocab (hReferenceIdeal := hReferenceIdeal) (hPre_ids_in_vocab := hPre_ids_in_vocab)
    ∧ preserves_Kernel_KernelIdeal
    ∧ algebraic_KernelIdeal_ReferenceIdeal (hKernelIdeal := hKernelIdeal) (hReferenceIdeal := hReferenceIdeal) (hPre_ids_in_vocab := hPre_ids_in_vocab)
-- ==== Pre_ids_in_vocab.lean ====
abbrev S16384x50 : Shape := ⟨2, ![16384, 50]⟩
abbrev S100000x128 : Shape := ⟨2, ![100000, 128]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S16384x50 : S_.BroadcastsInDim S16384x50 (![] : Fin 0 → Fin S16384x50.rank)
  reducesTo_S16384x50_S_d0_1 : S16384x50.ReducesTo [0, 1] S_
  h_S_ : 0 < S_.numel

variable [Facts]

def fn {F : FTy → Type} [FloatOps F] (main_arg0 : IVec S16384x50 32) (main_arg1 : FVec F S100000x128 .f32) (main_arg2 : FVec F S128x128 .f32) (main_arg3 : FVec F S128 .f32) (main_arg4 : FVec F S128x128 .f32) (main_arg5 : FVec F S128 .f32) (main_arg6 : FVec F S128x32 .f32) (main_arg7 : FVec F S32 .f32) (main_arg8 : FVec F S32x2 .f32) (main_arg9 : FVec F S2 .f32) : IVec S_ 1 :=
  let main_c : IVec S_ 32 := constantI S_ 32 0#32
  let main_v0 : IVec S16384x50 32 := broadcastInDim S16384x50 ![] bcast_S_S16384x50 main_c
  let main_v1 : IVec S16384x50 1 := cmpi .sge main_arg0 main_v0
  let main_c_0 : IVec S_ 32 := constantI S_ 32 100000#32
  let main_v2 : IVec S16384x50 32 := broadcastInDim S16384x50 ![] bcast_S_S16384x50 main_c_0
  let main_v3 : IVec S16384x50 1 := cmpi .slt main_arg0 main_v2
  let main_v4 : IVec S16384x50 1 := andi main_v1 main_v3
  let main_c_1 : IVec S_ 1 := constantI S_ 1 1#1
  let main_v5 : IVec S_ 1 := (fun x v => Host.reduce IntOp.andi x v reducesTo_S16384x50_S_d0_1 h_S_) main_v4 main_c_1
  main_v5
-- ==== Kernel.lean ====
abbrev S16384x50 : Shape := ⟨2, ![16384, 50]⟩
abbrev S100000x128 : Shape := ⟨2, ![100000, 128]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x2 : Shape := ⟨2, ![32, 2]⟩
abbrev S2 : Shape := ⟨1, ![2]⟩
abbrev S16384x128 : Shape := ⟨2, ![16384, 128]⟩
abbrev S2x8x50 : Shape := ⟨3, ![2, 8, 50]⟩
abbrev S2x8x50x128 : Shape := ⟨4, ![2, 8, 50, 128]⟩
abbrev S2x8x128 : Shape := ⟨3, ![2, 8, 128]⟩
abbrev S_ : Shape := ⟨0, ![]⟩
abbrev S1x8x50 : Shape := ⟨3, ![1, 8, 50]⟩
abbrev S8x50 : Shape := ⟨2, ![8, 50]⟩
abbrev S1x1x50x128 : Shape := ⟨4, ![1, 1, 50, 128]⟩
abbrev S50x128 : Shape := ⟨2, ![50, 128]⟩
abbrev S1x1x50 : Shape := ⟨3, ![1, 1, 50]⟩
abbrev S50 : Shape := ⟨1, ![50]⟩
abbrev S16 : Shape := ⟨1, ![16]⟩
abbrev S1x1x1x16 : Shape := ⟨4, ![1, 1, 1, 16]⟩
abbrev S1x1x16 : Shape := ⟨3, ![1, 1, 16]⟩
abbrev S1x8x128 : Shape := ⟨3, ![1, 8, 128]⟩
abbrev S8x128 : Shape := ⟨2, ![8, 128]⟩
abbrev S1x128 : Shape := ⟨2, ![1, 128]⟩
abbrev S1x32 : Shape := ⟨2, ![1, 32]⟩
abbrev S1x2 : Shape := ⟨2, ![1, 2]⟩
abbrev S16384x2 : Shape := ⟨2, ![16384, 2]⟩
abbrev S2048x128 : Shape := ⟨2, ![2048, 128]⟩
abbrev S2048x2 : Shape := ⟨2, ![2048, 2]⟩
abbrev S2048x32 : Shape := ⟨2, ![2048, 32]⟩

abbrev nBuf : Table → Nat
  | .hbm => 16
  | .local .tc .vmem => 12
  | .local .scVector .vmem => 3
  | _ => 0

abbrev bufTy : (tb : Table) → Fin (nBuf tb) → BufTy
  | .hbm, ⟨0, _⟩ => ⟨S16384x50, .i32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x32, .f32⟩
  | .hbm, ⟨7, _⟩ => ⟨S32, .f32⟩
  | .hbm, ⟨8, _⟩ => ⟨S32x2, .f32⟩
  | .hbm, ⟨9, _⟩ => ⟨S2, .f32⟩
  | .hbm, ⟨10, _⟩ => ⟨S16384x128, .f32⟩
  | .hbm, ⟨11, _⟩ => ⟨S1x128, .f32⟩
  | .hbm, ⟨12, _⟩ => ⟨S1x128, .f32⟩
  | .hbm, ⟨13, _⟩ => ⟨S1x32, .f32⟩
  | .hbm, ⟨14, _⟩ => ⟨S1x2, .f32⟩
  | .hbm, ⟨15, _⟩ => ⟨S16384x2, .f32⟩
  | .local .tc .vmem, ⟨0, _⟩ => ⟨S2048x128, .f32⟩
  | .local .tc .vmem, ⟨1, _⟩ => ⟨S2048x128, .f32⟩
  | .local .tc .vmem, ⟨2, _⟩ => ⟨S128x128, .f32⟩
  | .local .tc .vmem, ⟨3, _⟩ => ⟨S1x128, .f32⟩
  | .local .tc .vmem, ⟨4, _⟩ => ⟨S128x128, .f32⟩
  | .local .tc .vmem, ⟨5, _⟩ => ⟨S1x128, .f32⟩
  | .local .tc .vmem, ⟨6, _⟩ => ⟨S128x32, .f32⟩
  | .local .tc .vmem, ⟨7, _⟩ => ⟨S1x32, .f32⟩
  | .local .tc .vmem, ⟨8, _⟩ => ⟨S32x2, .f32⟩
  | .local .tc .vmem, ⟨9, _⟩ => ⟨S1x2, .f32⟩
  | .local .tc .vmem, ⟨10, _⟩ => ⟨S2048x2, .f32⟩
  | .local .tc .vmem, ⟨11, _⟩ => ⟨S2048x2, .f32⟩
  | .local .scVector .vmem, ⟨0, _⟩ => ⟨S2x8x50, .i32⟩
  | .local .scVector .vmem, ⟨1, _⟩ => ⟨S2x8x50x128, .f32⟩
  | .local .scVector .vmem, ⟨2, _⟩ => ⟨S2x8x128, .f32⟩
  | _, _ => ⟨S16384x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_arg0_scv : Ref sig .scVector := ⟨.hbm, 0, rfl⟩
abbrev main_arg1_scv : Ref sig .scVector := ⟨.hbm, 1, rfl⟩
abbrev main_v0_scv : Ref sig .scVector := ⟨.hbm, 10, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg8_0 : Ref sig .tc := ⟨.vmem, 9, rfl⟩
abbrev cc1_stg9_0 : Ref sig .tc := ⟨.vmem, 10, rfl⟩
abbrev cc1_stg9_1 : Ref sig .tc := ⟨.vmem, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let v3 : BitVec 32 := Scalar.addi v2 c0_i32
  let c0_i32_3 : BitVec 32 := 0#32
  ![v3.toNat, 0]
def k0_off1_at (r : Fin 3) : BitVec 32 :=
  if r.val < 1 then
    0#32
  else
    if r.val < 2 then
      8#32
    else
      504#32
@[reducible] def k0_t1_loop : Scf.Loop 32 :=
  let c0_i32_159 : BitVec 32 := 0#32
  let c31_i32 : BitVec 32 := 31#32
  let v104 : BitVec 32 := Scalar.addi c0_i32_159 c31_i32
  let c1_i32_160 : BitVec 32 := 1#32
  ⟨c0_i32_159, v104, c1_i32_160⟩
def k0_off2 (i : grid0.Coords) (k0_t1 : Fin k0_t1_loop.trips) (c1_i32_1012 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_1011 : BitVec 32 := 0#32
  let c0_i32_159 : BitVec 32 := 0#32
  let c1_i32_160 : BitVec 32 := 1#32
  let arg12 : BitVec 32 := Scf.iv c0_i32_159 c1_i32_160 k0_t1
  let c2_i32_1010 : BitVec 32 := 2#32
  let v1250 : BitVec 32 := Scalar.muli arg12 c2_i32_1010
  let v1251 : BitVec 32 := Scalar.addi c0_i32_1011 v1250
  let v1252 : BitVec 32 := Scalar.addi v1251 c1_i32_1012
  let c8_i32_1013 : BitVec 32 := 8#32
  let v1253 : BitVec 32 := Scalar.muli v1252 c8_i32_1013
  let v1254 : BitVec 32 := Scalar.addi v2 v1253
  let c0_i32_1017 : BitVec 32 := 0#32
  ![v1254.toNat, 0]
@[reducible] def k0_t2_loop : Scf.Loop 32 :=
  let c0_i32_1111 : BitVec 32 := 0#32
  let c10_i32_1112 : BitVec 32 := 10#32
  let v1320 : BitVec 32 := Scalar.addi c0_i32_1111 c10_i32_1112
  let c1_i32_1113 : BitVec 32 := 1#32
  ⟨c0_i32_1111, v1320, c1_i32_1113⟩
def k0_off3 (k0_t2 : Fin k0_t2_loop.trips) (c0_i32_2046 : BitVec 32) : Fin 4 → Nat :=
  let c0_i32_2047 : BitVec 32 := 0#32
  let v2511 : Index := Scalar.indexCast c0_i32_2047
  let c0_i32_2048 : BitVec 32 := 0#32
  let v2512 : Index := Scalar.indexCast c0_i32_2048
  let c0_i32_1111 : BitVec 32 := 0#32
  let c1_i32_1113 : BitVec 32 := 1#32
  let arg13 : BitVec 32 := Scf.iv c0_i32_1111 c1_i32_1113 k0_t2
  let c5_i32_2045 : BitVec 32 := 5#32
  let v2509 : BitVec 32 := Scalar.muli arg13 c5_i32_2045
  let v2510 : BitVec 32 := Scalar.addi v2509 c0_i32_2046
  let v2513 : Index := Scalar.indexCast v2510
  let c0_2049 : Index := 0#32
  ![0, 0, v2513.toNat, 0]
def k0_off4 (k0_t2 : Fin k0_t2_loop.trips) (c0_i32_2051 : BitVec 32) : Fin 4 → Nat :=
  let c0_i32_2052 : BitVec 32 := 0#32
  let v2519 : Index := Scalar.indexCast c0_i32_2052
  let c0_i32_2053 : BitVec 32 := 0#32
  let v2520 : Index := Scalar.indexCast c0_i32_2053
  let c0_i32_1111 : BitVec 32 := 0#32
  let c1_i32_1113 : BitVec 32 := 1#32
  let arg13 : BitVec 32 := Scf.iv c0_i32_1111 c1_i32_1113 k0_t2
  let c5_i32_2050 : BitVec 32 := 5#32
  let v2517 : BitVec 32 := Scalar.muli arg13 c5_i32_2050
  let v2518 : BitVec 32 := Scalar.addi v2517 c0_i32_2051
  let v2521 : Index := Scalar.indexCast v2518
  let c16_2054 : Index := 16#32
  ![0, 0, v2521.toNat, 16]
def k0_off5 (k0_t2 : Fin k0_t2_loop.trips) (c0_i32_2056 : BitVec 32) : Fin 4 → Nat :=
  let c0_i32_2057 : BitVec 32 := 0#32
  let v2527 : Index := Scalar.indexCast c0_i32_2057
  let c0_i32_2058 : BitVec 32 := 0#32
  let v2528 : Index := Scalar.indexCast c0_i32_2058
  let c0_i32_1111 : BitVec 32 := 0#32
  let c1_i32_1113 : BitVec 32 := 1#32
  let arg13 : BitVec 32 := Scf.iv c0_i32_1111 c1_i32_1113 k0_t2
  let c5_i32_2055 : BitVec 32 := 5#32
  let v2525 : BitVec 32 := Scalar.muli arg13 c5_i32_2055
  let v2526 : BitVec 32 := Scalar.addi v2525 c0_i32_2056
  let v2529 : Index := Scalar.indexCast v2526
  let c32_2059 : Index := 32#32
  ![0, 0, v2529.toNat, 32]
def k0_off6 (k0_t2 : Fin k0_t2_loop.trips) (c0_i32_2061 : BitVec 32) : Fin 4 → Nat :=
  let c0_i32_2062 : BitVec 32 := 0#32
  let v2535 : Index := Scalar.indexCast c0_i32_2062
  let c0_i32_2063 : BitVec 32 := 0#32
  let v2536 : Index := Scalar.indexCast c0_i32_2063
  let c0_i32_1111 : BitVec 32 := 0#32
  let c1_i32_1113 : BitVec 32 := 1#32
  let arg13 : BitVec 32 := Scf.iv c0_i32_1111 c1_i32_1113 k0_t2
  let c5_i32_2060 : BitVec 32 := 5#32
  let v2533 : BitVec 32 := Scalar.muli arg13 c5_i32_2060
  let v2534 : BitVec 32 := Scalar.addi v2533 c0_i32_2061
  let v2537 : Index := Scalar.indexCast v2534
  let c48_2064 : Index := 48#32
  ![0, 0, v2537.toNat, 48]
def k0_off7 (k0_t2 : Fin k0_t2_loop.trips) (c0_i32_2066 : BitVec 32) : Fin 4 → Nat :=
  let c0_i32_2067 : BitVec 32 := 0#32
  let v2543 : Index := Scalar.indexCast c0_i32_2067
  let c0_i32_2068 : BitVec 32 := 0#32
  let v2544 : Index := Scalar.indexCast c0_i32_2068
  let c0_i32_1111 : BitVec 32 := 0#32
  let c1_i32_1113 : BitVec 32 := 1#32
  let arg13 : BitVec 32 := Scf.iv c0_i32_1111 c1_i32_1113 k0_t2
  let c5_i32_2065 : BitVec 32 := 5#32
  let v2541 : BitVec 32 := Scalar.muli arg13 c5_i32_2065
  let v2542 : BitVec 32 := Scalar.addi v2541 c0_i32_2066
  let v2545 : Index := Scalar.indexCast v2542
  let c64_2069 : Index := 64#32
  ![0, 0, v2545.toNat, 64]
def k0_off8 (k0_t2 : Fin k0_t2_loop.trips) (c0_i32_2071 : BitVec 32) : Fin 4 → Nat :=
  let c0_i32_2072 : BitVec 32 := 0#32
  let v2551 : Index := Scalar.indexCast c0_i32_2072
  let c0_i32_2073 : BitVec 32 := 0#32
  let v2552 : Index := Scalar.indexCast c0_i32_2073
  let c0_i32_1111 : BitVec 32 := 0#32
  let c1_i32_1113 : BitVec 32 := 1#32
  let arg13 : BitVec 32 := Scf.iv c0_i32_1111 c1_i32_1113 k0_t2
  let c5_i32_2070 : BitVec 32 := 5#32
  let v2549 : BitVec 32 := Scalar.muli arg13 c5_i32_2070
  let v2550 : BitVec 32 := Scalar.addi v2549 c0_i32_2071
  let v2553 : Index := Scalar.indexCast v2550
  let c80_2074 : Index := 80#32
  ![0, 0, v2553.toNat, 80]
def k0_off9 (k0_t2 : Fin k0_t2_loop.trips) (c0_i32_2076 : BitVec 32) : Fin 4 → Nat :=
  let c0_i32_2077 : BitVec 32 := 0#32
  let v2559 : Index := Scalar.indexCast c0_i32_2077
  let c0_i32_2078 : BitVec 32 := 0#32
  let v2560 : Index := Scalar.indexCast c0_i32_2078
  let c0_i32_1111 : BitVec 32 := 0#32
  let c1_i32_1113 : BitVec 32 := 1#32
  let arg13 : BitVec 32 := Scf.iv c0_i32_1111 c1_i32_1113 k0_t2
  let c5_i32_2075 : BitVec 32 := 5#32
  let v2557 : BitVec 32 := Scalar.muli arg13 c5_i32_2075
  let v2558 : BitVec 32 := Scalar.addi v2557 c0_i32_2076
  let v2561 : Index := Scalar.indexCast v2558
  let c96_2079 : Index := 96#32
  ![0, 0, v2561.toNat, 96]
def k0_off10 (k0_t2 : Fin k0_t2_loop.trips) (c0_i32_2081 : BitVec 32) : Fin 4 → Nat :=
  let c0_i32_2082 : BitVec 32 := 0#32
  let v2567 : Index := Scalar.indexCast c0_i32_2082
  let c0_i32_2083 : BitVec 32 := 0#32
  let v2568 : Index := Scalar.indexCast c0_i32_2083
  let c0_i32_1111 : BitVec 32 := 0#32
  let c1_i32_1113 : BitVec 32 := 1#32
  let arg13 : BitVec 32 := Scf.iv c0_i32_1111 c1_i32_1113 k0_t2
  let c5_i32_2080 : BitVec 32 := 5#32
  let v2565 : BitVec 32 := Scalar.muli arg13 c5_i32_2080
  let v2566 : BitVec 32 := Scalar.addi v2565 c0_i32_2081
  let v2569 : Index := Scalar.indexCast v2566
  let c112_2084 : Index := 112#32
  ![0, 0, v2569.toNat, 112]
@[reducible] def k0_t3_loop : Scf.Loop 32 :=
  let c0_i32_1155 : BitVec 32 := 0#32
  let c10_i32_1156 : BitVec 32 := 10#32
  let v1386 : BitVec 32 := Scalar.addi c0_i32_1155 c10_i32_1156
  let c1_i32_1157 : BitVec 32 := 1#32
  ⟨c0_i32_1155, v1386, c1_i32_1157⟩
def k0_off11 (k0_t3 : Fin k0_t3_loop.trips) (c0_i32_2046 : BitVec 32) : Fin 4 → Nat :=
  let c0_i32_2047 : BitVec 32 := 0#32
  let v2511 : Index := Scalar.indexCast c0_i32_2047
  let c1_i32_2048 : BitVec 32 := 1#32
  let v2512 : Index := Scalar.indexCast c1_i32_2048
  let c0_i32_1155 : BitVec 32 := 0#32
  let c1_i32_1157 : BitVec 32 := 1#32
  let arg13 : BitVec 32 := Scf.iv c0_i32_1155 c1_i32_1157 k0_t3
  let c5_i32_2045 : BitVec 32 := 5#32
  let v2509 : BitVec 32 := Scalar.muli arg13 c5_i32_2045
  let v2510 : BitVec 32 := Scalar.addi v2509 c0_i32_2046
  let v2513 : Index := Scalar.indexCast v2510
  let c0_2049 : Index := 0#32
  ![0, 1, v2513.toNat, 0]
def k0_off12 (k0_t3 : Fin k0_t3_loop.trips) (c0_i32_2051 : BitVec 32) : Fin 4 → Nat :=
  let c0_i32_2052 : BitVec 32 := 0#32
  let v2519 : Index := Scalar.indexCast c0_i32_2052
  let c1_i32_2053 : BitVec 32 := 1#32
  let v2520 : Index := Scalar.indexCast c1_i32_2053
  let c0_i32_1155 : BitVec 32 := 0#32
  let c1_i32_1157 : BitVec 32 := 1#32
  let arg13 : BitVec 32 := Scf.iv c0_i32_1155 c1_i32_1157 k0_t3
  let c5_i32_2050 : BitVec 32 := 5#32
  let v2517 : BitVec 32 := Scalar.muli arg13 c5_i32_2050
  let v2518 : BitVec 32 := Scalar.addi v2517 c0_i32_2051
  let v2521 : Index := Scalar.indexCast v2518
  let c16_2054 : Index := 16#32
  ![0, 1, v2521.toNat, 16]
def k0_off13 (k0_t3 : Fin k0_t3_loop.trips) (c0_i32_2056 : BitVec 32) : Fin 4 → Nat :=
  let c0_i32_2057 : BitVec 32 := 0#32
  let v2527 : Index := Scalar.indexCast c0_i32_2057
  let c1_i32_2058 : BitVec 32 := 1#32
  let v2528 : Index := Scalar.indexCast c1_i32_2058
  let c0_i32_1155 : BitVec 32 := 0#32
  let c1_i32_1157 : BitVec 32 := 1#32
  let arg13 : BitVec 32 := Scf.iv c0_i32_1155 c1_i32_1157 k0_t3
  let c5_i32_2055 : BitVec 32 := 5#32
  let v2525 : BitVec 32 := Scalar.muli arg13 c5_i32_2055
  let v2526 : BitVec 32 := Scalar.addi v2525 c0_i32_2056
  let v2529 : Index := Scalar.indexCast v2526
  let c32_2059 : Index := 32#32
  ![0, 1, v2529.toNat, 32]
def k0_off14 (k0_t3 : Fin k0_t3_loop.trips) (c0_i32_2061 : BitVec 32) : Fin 4 → Nat :=
  let c0_i32_2062 : BitVec 32 := 0#32
  let v2535 : Index := Scalar.indexCast c0_i32_2062
  let c1_i32_2063 : BitVec 32 := 1#32
  let v2536 : Index := Scalar.indexCast c1_i32_2063
  let c0_i32_1155 : BitVec 32 := 0#32
  let c1_i32_1157 : BitVec 32 := 1#32
  let arg13 : BitVec 32 := Scf.iv c0_i32_1155 c1_i32_1157 k0_t3
  let c5_i32_2060 : BitVec 32 := 5#32
  let v2533 : BitVec 32 := Scalar.muli arg13 c5_i32_2060
  let v2534 : BitVec 32 := Scalar.addi v2533 c0_i32_2061
  let v2537 : Index := Scalar.indexCast v2534
  let c48_2064 : Index := 48#32
  ![0, 1, v2537.toNat, 48]
def k0_off15 (k0_t3 : Fin k0_t3_loop.trips) (c0_i32_2066 : BitVec 32) : Fin 4 → Nat :=
  let c0_i32_2067 : BitVec 32 := 0#32
  let v2543 : Index := Scalar.indexCast c0_i32_2067
  let c1_i32_2068 : BitVec 32 := 1#32
  let v2544 : Index := Scalar.indexCast c1_i32_2068
  let c0_i32_1155 : BitVec 32 := 0#32
  let c1_i32_1157 : BitVec 32 := 1#32
  let arg13 : BitVec 32 := Scf.iv c0_i32_1155 c1_i32_1157 k0_t3
  let c5_i32_2065 : BitVec 32 := 5#32
  let v2541 : BitVec 32 := Scalar.muli arg13 c5_i32_2065
  let v2542 : BitVec 32 := Scalar.addi v2541 c0_i32_2066
  let v2545 : Index := Scalar.indexCast v2542
  let c64_2069 : Index := 64#32
  ![0, 1, v2545.toNat, 64]
def k0_off16 (k0_t3 : Fin k0_t3_loop.trips) (c0_i32_2071 : BitVec 32) : Fin 4 → Nat :=
  let c0_i32_2072 : BitVec 32 := 0#32
  let v2551 : Index := Scalar.indexCast c0_i32_2072
  let c1_i32_2073 : BitVec 32 := 1#32
  let v2552 : Index := Scalar.indexCast c1_i32_2073
  let c0_i32_1155 : BitVec 32 := 0#32
  let c1_i32_1157 : BitVec 32 := 1#32
  let arg13 : BitVec 32 := Scf.iv c0_i32_1155 c1_i32_1157 k0_t3
  let c5_i32_2070 : BitVec 32 := 5#32
  let v2549 : BitVec 32 := Scalar.muli arg13 c5_i32_2070
  let v2550 : BitVec 32 := Scalar.addi v2549 c0_i32_2071
  let v2553 : Index := Scalar.indexCast v2550
  let c80_2074 : Index := 80#32
  ![0, 1, v2553.toNat, 80]
def k0_off17 (k0_t3 : Fin k0_t3_loop.trips) (c0_i32_2076 : BitVec 32) : Fin 4 → Nat :=
  let c0_i32_2077 : BitVec 32 := 0#32
  let v2559 : Index := Scalar.indexCast c0_i32_2077
  let c1_i32_2078 : BitVec 32 := 1#32
  let v2560 : Index := Scalar.indexCast c1_i32_2078
  let c0_i32_1155 : BitVec 32 := 0#32
  let c1_i32_1157 : BitVec 32 := 1#32
  let arg13 : BitVec 32 := Scf.iv c0_i32_1155 c1_i32_1157 k0_t3
  let c5_i32_2075 : BitVec 32 := 5#32
  let v2557 : BitVec 32 := Scalar.muli arg13 c5_i32_2075
  let v2558 : BitVec 32 := Scalar.addi v2557 c0_i32_2076
  let v2561 : Index := Scalar.indexCast v2558
  let c96_2079 : Index := 96#32
  ![0, 1, v2561.toNat, 96]
def k0_off18 (k0_t3 : Fin k0_t3_loop.trips) (c0_i32_2081 : BitVec 32) : Fin 4 → Nat :=
  let c0_i32_2082 : BitVec 32 := 0#32
  let v2567 : Index := Scalar.indexCast c0_i32_2082
  let c1_i32_2083 : BitVec 32 := 1#32
  let v2568 : Index := Scalar.indexCast c1_i32_2083
  let c0_i32_1155 : BitVec 32 := 0#32
  let c1_i32_1157 : BitVec 32 := 1#32
  let arg13 : BitVec 32 := Scf.iv c0_i32_1155 c1_i32_1157 k0_t3
  let c5_i32_2080 : BitVec 32 := 5#32
  let v2565 : BitVec 32 := Scalar.muli arg13 c5_i32_2080
  let v2566 : BitVec 32 := Scalar.addi v2565 c0_i32_2081
  let v2569 : Index := Scalar.indexCast v2566
  let c112_2084 : Index := 112#32
  ![0, 1, v2569.toNat, 112]
@[reducible] def k0_t4_loop : Scf.Loop 32 :=
  let c0_i32_1199 : BitVec 32 := 0#32
  let c10_i32_1200 : BitVec 32 := 10#32
  let v1452 : BitVec 32 := Scalar.addi c0_i32_1199 c10_i32_1200
  let c1_i32_1201 : BitVec 32 := 1#32
  ⟨c0_i32_1199, v1452, c1_i32_1201⟩
def k0_off19 (k0_t4 : Fin k0_t4_loop.trips) (c0_i32_2046 : BitVec 32) : Fin 4 → Nat :=
  let c0_i32_2047 : BitVec 32 := 0#32
  let v2511 : Index := Scalar.indexCast c0_i32_2047
  let c2_i32_2048 : BitVec 32 := 2#32
  let v2512 : Index := Scalar.indexCast c2_i32_2048
  let c0_i32_1199 : BitVec 32 := 0#32
  let c1_i32_1201 : BitVec 32 := 1#32
  let arg13 : BitVec 32 := Scf.iv c0_i32_1199 c1_i32_1201 k0_t4
  let c5_i32_2045 : BitVec 32 := 5#32
  let v2509 : BitVec 32 := Scalar.muli arg13 c5_i32_2045
  let v2510 : BitVec 32 := Scalar.addi v2509 c0_i32_2046
  let v2513 : Index := Scalar.indexCast v2510
  let c0_2049 : Index := 0#32
  ![0, 2, v2513.toNat, 0]
def k0_off20 (k0_t4 : Fin k0_t4_loop.trips) (c0_i32_2051 : BitVec 32) : Fin 4 → Nat :=
  let c0_i32_2052 : BitVec 32 := 0#32
  let v2519 : Index := Scalar.indexCast c0_i32_2052
  let c2_i32_2053 : BitVec 32 := 2#32
  let v2520 : Index := Scalar.indexCast c2_i32_2053
  let c0_i32_1199 : BitVec 32 := 0#32
  let c1_i32_1201 : BitVec 32 := 1#32
  let arg13 : BitVec 32 := Scf.iv c0_i32_1199 c1_i32_1201 k0_t4
  let c5_i32_2050 : BitVec 32 := 5#32
  let v2517 : BitVec 32 := Scalar.muli arg13 c5_i32_2050
  let v2518 : BitVec 32 := Scalar.addi v2517 c0_i32_2051
  let v2521 : Index := Scalar.indexCast v2518
  let c16_2054 : Index := 16#32
  ![0, 2, v2521.toNat, 16]
def k0_off21 (k0_t4 : Fin k0_t4_loop.trips) (c0_i32_2056 : BitVec 32) : Fin 4 → Nat :=
  let c0_i32_2057 : BitVec 32 := 0#32
  let v2527 : Index := Scalar.indexCast c0_i32_2057
  let c2_i32_2058 : BitVec 32 := 2#32
  let v2528 : Index := Scalar.indexCast c2_i32_2058
  let c0_i32_1199 : BitVec 32 := 0#32
  let c1_i32_1201 : BitVec 32 := 1#32
  let arg13 : BitVec 32 := Scf.iv c0_i32_1199 c1_i32_1201 k0_t4
  let c5_i32_2055 : BitVec 32 := 5#32
  let v2525 : BitVec 32 := Scalar.muli arg13 c5_i32_2055
  let v2526 : BitVec 32 := Scalar.addi v2525 c0_i32_2056
  let v2529 : Index := Scalar.indexCast v2526
  let c32_2059 : Index := 32#32
  ![0, 2, v2529.toNat, 32]
def k0_off22 (k0_t4 : Fin k0_t4_loop.trips) (c0_i32_2061 : BitVec 32) : Fin 4 → Nat :=
  let c0_i32_2062 : BitVec 32 := 0#32
  let v2535 : Index := Scalar.indexCast c0_i32_2062
  let c2_i32_2063 : BitVec 32 := 2#32
  let v2536 : Index := Scalar.indexCast c2_i32_2063
  let c0_i32_1199 : BitVec 32 := 0#32
  let c1_i32_1201 : BitVec 32 := 1#32
  let arg13 : BitVec 32 := Scf.iv c0_i32_1199 c1_i32_1201 k0_t4
  let c5_i32_2060 : BitVec 32 := 5#32
  let v2533 : BitVec 32 := Scalar.muli arg13 c5_i32_2060
  let v2534 : BitVec 32 := Scalar.addi v2533 c0_i32_2061
  let v2537 : Index := Scalar.indexCast v2534
  let c48_2064 : Index := 48#32
  ![0, 2, v2537.toNat, 48]
def k0_off23 (k0_t4 : Fin k0_t4_loop.trips) (c0_i32_2066 : BitVec 32) : Fin 4 → Nat :=
  let c0_i32_2067 : BitVec 32 := 0#32
  let v2543 : Index := Scalar.indexCast c0_i32_2067
  let c2_i32_2068 : BitVec 32 := 2#32
  let v2544 : Index := Scalar.indexCast c2_i32_2068
  let c0_i32_1199 : BitVec 32 := 0#32
  let c1_i32_1201 : BitVec 32 := 1#32
  let arg13 : BitVec 32 := Scf.iv c0_i32_1199 c1_i32_1201 k0_t4
  let c5_i32_2065 : BitVec 32 := 5#32
  let v2541 : BitVec 32 := Scalar.muli arg13 c5_i32_2065
  let v2542 : BitVec 32 := Scalar.addi v2541 c0_i32_2066
  let v2545 : Index := Scalar.indexCast v2542
  let c64_2069 : Index := 64#32
  ![0, 2, v2545.toNat, 64]
def k0_off24 (k0_t4 : Fin k0_t4_loop.trips) (c0_i32_2071 : BitVec 32) : Fin 4 → Nat :=
  let c0_i32_2072 : BitVec 32 := 0#32
  let v2551 : Index := Scalar.indexCast c0_i32_2072
  let c2_i32_2073 : BitVec 32 := 2#32
  let v2552 : Index := Scalar.indexCast c2_i32_2073
  let c0_i32_1199 : BitVec 32 := 0#32
  let c1_i32_1201 : BitVec 32 := 1#32
  let arg13 : BitVec 32 := Scf.iv c0_i32_1199 c1_i32_1201 k0_t4
  let c5_i32_2070 : BitVec 32 := 5#32
  let v2549 : BitVec 32 := Scalar.muli arg13 c5_i32_2070
  let v2550 : BitVec 32 := Scalar.addi v2549 c0_i32_2071
  let v2553 : Index := Scalar.indexCast v2550
  let c80_2074 : Index := 80#32
  ![0, 2, v2553.toNat, 80]
def k0_off25 (k0_t4 : Fin k0_t4_loop.trips) (c0_i32_2076 : BitVec 32) : Fin 4 → Nat :=
  let c0_i32_2077 : BitVec 32 := 0#32
  let v2559 : Index := Scalar.indexCast c0_i32_2077
  let c2_i32_2078 : BitVec 32 := 2#32
  let v2560 : Index := Scalar.indexCast c2_i32_2078
  let c0_i32_1199 : BitVec 32 := 0#32
  let c1_i32_1201 : BitVec 32 := 1#32
  let arg13 : BitVec 32 := Scf.iv c0_i32_1199 c1_i32_1201 k0_t4
  let c5_i32_2075 : BitVec 32 := 5#32
  let v2557 : BitVec 32 := Scalar.muli arg13 c5_i32_2075
  let v2558 : BitVec 32 := Scalar.addi v2557 c0_i32_2076
  let v2561 : Index := Scalar.indexCast v2558
  let c96_2079 : Index := 96#32
  ![0, 2, v2561.toNat, 96]
def k0_off26 (k0_t4 : Fin k0_t4_loop.trips) (c0_i32_2081 : BitVec 32) : Fin 4 → Nat :=
  let c0_i32_2082 : BitVec 32 := 0#32
  let v2567 : Index := Scalar.indexCast c0_i32_2082
  let c2_i32_2083 : BitVec 32 := 2#32
  let v2568 : Index := Scalar.indexCast c2_i32_2083
  let c0_i32_1199 : BitVec 32 := 0#32
  let c1_i32_1201 : BitVec 32 := 1#32
  let arg13 : BitVec 32 := Scf.iv c0_i32_1199 c1_i32_1201 k0_t4
  let c5_i32_2080 : BitVec 32 := 5#32
  let v2565 : BitVec 32 := Scalar.muli arg13 c5_i32_2080
  let v2566 : BitVec 32 := Scalar.addi v2565 c0_i32_2081
  let v2569 : Index := Scalar.indexCast v2566
  let c112_2084 : Index := 112#32
  ![0, 2, v2569.toNat, 112]
@[reducible] def k0_t5_loop : Scf.Loop 32 :=
  let c0_i32_1243 : BitVec 32 := 0#32
  let c10_i32_1244 : BitVec 32 := 10#32
  let v1518 : BitVec 32 := Scalar.addi c0_i32_1243 c10_i32_1244
  let c1_i32_1245 : BitVec 32 := 1#32
  ⟨c0_i32_1243, v1518, c1_i32_1245⟩
def k0_off27 (k0_t5 : Fin k0_t5_loop.trips) (c0_i32_2046 : BitVec 32) : Fin 4 → Nat :=
  let c0_i32_2047 : BitVec 32 := 0#32
  let v2511 : Index := Scalar.indexCast c0_i32_2047
  let c3_i32_2048 : BitVec 32 := 3#32
  let v2512 : Index := Scalar.indexCast c3_i32_2048
  let c0_i32_1243 : BitVec 32 := 0#32
  let c1_i32_1245 : BitVec 32 := 1#32
  let arg13 : BitVec 32 := Scf.iv c0_i32_1243 c1_i32_1245 k0_t5
  let c5_i32_2045 : BitVec 32 := 5#32
  let v2509 : BitVec 32 := Scalar.muli arg13 c5_i32_2045
  let v2510 : BitVec 32 := Scalar.addi v2509 c0_i32_2046
  let v2513 : Index := Scalar.indexCast v2510
  let c0_2049 : Index := 0#32
  ![0, 3, v2513.toNat, 0]
def k0_off28 (k0_t5 : Fin k0_t5_loop.trips) (c0_i32_2051 : BitVec 32) : Fin 4 → Nat :=
  let c0_i32_2052 : BitVec 32 := 0#32
  let v2519 : Index := Scalar.indexCast c0_i32_2052
  let c3_i32_2053 : BitVec 32 := 3#32
  let v2520 : Index := Scalar.indexCast c3_i32_2053
  let c0_i32_1243 : BitVec 32 := 0#32
  let c1_i32_1245 : BitVec 32 := 1#32
  let arg13 : BitVec 32 := Scf.iv c0_i32_1243 c1_i32_1245 k0_t5
  let c5_i32_2050 : BitVec 32 := 5#32
  let v2517 : BitVec 32 := Scalar.muli arg13 c5_i32_2050
  let v2518 : BitVec 32 := Scalar.addi v2517 c0_i32_2051
  let v2521 : Index := Scalar.indexCast v2518
  let c16_2054 : Index := 16#32
  ![0, 3, v2521.toNat, 16]
def k0_off29 (k0_t5 : Fin k0_t5_loop.trips) (c0_i32_2056 : BitVec 32) : Fin 4 → Nat :=
  let c0_i32_2057 : BitVec 32 := 0#32
  let v2527 : Index := Scalar.indexCast c0_i32_2057
  let c3_i32_2058 : BitVec 32 := 3#32
  let v2528 : Index := Scalar.indexCast c3_i32_2058
  let c0_i32_1243 : BitVec 32 := 0#32
  let c1_i32_1245 : BitVec 32 := 1#32
  let arg13 : BitVec 32 := Scf.iv c0_i32_1243 c1_i32_1245 k0_t5
  let c5_i32_2055 : BitVec 32 := 5#32
  let v2525 : BitVec 32 := Scalar.muli arg13 c5_i32_2055
  let v2526 : BitVec 32 := Scalar.addi v2525 c0_i32_2056
  let v2529 : Index := Scalar.indexCast v2526
  let c32_2059 : Index := 32#32
  ![0, 3, v2529.toNat, 32]
def k0_off30 (k0_t5 : Fin k0_t5_loop.trips) (c0_i32_2061 : BitVec 32) : Fin 4 → Nat :=
  let c0_i32_2062 : BitVec 32 := 0#32
  let v2535 : Index := Scalar.indexCast c0_i32_2062
  let c3_i32_2063 : BitVec 32 := 3#32
  let v2536 : Index := Scalar.indexCast c3_i32_2063
  let c0_i32_1243 : BitVec 32 := 0#32
  let c1_i32_1245 : BitVec 32 := 1#32
  let arg13 : BitVec 32 := Scf.iv c0_i32_1243 c1_i32_1245 k0_t5
  let c5_i32_2060 : BitVec 32 := 5#32
  let v2533 : BitVec 32 := Scalar.muli arg13 c5_i32_2060
  let v2534 : BitVec 32 := Scalar.addi v2533 c0_i32_2061
  let v2537 : Index := Scalar.indexCast v2534
  let c48_2064 : Index := 48#32
  ![0, 3, v2537.toNat, 48]
def k0_off31 (k0_t5 : Fin k0_t5_loop.trips) (c0_i32_2066 : BitVec 32) : Fin 4 → Nat :=
  let c0_i32_2067 : BitVec 32 := 0#32
  let v2543 : Index := Scalar.indexCast c0_i32_2067
  let c3_i32_2068 : BitVec 32 := 3#32
  let v2544 : Index := Scalar.indexCast c3_i32_2068
  let c0_i32_1243 : BitVec 32 := 0#32
  let c1_i32_1245 : BitVec 32 := 1#32
  let arg13 : BitVec 32 := Scf.iv c0_i32_1243 c1_i32_1245 k0_t5
  let c5_i32_2065 : BitVec 32 := 5#32
  let v2541 : BitVec 32 := Scalar.muli arg13 c5_i32_2065
  let v2542 : BitVec 32 := Scalar.addi v2541 c0_i32_2066
  let v2545 : Index := Scalar.indexCast v2542
  let c64_2069 : Index := 64#32
  ![0, 3, v2545.toNat, 64]
def k0_off32 (k0_t5 : Fin k0_t5_loop.trips) (c0_i32_2071 : BitVec 32) : Fin 4 → Nat :=
  let c0_i32_2072 : BitVec 32 := 0#32
  let v2551 : Index := Scalar.indexCast c0_i32_2072
  let c3_i32_2073 : BitVec 32 := 3#32
  let v2552 : Index := Scalar.indexCast c3_i32_2073
  let c0_i32_1243 : BitVec 32 := 0#32
  let c1_i32_1245 : BitVec 32 := 1#32
  let arg13 : BitVec 32 := Scf.iv c0_i32_1243 c1_i32_1245 k0_t5
  let c5_i32_2070 : BitVec 32 := 5#32
  let v2549 : BitVec 32 := Scalar.muli arg13 c5_i32_2070
  let v2550 : BitVec 32 := Scalar.addi v2549 c0_i32_2071
  let v2553 : Index := Scalar.indexCast v2550
  let c80_2074 : Index := 80#32
  ![0, 3, v2553.toNat, 80]
def k0_off33 (k0_t5 : Fin k0_t5_loop.trips) (c0_i32_2076 : BitVec 32) : Fin 4 → Nat :=
  let c0_i32_2077 : BitVec 32 := 0#32
  let v2559 : Index := Scalar.indexCast c0_i32_2077
  let c3_i32_2078 : BitVec 32 := 3#32
  let v2560 : Index := Scalar.indexCast c3_i32_2078
  let c0_i32_1243 : BitVec 32 := 0#32
  let c1_i32_1245 : BitVec 32 := 1#32
  let arg13 : BitVec 32 := Scf.iv c0_i32_1243 c1_i32_1245 k0_t5
  let c5_i32_2075 : BitVec 32 := 5#32
  let v2557 : BitVec 32 := Scalar.muli arg13 c5_i32_2075
  let v2558 : BitVec 32 := Scalar.addi v2557 c0_i32_2076
  let v2561 : Index := Scalar.indexCast v2558
  let c96_2079 : Index := 96#32
  ![0, 3, v2561.toNat, 96]
def k0_off34 (k0_t5 : Fin k0_t5_loop.trips) (c0_i32_2081 : BitVec 32) : Fin 4 → Nat :=
  let c0_i32_2082 : BitVec 32 := 0#32
  let v2567 : Index := Scalar.indexCast c0_i32_2082
  let c3_i32_2083 : BitVec 32 := 3#32
  let v2568 : Index := Scalar.indexCast c3_i32_2083
  let c0_i32_1243 : BitVec 32 := 0#32
  let c1_i32_1245 : BitVec 32 := 1#32
  let arg13 : BitVec 32 := Scf.iv c0_i32_1243 c1_i32_1245 k0_t5
  let c5_i32_2080 : BitVec 32 := 5#32
  let v2565 : BitVec 32 := Scalar.muli arg13 c5_i32_2080
  let v2566 : BitVec 32 := Scalar.addi v2565 c0_i32_2081
  let v2569 : Index := Scalar.indexCast v2566
  let c112_2084 : Index := 112#32
  ![0, 3, v2569.toNat, 112]
@[reducible] def k0_t6_loop : Scf.Loop 32 :=
  let c0_i32_1287 : BitVec 32 := 0#32
  let c10_i32_1288 : BitVec 32 := 10#32
  let v1584 : BitVec 32 := Scalar.addi c0_i32_1287 c10_i32_1288
  let c1_i32_1289 : BitVec 32 := 1#32
  ⟨c0_i32_1287, v1584, c1_i32_1289⟩
def k0_off35 (k0_t6 : Fin k0_t6_loop.trips) (c0_i32_2046 : BitVec 32) : Fin 4 → Nat :=
  let c0_i32_2047 : BitVec 32 := 0#32
  let v2511 : Index := Scalar.indexCast c0_i32_2047
  let c4_i32_2048 : BitVec 32 := 4#32
  let v2512 : Index := Scalar.indexCast c4_i32_2048
  let c0_i32_1287 : BitVec 32 := 0#32
  let c1_i32_1289 : BitVec 32 := 1#32
  let arg13 : BitVec 32 := Scf.iv c0_i32_1287 c1_i32_1289 k0_t6
  let c5_i32_2045 : BitVec 32 := 5#32
  let v2509 : BitVec 32 := Scalar.muli arg13 c5_i32_2045
  let v2510 : BitVec 32 := Scalar.addi v2509 c0_i32_2046
  let v2513 : Index := Scalar.indexCast v2510
  let c0_2049 : Index := 0#32
  ![0, 4, v2513.toNat, 0]
def k0_off36 (k0_t6 : Fin k0_t6_loop.trips) (c0_i32_2051 : BitVec 32) : Fin 4 → Nat :=
  let c0_i32_2052 : BitVec 32 := 0#32
  let v2519 : Index := Scalar.indexCast c0_i32_2052
  let c4_i32_2053 : BitVec 32 := 4#32
  let v2520 : Index := Scalar.indexCast c4_i32_2053
  let c0_i32_1287 : BitVec 32 := 0#32
  let c1_i32_1289 : BitVec 32 := 1#32
  let arg13 : BitVec 32 := Scf.iv c0_i32_1287 c1_i32_1289 k0_t6
  let c5_i32_2050 : BitVec 32 := 5#32
  let v2517 : BitVec 32 := Scalar.muli arg13 c5_i32_2050
  let v2518 : BitVec 32 := Scalar.addi v2517 c0_i32_2051
  let v2521 : Index := Scalar.indexCast v2518
  let c16_2054 : Index := 16#32
  ![0, 4, v2521.toNat, 16]
def k0_off37 (k0_t6 : Fin k0_t6_loop.trips) (c0_i32_2056 : BitVec 32) : Fin 4 → Nat :=
  let c0_i32_2057 : BitVec 32 := 0#32
  let v2527 : Index := Scalar.indexCast c0_i32_2057
  let c4_i32_2058 : BitVec 32 := 4#32
  let v2528 : Index := Scalar.indexCast c4_i32_2058
  let c0_i32_1287 : BitVec 32 := 0#32
  let c1_i32_1289 : BitVec 32 := 1#32
  let arg13 : BitVec 32 := Scf.iv c0_i32_1287 c1_i32_1289 k0_t6
  let c5_i32_2055 : BitVec 32 := 5#32
  let v2525 : BitVec 32 := Scalar.muli arg13 c5_i32_2055
  let v2526 : BitVec 32 := Scalar.addi v2525 c0_i32_2056
  let v2529 : Index := Scalar.indexCast v2526
  let c32_2059 : Index := 32#32
  ![0, 4, v2529.toNat, 32]
def k0_off38 (k0_t6 : Fin k0_t6_loop.trips) (c0_i32_2061 : BitVec 32) : Fin 4 → Nat :=
  let c0_i32_2062 : BitVec 32 := 0#32
  let v2535 : Index := Scalar.indexCast c0_i32_2062
  let c4_i32_2063 : BitVec 32 := 4#32
  let v2536 : Index := Scalar.indexCast c4_i32_2063
  let c0_i32_1287 : BitVec 32 := 0#32
  let c1_i32_1289 : BitVec 32 := 1#32
  let arg13 : BitVec 32 := Scf.iv c0_i32_1287 c1_i32_1289 k0_t6
  let c5_i32_2060 : BitVec 32 := 5#32
  let v2533 : BitVec 32 := Scalar.muli arg13 c5_i32_2060
  let v2534 : BitVec 32 := Scalar.addi v2533 c0_i32_2061
  let v2537 : Index := Scalar.indexCast v2534
  let c48_2064 : Index := 48#32
  ![0, 4, v2537.toNat, 48]
def k0_off39 (k0_t6 : Fin k0_t6_loop.trips) (c0_i32_2066 : BitVec 32) : Fin 4 → Nat :=
  let c0_i32_2067 : BitVec 32 := 0#32
  let v2543 : Index := Scalar.indexCast c0_i32_2067
  let c4_i32_2068 : BitVec 32 := 4#32
  let v2544 : Index := Scalar.indexCast c4_i32_2068
  let c0_i32_1287 : BitVec 32 := 0#32
  let c1_i32_1289 : BitVec 32 := 1#32
  let arg13 : BitVec 32 := Scf.iv c0_i32_1287 c1_i32_1289 k0_t6
  let c5_i32_2065 : BitVec 32 := 5#32
  let v2541 : BitVec 32 := Scalar.muli arg13 c5_i32_2065
  let v2542 : BitVec 32 := Scalar.addi v2541 c0_i32_2066
  let v2545 : Index := Scalar.indexCast v2542
  let c64_2069 : Index := 64#32
  ![0, 4, v2545.toNat, 64]
def k0_off40 (k0_t6 : Fin k0_t6_loop.trips) (c0_i32_2071 : BitVec 32) : Fin 4 → Nat :=
  let c0_i32_2072 : BitVec 32 := 0#32
  let v2551 : Index := Scalar.indexCast c0_i32_2072
  let c4_i32_2073 : BitVec 32 := 4#32
  let v2552 : Index := Scalar.indexCast c4_i32_2073
  let c0_i32_1287 : BitVec 32 := 0#32
  let c1_i32_1289 : BitVec 32 := 1#32
  let arg13 : BitVec 32 := Scf.iv c0_i32_1287 c1_i32_1289 k0_t6
  let c5_i32_2070 : BitVec 32 := 5#32
  let v2549 : BitVec 32 := Scalar.muli arg13 c5_i32_2070
  let v2550 : BitVec 32 := Scalar.addi v2549 c0_i32_2071
  let v2553 : Index := Scalar.indexCast v2550
  let c80_2074 : Index := 80#32
  ![0, 4, v2553.toNat, 80]
def k0_off41 (k0_t6 : Fin k0_t6_loop.trips) (c0_i32_2076 : BitVec 32) : Fin 4 → Nat :=
  let c0_i32_2077 : BitVec 32 := 0#32
  let v2559 : Index := Scalar.indexCast c0_i32_2077
  let c4_i32_2078 : BitVec 32 := 4#32
  let v2560 : Index := Scalar.indexCast c4_i32_2078
  let c0_i32_1287 : BitVec 32 := 0#32
  let c1_i32_1289 : BitVec 32 := 1#32
  let arg13 : BitVec 32 := Scf.iv c0_i32_1287 c1_i32_1289 k0_t6
  let c5_i32_2075 : BitVec 32 := 5#32
  let v2557 : BitVec 32 := Scalar.muli arg13 c5_i32_2075
  let v2558 : BitVec 32 := Scalar.addi v2557 c0_i32_2076
  let v2561 : Index := Scalar.indexCast v2558
  let c96_2079 : Index := 96#32
  ![0, 4, v2561.toNat, 96]
def k0_off42 (k0_t6 : Fin k0_t6_loop.trips) (c0_i32_2081 : BitVec 32) : Fin 4 → Nat :=
  let c0_i32_2082 : BitVec 32 := 0#32
  let v2567 : Index := Scalar.indexCast c0_i32_2082
  let c4_i32_2083 : BitVec 32 := 4#32
  let v2568 : Index := Scalar.indexCast c4_i32_2083
  let c0_i32_1287 : BitVec 32 := 0#32
  let c1_i32_1289 : BitVec 32 := 1#32
  let arg13 : BitVec 32 := Scf.iv c0_i32_1287 c1_i32_1289 k0_t6
  let c5_i32_2080 : BitVec 32 := 5#32
  let v2565 : BitVec 32 := Scalar.muli arg13 c5_i32_2080
  let v2566 : BitVec 32 := Scalar.addi v2565 c0_i32_2081
  let v2569 : Index := Scalar.indexCast v2566
  let c112_2084 : Index := 112#32
  ![0, 4, v2569.toNat, 112]
@[reducible] def k0_t7_loop : Scf.Loop 32 :=
  let c0_i32_1331 : BitVec 32 := 0#32
  let c10_i32_1332 : BitVec 32 := 10#32
  let v1650 : BitVec 32 := Scalar.addi c0_i32_1331 c10_i32_1332
  let c1_i32_1333 : BitVec 32 := 1#32
  ⟨c0_i32_1331, v1650, c1_i32_1333⟩
def k0_off43 (k0_t7 : Fin k0_t7_loop.trips) (c0_i32_2046 : BitVec 32) : Fin 4 → Nat :=
  let c0_i32_2047 : BitVec 32 := 0#32
  let v2511 : Index := Scalar.indexCast c0_i32_2047
  let c5_i32_2048 : BitVec 32 := 5#32
  let v2512 : Index := Scalar.indexCast c5_i32_2048
  let c0_i32_1331 : BitVec 32 := 0#32
  let c1_i32_1333 : BitVec 32 := 1#32
  let arg13 : BitVec 32 := Scf.iv c0_i32_1331 c1_i32_1333 k0_t7
  let c5_i32_2045 : BitVec 32 := 5#32
  let v2509 : BitVec 32 := Scalar.muli arg13 c5_i32_2045
  let v2510 : BitVec 32 := Scalar.addi v2509 c0_i32_2046
  let v2513 : Index := Scalar.indexCast v2510
  let c0_2049 : Index := 0#32
  ![0, 5, v2513.toNat, 0]
def k0_off44 (k0_t7 : Fin k0_t7_loop.trips) (c0_i32_2051 : BitVec 32) : Fin 4 → Nat :=
  let c0_i32_2052 : BitVec 32 := 0#32
  let v2519 : Index := Scalar.indexCast c0_i32_2052
  let c5_i32_2053 : BitVec 32 := 5#32
  let v2520 : Index := Scalar.indexCast c5_i32_2053
  let c0_i32_1331 : BitVec 32 := 0#32
  let c1_i32_1333 : BitVec 32 := 1#32
  let arg13 : BitVec 32 := Scf.iv c0_i32_1331 c1_i32_1333 k0_t7
  let c5_i32_2050 : BitVec 32 := 5#32
  let v2517 : BitVec 32 := Scalar.muli arg13 c5_i32_2050
  let v2518 : BitVec 32 := Scalar.addi v2517 c0_i32_2051
  let v2521 : Index := Scalar.indexCast v2518
  let c16_2054 : Index := 16#32
  ![0, 5, v2521.toNat, 16]
def k0_off45 (k0_t7 : Fin k0_t7_loop.trips) (c0_i32_2056 : BitVec 32) : Fin 4 → Nat :=
  let c0_i32_2057 : BitVec 32 := 0#32
  let v2527 : Index := Scalar.indexCast c0_i32_2057
  let c5_i32_2058 : BitVec 32 := 5#32
  let v2528 : Index := Scalar.indexCast c5_i32_2058
  let c0_i32_1331 : BitVec 32 := 0#32
  let c1_i32_1333 : BitVec 32 := 1#32
  let arg13 : BitVec 32 := Scf.iv c0_i32_1331 c1_i32_1333 k0_t7
  let c5_i32_2055 : BitVec 32 := 5#32
  let v2525 : BitVec 32 := Scalar.muli arg13 c5_i32_2055
  let v2526 : BitVec 32 := Scalar.addi v2525 c0_i32_2056
  let v2529 : Index := Scalar.indexCast v2526
  let c32_2059 : Index := 32#32
  ![0, 5, v2529.toNat, 32]
def k0_off46 (k0_t7 : Fin k0_t7_loop.trips) (c0_i32_2061 : BitVec 32) : Fin 4 → Nat :=
  let c0_i32_2062 : BitVec 32 := 0#32
  let v2535 : Index := Scalar.indexCast c0_i32_2062
  let c5_i32_2063 : BitVec 32 := 5#32
  let v2536 : Index := Scalar.indexCast c5_i32_2063
  let c0_i32_1331 : BitVec 32 := 0#32
  let c1_i32_1333 : BitVec 32 := 1#32
  let arg13 : BitVec 32 := Scf.iv c0_i32_1331 c1_i32_1333 k0_t7
  let c5_i32_2060 : BitVec 32 := 5#32
  let v2533 : BitVec 32 := Scalar.muli arg13 c5_i32_2060
  let v2534 : BitVec 32 := Scalar.addi v2533 c0_i32_2061
  let v2537 : Index := Scalar.indexCast v2534
  let c48_2064 : Index := 48#32
  ![0, 5, v2537.toNat, 48]
def k0_off47 (k0_t7 : Fin k0_t7_loop.trips) (c0_i32_2066 : BitVec 32) : Fin 4 → Nat :=
  let c0_i32_2067 : BitVec 32 := 0#32
  let v2543 : Index := Scalar.indexCast c0_i32_2067
  let c5_i32_2068 : BitVec 32 := 5#32
  let v2544 : Index := Scalar.indexCast c5_i32_2068
  let c0_i32_1331 : BitVec 32 := 0#32
  let c1_i32_1333 : BitVec 32 := 1#32
  let arg13 : BitVec 32 := Scf.iv c0_i32_1331 c1_i32_1333 k0_t7
  let c5_i32_2065 : BitVec 32 := 5#32
  let v2541 : BitVec 32 := Scalar.muli arg13 c5_i32_2065
  let v2542 : BitVec 32 := Scalar.addi v2541 c0_i32_2066
  let v2545 : Index := Scalar.indexCast v2542
  let c64_2069 : Index := 64#32
  ![0, 5, v2545.toNat, 64]
def k0_off48 (k0_t7 : Fin k0_t7_loop.trips) (c0_i32_2071 : BitVec 32) : Fin 4 → Nat :=
  let c0_i32_2072 : BitVec 32 := 0#32
  let v2551 : Index := Scalar.indexCast c0_i32_2072
  let c5_i32_2073 : BitVec 32 := 5#32
  let v2552 : Index := Scalar.indexCast c5_i32_2073
  let c0_i32_1331 : BitVec 32 := 0#32
  let c1_i32_1333 : BitVec 32 := 1#32
  let arg13 : BitVec 32 := Scf.iv c0_i32_1331 c1_i32_1333 k0_t7
  let c5_i32_2070 : BitVec 32 := 5#32
  let v2549 : BitVec 32 := Scalar.muli arg13 c5_i32_2070
  let v2550 : BitVec 32 := Scalar.addi v2549 c0_i32_2071
  let v2553 : Index := Scalar.indexCast v2550
  let c80_2074 : Index := 80#32
  ![0, 5, v2553.toNat, 80]
def k0_off49 (k0_t7 : Fin k0_t7_loop.trips) (c0_i32_2076 : BitVec 32) : Fin 4 → Nat :=
  let c0_i32_2077 : BitVec 32 := 0#32
  let v2559 : Index := Scalar.indexCast c0_i32_2077
  let c5_i32_2078 : BitVec 32 := 5#32
  let v2560 : Index := Scalar.indexCast c5_i32_2078
  let c0_i32_1331 : BitVec 32 := 0#32
  let c1_i32_1333 : BitVec 32 := 1#32
  let arg13 : BitVec 32 := Scf.iv c0_i32_1331 c1_i32_1333 k0_t7
  let c5_i32_2075 : BitVec 32 := 5#32
  let v2557 : BitVec 32 := Scalar.muli arg13 c5_i32_2075
  let v2558 : BitVec 32 := Scalar.addi v2557 c0_i32_2076
  let v2561 : Index := Scalar.indexCast v2558
  let c96_2079 : Index := 96#32
  ![0, 5, v2561.toNat, 96]
def k0_off50 (k0_t7 : Fin k0_t7_loop.trips) (c0_i32_2081 : BitVec 32) : Fin 4 → Nat :=
  let c0_i32_2082 : BitVec 32 := 0#32
  let v2567 : Index := Scalar.indexCast c0_i32_2082
  let c5_i32_2083 : BitVec 32 := 5#32
  let v2568 : Index := Scalar.indexCast c5_i32_2083
  let c0_i32_1331 : BitVec 32 := 0#32
  let c1_i32_1333 : BitVec 32 := 1#32
  let arg13 : BitVec 32 := Scf.iv c0_i32_1331 c1_i32_1333 k0_t7
  let c5_i32_2080 : BitVec 32 := 5#32
  let v2565 : BitVec 32 := Scalar.muli arg13 c5_i32_2080
  let v2566 : BitVec 32 := Scalar.addi v2565 c0_i32_2081
  let v2569 : Index := Scalar.indexCast v2566
  let c112_2084 : Index := 112#32
  ![0, 5, v2569.toNat, 112]
@[reducible] def k0_t8_loop : Scf.Loop 32 :=
  let c0_i32_1375 : BitVec 32 := 0#32
  let c10_i32_1376 : BitVec 32 := 10#32
  let v1716 : BitVec 32 := Scalar.addi c0_i32_1375 c10_i32_1376
  let c1_i32_1377 : BitVec 32 := 1#32
  ⟨c0_i32_1375, v1716, c1_i32_1377⟩
def k0_off51 (k0_t8 : Fin k0_t8_loop.trips) (c0_i32_2046 : BitVec 32) : Fin 4 → Nat :=
  let c0_i32_2047 : BitVec 32 := 0#32
  let v2511 : Index := Scalar.indexCast c0_i32_2047
  let c6_i32_2048 : BitVec 32 := 6#32
  let v2512 : Index := Scalar.indexCast c6_i32_2048
  let c0_i32_1375 : BitVec 32 := 0#32
  let c1_i32_1377 : BitVec 32 := 1#32
  let arg13 : BitVec 32 := Scf.iv c0_i32_1375 c1_i32_1377 k0_t8
  let c5_i32_2045 : BitVec 32 := 5#32
  let v2509 : BitVec 32 := Scalar.muli arg13 c5_i32_2045
  let v2510 : BitVec 32 := Scalar.addi v2509 c0_i32_2046
  let v2513 : Index := Scalar.indexCast v2510
  let c0_2049 : Index := 0#32
  ![0, 6, v2513.toNat, 0]
def k0_off52 (k0_t8 : Fin k0_t8_loop.trips) (c0_i32_2051 : BitVec 32) : Fin 4 → Nat :=
  let c0_i32_2052 : BitVec 32 := 0#32
  let v2519 : Index := Scalar.indexCast c0_i32_2052
  let c6_i32_2053 : BitVec 32 := 6#32
  let v2520 : Index := Scalar.indexCast c6_i32_2053
  let c0_i32_1375 : BitVec 32 := 0#32
  let c1_i32_1377 : BitVec 32 := 1#32
  let arg13 : BitVec 32 := Scf.iv c0_i32_1375 c1_i32_1377 k0_t8
  let c5_i32_2050 : BitVec 32 := 5#32
  let v2517 : BitVec 32 := Scalar.muli arg13 c5_i32_2050
  let v2518 : BitVec 32 := Scalar.addi v2517 c0_i32_2051
  let v2521 : Index := Scalar.indexCast v2518
  let c16_2054 : Index := 16#32
  ![0, 6, v2521.toNat, 16]
def k0_off53 (k0_t8 : Fin k0_t8_loop.trips) (c0_i32_2056 : BitVec 32) : Fin 4 → Nat :=
  let c0_i32_2057 : BitVec 32 := 0#32
  let v2527 : Index := Scalar.indexCast c0_i32_2057
  let c6_i32_2058 : BitVec 32 := 6#32
  let v2528 : Index := Scalar.indexCast c6_i32_2058
  let c0_i32_1375 : BitVec 32 := 0#32
  let c1_i32_1377 : BitVec 32 := 1#32
  let arg13 : BitVec 32 := Scf.iv c0_i32_1375 c1_i32_1377 k0_t8
  let c5_i32_2055 : BitVec 32 := 5#32
  let v2525 : BitVec 32 := Scalar.muli arg13 c5_i32_2055
  let v2526 : BitVec 32 := Scalar.addi v2525 c0_i32_2056
  let v2529 : Index := Scalar.indexCast v2526
  let c32_2059 : Index := 32#32
  ![0, 6, v2529.toNat, 32]
def k0_off54 (k0_t8 : Fin k0_t8_loop.trips) (c0_i32_2061 : BitVec 32) : Fin 4 → Nat :=
  let c0_i32_2062 : BitVec 32 := 0#32
  let v2535 : Index := Scalar.indexCast c0_i32_2062
  let c6_i32_2063 : BitVec 32 := 6#32
  let v2536 : Index := Scalar.indexCast c6_i32_2063
  let c0_i32_1375 : BitVec 32 := 0#32
  let c1_i32_1377 : BitVec 32 := 1#32
  let arg13 : BitVec 32 := Scf.iv c0_i32_1375 c1_i32_1377 k0_t8
  let c5_i32_2060 : BitVec 32 := 5#32
  let v2533 : BitVec 32 := Scalar.muli arg13 c5_i32_2060
  let v2534 : BitVec 32 := Scalar.addi v2533 c0_i32_2061
  let v2537 : Index := Scalar.indexCast v2534
  let c48_2064 : Index := 48#32
  ![0, 6, v2537.toNat, 48]
def k0_off55 (k0_t8 : Fin k0_t8_loop.trips) (c0_i32_2066 : BitVec 32) : Fin 4 → Nat :=
  let c0_i32_2067 : BitVec 32 := 0#32
  let v2543 : Index := Scalar.indexCast c0_i32_2067
  let c6_i32_2068 : BitVec 32 := 6#32
  let v2544 : Index := Scalar.indexCast c6_i32_2068
  let c0_i32_1375 : BitVec 32 := 0#32
  let c1_i32_1377 : BitVec 32 := 1#32
  let arg13 : BitVec 32 := Scf.iv c0_i32_1375 c1_i32_1377 k0_t8
  let c5_i32_2065 : BitVec 32 := 5#32
  let v2541 : BitVec 32 := Scalar.muli arg13 c5_i32_2065
  let v2542 : BitVec 32 := Scalar.addi v2541 c0_i32_2066
  let v2545 : Index := Scalar.indexCast v2542
  let c64_2069 : Index := 64#32
  ![0, 6, v2545.toNat, 64]
def k0_off56 (k0_t8 : Fin k0_t8_loop.trips) (c0_i32_2071 : BitVec 32) : Fin 4 → Nat :=
  let c0_i32_2072 : BitVec 32 := 0#32
  let v2551 : Index := Scalar.indexCast c0_i32_2072
  let c6_i32_2073 : BitVec 32 := 6#32
  let v2552 : Index := Scalar.indexCast c6_i32_2073
  let c0_i32_1375 : BitVec 32 := 0#32
  let c1_i32_1377 : BitVec 32 := 1#32
  let arg13 : BitVec 32 := Scf.iv c0_i32_1375 c1_i32_1377 k0_t8
  let c5_i32_2070 : BitVec 32 := 5#32
  let v2549 : BitVec 32 := Scalar.muli arg13 c5_i32_2070
  let v2550 : BitVec 32 := Scalar.addi v2549 c0_i32_2071
  let v2553 : Index := Scalar.indexCast v2550
  let c80_2074 : Index := 80#32
  ![0, 6, v2553.toNat, 80]
def k0_off57 (k0_t8 : Fin k0_t8_loop.trips) (c0_i32_2076 : BitVec 32) : Fin 4 → Nat :=
  let c0_i32_2077 : BitVec 32 := 0#32
  let v2559 : Index := Scalar.indexCast c0_i32_2077
  let c6_i32_2078 : BitVec 32 := 6#32
  let v2560 : Index := Scalar.indexCast c6_i32_2078
  let c0_i32_1375 : BitVec 32 := 0#32
  let c1_i32_1377 : BitVec 32 := 1#32
  let arg13 : BitVec 32 := Scf.iv c0_i32_1375 c1_i32_1377 k0_t8
  let c5_i32_2075 : BitVec 32 := 5#32
  let v2557 : BitVec 32 := Scalar.muli arg13 c5_i32_2075
  let v2558 : BitVec 32 := Scalar.addi v2557 c0_i32_2076
  let v2561 : Index := Scalar.indexCast v2558
  let c96_2079 : Index := 96#32
  ![0, 6, v2561.toNat, 96]
def k0_off58 (k0_t8 : Fin k0_t8_loop.trips) (c0_i32_2081 : BitVec 32) : Fin 4 → Nat :=
  let c0_i32_2082 : BitVec 32 := 0#32
  let v2567 : Index := Scalar.indexCast c0_i32_2082
  let c6_i32_2083 : BitVec 32 := 6#32
  let v2568 : Index := Scalar.indexCast c6_i32_2083
  let c0_i32_1375 : BitVec 32 := 0#32
  let c1_i32_1377 : BitVec 32 := 1#32
  let arg13 : BitVec 32 := Scf.iv c0_i32_1375 c1_i32_1377 k0_t8
  let c5_i32_2080 : BitVec 32 := 5#32
  let v2565 : BitVec 32 := Scalar.muli arg13 c5_i32_2080
  let v2566 : BitVec 32 := Scalar.addi v2565 c0_i32_2081
  let v2569 : Index := Scalar.indexCast v2566
  let c112_2084 : Index := 112#32
  ![0, 6, v2569.toNat, 112]
@[reducible] def k0_t9_loop : Scf.Loop 32 :=
  let c0_i32_1419 : BitVec 32 := 0#32
  let c10_i32_1420 : BitVec 32 := 10#32
  let v1782 : BitVec 32 := Scalar.addi c0_i32_1419 c10_i32_1420
  let c1_i32_1421 : BitVec 32 := 1#32
  ⟨c0_i32_1419, v1782, c1_i32_1421⟩
def k0_off59 (k0_t9 : Fin k0_t9_loop.trips) (c0_i32_2046 : BitVec 32) : Fin 4 → Nat :=
  let c0_i32_2047 : BitVec 32 := 0#32
  let v2511 : Index := Scalar.indexCast c0_i32_2047
  let c7_i32_2048 : BitVec 32 := 7#32
  let v2512 : Index := Scalar.indexCast c7_i32_2048
  let c0_i32_1419 : BitVec 32 := 0#32
  let c1_i32_1421 : BitVec 32 := 1#32
  let arg13 : BitVec 32 := Scf.iv c0_i32_1419 c1_i32_1421 k0_t9
  let c5_i32_2045 : BitVec 32 := 5#32
  let v2509 : BitVec 32 := Scalar.muli arg13 c5_i32_2045
  let v2510 : BitVec 32 := Scalar.addi v2509 c0_i32_2046
  let v2513 : Index := Scalar.indexCast v2510
  let c0_2049 : Index := 0#32
  ![0, 7, v2513.toNat, 0]
def k0_off60 (k0_t9 : Fin k0_t9_loop.trips) (c0_i32_2051 : BitVec 32) : Fin 4 → Nat :=
  let c0_i32_2052 : BitVec 32 := 0#32
  let v2519 : Index := Scalar.indexCast c0_i32_2052
  let c7_i32_2053 : BitVec 32 := 7#32
  let v2520 : Index := Scalar.indexCast c7_i32_2053
  let c0_i32_1419 : BitVec 32 := 0#32
  let c1_i32_1421 : BitVec 32 := 1#32
  let arg13 : BitVec 32 := Scf.iv c0_i32_1419 c1_i32_1421 k0_t9
  let c5_i32_2050 : BitVec 32 := 5#32
  let v2517 : BitVec 32 := Scalar.muli arg13 c5_i32_2050
  let v2518 : BitVec 32 := Scalar.addi v2517 c0_i32_2051
  let v2521 : Index := Scalar.indexCast v2518
  let c16_2054 : Index := 16#32
  ![0, 7, v2521.toNat, 16]
def k0_off61 (k0_t9 : Fin k0_t9_loop.trips) (c0_i32_2056 : BitVec 32) : Fin 4 → Nat :=
  let c0_i32_2057 : BitVec 32 := 0#32
  let v2527 : Index := Scalar.indexCast c0_i32_2057
  let c7_i32_2058 : BitVec 32 := 7#32
  let v2528 : Index := Scalar.indexCast c7_i32_2058
  let c0_i32_1419 : BitVec 32 := 0#32
  let c1_i32_1421 : BitVec 32 := 1#32
  let arg13 : BitVec 32 := Scf.iv c0_i32_1419 c1_i32_1421 k0_t9
  let c5_i32_2055 : BitVec 32 := 5#32
  let v2525 : BitVec 32 := Scalar.muli arg13 c5_i32_2055
  let v2526 : BitVec 32 := Scalar.addi v2525 c0_i32_2056
  let v2529 : Index := Scalar.indexCast v2526
  let c32_2059 : Index := 32#32
  ![0, 7, v2529.toNat, 32]
def k0_off62 (k0_t9 : Fin k0_t9_loop.trips) (c0_i32_2061 : BitVec 32) : Fin 4 → Nat :=
  let c0_i32_2062 : BitVec 32 := 0#32
  let v2535 : Index := Scalar.indexCast c0_i32_2062
  let c7_i32_2063 : BitVec 32 := 7#32
  let v2536 : Index := Scalar.indexCast c7_i32_2063
  let c0_i32_1419 : BitVec 32 := 0#32
  let c1_i32_1421 : BitVec 32 := 1#32
  let arg13 : BitVec 32 := Scf.iv c0_i32_1419 c1_i32_1421 k0_t9
  let c5_i32_2060 : BitVec 32 := 5#32
  let v2533 : BitVec 32 := Scalar.muli arg13 c5_i32_2060
  let v2534 : BitVec 32 := Scalar.addi v2533 c0_i32_2061
  let v2537 : Index := Scalar.indexCast v2534
  let c48_2064 : Index := 48#32
  ![0, 7, v2537.toNat, 48]
def k0_off63 (k0_t9 : Fin k0_t9_loop.trips) (c0_i32_2066 : BitVec 32) : Fin 4 → Nat :=
  let c0_i32_2067 : BitVec 32 := 0#32
  let v2543 : Index := Scalar.indexCast c0_i32_2067
  let c7_i32_2068 : BitVec 32 := 7#32
  let v2544 : Index := Scalar.indexCast c7_i32_2068
  let c0_i32_1419 : BitVec 32 := 0#32
  let c1_i32_1421 : BitVec 32 := 1#32
  let arg13 : BitVec 32 := Scf.iv c0_i32_1419 c1_i32_1421 k0_t9
  let c5_i32_2065 : BitVec 32 := 5#32
  let v2541 : BitVec 32 := Scalar.muli arg13 c5_i32_2065
  let v2542 : BitVec 32 := Scalar.addi v2541 c0_i32_2066
  let v2545 : Index := Scalar.indexCast v2542
  let c64_2069 : Index := 64#32
  ![0, 7, v2545.toNat, 64]
def k0_off64 (k0_t9 : Fin k0_t9_loop.trips) (c0_i32_2071 : BitVec 32) : Fin 4 → Nat :=
  let c0_i32_2072 : BitVec 32 := 0#32
  let v2551 : Index := Scalar.indexCast c0_i32_2072
  let c7_i32_2073 : BitVec 32 := 7#32
  let v2552 : Index := Scalar.indexCast c7_i32_2073
  let c0_i32_1419 : BitVec 32 := 0#32
  let c1_i32_1421 : BitVec 32 := 1#32
  let arg13 : BitVec 32 := Scf.iv c0_i32_1419 c1_i32_1421 k0_t9
  let c5_i32_2070 : BitVec 32 := 5#32
  let v2549 : BitVec 32 := Scalar.muli arg13 c5_i32_2070
  let v2550 : BitVec 32 := Scalar.addi v2549 c0_i32_2071
  let v2553 : Index := Scalar.indexCast v2550
  let c80_2074 : Index := 80#32
  ![0, 7, v2553.toNat, 80]
def k0_off65 (k0_t9 : Fin k0_t9_loop.trips) (c0_i32_2076 : BitVec 32) : Fin 4 → Nat :=
  let c0_i32_2077 : BitVec 32 := 0#32
  let v2559 : Index := Scalar.indexCast c0_i32_2077
  let c7_i32_2078 : BitVec 32 := 7#32
  let v2560 : Index := Scalar.indexCast c7_i32_2078
  let c0_i32_1419 : BitVec 32 := 0#32
  let c1_i32_1421 : BitVec 32 := 1#32
  let arg13 : BitVec 32 := Scf.iv c0_i32_1419 c1_i32_1421 k0_t9
  let c5_i32_2075 : BitVec 32 := 5#32
  let v2557 : BitVec 32 := Scalar.muli arg13 c5_i32_2075
  let v2558 : BitVec 32 := Scalar.addi v2557 c0_i32_2076
  let v2561 : Index := Scalar.indexCast v2558
  let c96_2079 : Index := 96#32
  ![0, 7, v2561.toNat, 96]
def k0_off66 (k0_t9 : Fin k0_t9_loop.trips) (c0_i32_2081 : BitVec 32) : Fin 4 → Nat :=
  let c0_i32_2082 : BitVec 32 := 0#32
  let v2567 : Index := Scalar.indexCast c0_i32_2082
  let c7_i32_2083 : BitVec 32 := 7#32
  let v2568 : Index := Scalar.indexCast c7_i32_2083
  let c0_i32_1419 : BitVec 32 := 0#32
  let c1_i32_1421 : BitVec 32 := 1#32
  let arg13 : BitVec 32 := Scf.iv c0_i32_1419 c1_i32_1421 k0_t9
  let c5_i32_2080 : BitVec 32 := 5#32
  let v2565 : BitVec 32 := Scalar.muli arg13 c5_i32_2080
  let v2566 : BitVec 32 := Scalar.addi v2565 c0_i32_2081
  let v2569 : Index := Scalar.indexCast v2566
  let c112_2084 : Index := 112#32
  ![0, 7, v2569.toNat, 112]
def k0_off67 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_1011 : BitVec 32 := 0#32
  let c0_i32_159 : BitVec 32 := 0#32
  let c1_i32_160 : BitVec 32 := 1#32
  let arg12 : BitVec 32 := Scf.iv c0_i32_159 c1_i32_160 k0_t1
  let c2_i32_1010 : BitVec 32 := 2#32
  let v1250 : BitVec 32 := Scalar.muli arg12 c2_i32_1010
  let v1251 : BitVec 32 := Scalar.addi c0_i32_1011 v1250
  let c8_i32_1102 : BitVec 32 := 8#32
  let v1310 : BitVec 32 := Scalar.muli v1251 c8_i32_1102
  let v1311 : BitVec 32 := Scalar.addi v2 v1310
  let c0_i32_2047_r0 : BitVec 32 := 0#32
  ![v1311.toNat, 0]
def k0_off68 (i : grid0.Coords) (k0_t1 : Fin k0_t1_loop.trips) (c1_i32_1529 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_1011 : BitVec 32 := 0#32
  let c0_i32_159 : BitVec 32 := 0#32
  let c1_i32_160 : BitVec 32 := 1#32
  let arg12 : BitVec 32 := Scf.iv c0_i32_159 c1_i32_160 k0_t1
  let c2_i32_1010 : BitVec 32 := 2#32
  let v1250 : BitVec 32 := Scalar.muli arg12 c2_i32_1010
  let v1251 : BitVec 32 := Scalar.addi c0_i32_1011 v1250
  let c1_i32_1528 : BitVec 32 := 1#32
  let v1880 : BitVec 32 := Scalar.addi v1251 c1_i32_1528
  let v1881 : BitVec 32 := Scalar.addi v1880 c1_i32_1529
  let c8_i32_1530 : BitVec 32 := 8#32
  let v1882 : BitVec 32 := Scalar.muli v1881 c8_i32_1530
  let v1883 : BitVec 32 := Scalar.addi v2 v1882
  let c0_i32_1534 : BitVec 32 := 0#32
  ![v1883.toNat, 0]
@[reducible] def k0_t10_loop : Scf.Loop 32 :=
  let c0_i32_1628 : BitVec 32 := 0#32
  let c10_i32_1629 : BitVec 32 := 10#32
  let v1949 : BitVec 32 := Scalar.addi c0_i32_1628 c10_i32_1629
  let c1_i32_1630 : BitVec 32 := 1#32
  ⟨c0_i32_1628, v1949, c1_i32_1630⟩
def k0_off69 (k0_t10 : Fin k0_t10_loop.trips) (c0_i32_2046 : BitVec 32) : Fin 4 → Nat :=
  let c1_i32_2047 : BitVec 32 := 1#32
  let v2511 : Index := Scalar.indexCast c1_i32_2047
  let c0_i32_2048 : BitVec 32 := 0#32
  let v2512 : Index := Scalar.indexCast c0_i32_2048
  let c0_i32_1628 : BitVec 32 := 0#32
  let c1_i32_1630 : BitVec 32 := 1#32
  let arg13 : BitVec 32 := Scf.iv c0_i32_1628 c1_i32_1630 k0_t10
  let c5_i32_2045 : BitVec 32 := 5#32
  let v2509 : BitVec 32 := Scalar.muli arg13 c5_i32_2045
  let v2510 : BitVec 32 := Scalar.addi v2509 c0_i32_2046
  let v2513 : Index := Scalar.indexCast v2510
  let c0_2049 : Index := 0#32
  ![1, 0, v2513.toNat, 0]
def k0_off70 (k0_t10 : Fin k0_t10_loop.trips) (c0_i32_2051 : BitVec 32) : Fin 4 → Nat :=
  let c1_i32_2052 : BitVec 32 := 1#32
  let v2519 : Index := Scalar.indexCast c1_i32_2052
  let c0_i32_2053 : BitVec 32 := 0#32
  let v2520 : Index := Scalar.indexCast c0_i32_2053
  let c0_i32_1628 : BitVec 32 := 0#32
  let c1_i32_1630 : BitVec 32 := 1#32
  let arg13 : BitVec 32 := Scf.iv c0_i32_1628 c1_i32_1630 k0_t10
  let c5_i32_2050 : BitVec 32 := 5#32
  let v2517 : BitVec 32 := Scalar.muli arg13 c5_i32_2050
  let v2518 : BitVec 32 := Scalar.addi v2517 c0_i32_2051
  let v2521 : Index := Scalar.indexCast v2518
  let c16_2054 : Index := 16#32
  ![1, 0, v2521.toNat, 16]
def k0_off71 (k0_t10 : Fin k0_t10_loop.trips) (c0_i32_2056 : BitVec 32) : Fin 4 → Nat :=
  let c1_i32_2057 : BitVec 32 := 1#32
  let v2527 : Index := Scalar.indexCast c1_i32_2057
  let c0_i32_2058 : BitVec 32 := 0#32
  let v2528 : Index := Scalar.indexCast c0_i32_2058
  let c0_i32_1628 : BitVec 32 := 0#32
  let c1_i32_1630 : BitVec 32 := 1#32
  let arg13 : BitVec 32 := Scf.iv c0_i32_1628 c1_i32_1630 k0_t10
  let c5_i32_2055 : BitVec 32 := 5#32
  let v2525 : BitVec 32 := Scalar.muli arg13 c5_i32_2055
  let v2526 : BitVec 32 := Scalar.addi v2525 c0_i32_2056
  let v2529 : Index := Scalar.indexCast v2526
  let c32_2059 : Index := 32#32
  ![1, 0, v2529.toNat, 32]
def k0_off72 (k0_t10 : Fin k0_t10_loop.trips) (c0_i32_2061 : BitVec 32) : Fin 4 → Nat :=
  let c1_i32_2062 : BitVec 32 := 1#32
  let v2535 : Index := Scalar.indexCast c1_i32_2062
  let c0_i32_2063 : BitVec 32 := 0#32
  let v2536 : Index := Scalar.indexCast c0_i32_2063
  let c0_i32_1628 : BitVec 32 := 0#32
  let c1_i32_1630 : BitVec 32 := 1#32
  let arg13 : BitVec 32 := Scf.iv c0_i32_1628 c1_i32_1630 k0_t10
  let c5_i32_2060 : BitVec 32 := 5#32
  let v2533 : BitVec 32 := Scalar.muli arg13 c5_i32_2060
  let v2534 : BitVec 32 := Scalar.addi v2533 c0_i32_2061
  let v2537 : Index := Scalar.indexCast v2534
  let c48_2064 : Index := 48#32
  ![1, 0, v2537.toNat, 48]
def k0_off73 (k0_t10 : Fin k0_t10_loop.trips) (c0_i32_2066 : BitVec 32) : Fin 4 → Nat :=
  let c1_i32_2067 : BitVec 32 := 1#32
  let v2543 : Index := Scalar.indexCast c1_i32_2067
  let c0_i32_2068 : BitVec 32 := 0#32
  let v2544 : Index := Scalar.indexCast c0_i32_2068
  let c0_i32_1628 : BitVec 32 := 0#32
  let c1_i32_1630 : BitVec 32 := 1#32
  let arg13 : BitVec 32 := Scf.iv c0_i32_1628 c1_i32_1630 k0_t10
  let c5_i32_2065 : BitVec 32 := 5#32
  let v2541 : BitVec 32 := Scalar.muli arg13 c5_i32_2065
  let v2542 : BitVec 32 := Scalar.addi v2541 c0_i32_2066
  let v2545 : Index := Scalar.indexCast v2542
  let c64_2069 : Index := 64#32
  ![1, 0, v2545.toNat, 64]
def k0_off74 (k0_t10 : Fin k0_t10_loop.trips) (c0_i32_2071 : BitVec 32) : Fin 4 → Nat :=
  let c1_i32_2072 : BitVec 32 := 1#32
  let v2551 : Index := Scalar.indexCast c1_i32_2072
  let c0_i32_2073 : BitVec 32 := 0#32
  let v2552 : Index := Scalar.indexCast c0_i32_2073
  let c0_i32_1628 : BitVec 32 := 0#32
  let c1_i32_1630 : BitVec 32 := 1#32
  let arg13 : BitVec 32 := Scf.iv c0_i32_1628 c1_i32_1630 k0_t10
  let c5_i32_2070 : BitVec 32 := 5#32
  let v2549 : BitVec 32 := Scalar.muli arg13 c5_i32_2070
  let v2550 : BitVec 32 := Scalar.addi v2549 c0_i32_2071
  let v2553 : Index := Scalar.indexCast v2550
  let c80_2074 : Index := 80#32
  ![1, 0, v2553.toNat, 80]
def k0_off75 (k0_t10 : Fin k0_t10_loop.trips) (c0_i32_2076 : BitVec 32) : Fin 4 → Nat :=
  let c1_i32_2077 : BitVec 32 := 1#32
  let v2559 : Index := Scalar.indexCast c1_i32_2077
  let c0_i32_2078 : BitVec 32 := 0#32
  let v2560 : Index := Scalar.indexCast c0_i32_2078
  let c0_i32_1628 : BitVec 32 := 0#32
  let c1_i32_1630 : BitVec 32 := 1#32
  let arg13 : BitVec 32 := Scf.iv c0_i32_1628 c1_i32_1630 k0_t10
  let c5_i32_2075 : BitVec 32 := 5#32
  let v2557 : BitVec 32 := Scalar.muli arg13 c5_i32_2075
  let v2558 : BitVec 32 := Scalar.addi v2557 c0_i32_2076
  let v2561 : Index := Scalar.indexCast v2558
  let c96_2079 : Index := 96#32
  ![1, 0, v2561.toNat, 96]
def k0_off76 (k0_t10 : Fin k0_t10_loop.trips) (c0_i32_2081 : BitVec 32) : Fin 4 → Nat :=
  let c1_i32_2082 : BitVec 32 := 1#32
  let v2567 : Index := Scalar.indexCast c1_i32_2082
  let c0_i32_2083 : BitVec 32 := 0#32
  let v2568 : Index := Scalar.indexCast c0_i32_2083
  let c0_i32_1628 : BitVec 32 := 0#32
  let c1_i32_1630 : BitVec 32 := 1#32
  let arg13 : BitVec 32 := Scf.iv c0_i32_1628 c1_i32_1630 k0_t10
  let c5_i32_2080 : BitVec 32 := 5#32
  let v2565 : BitVec 32 := Scalar.muli arg13 c5_i32_2080
  let v2566 : BitVec 32 := Scalar.addi v2565 c0_i32_2081
  let v2569 : Index := Scalar.indexCast v2566
  let c112_2084 : Index := 112#32
  ![1, 0, v2569.toNat, 112]
@[reducible] def k0_t11_loop : Scf.Loop 32 :=
  let c0_i32_1672 : BitVec 32 := 0#32
  let c10_i32_1673 : BitVec 32 := 10#32
  let v2015 : BitVec 32 := Scalar.addi c0_i32_1672 c10_i32_1673
  let c1_i32_1674 : BitVec 32 := 1#32
  ⟨c0_i32_1672, v2015, c1_i32_1674⟩
def k0_off77 (k0_t11 : Fin k0_t11_loop.trips) (c0_i32_2046 : BitVec 32) : Fin 4 → Nat :=
  let c1_i32_2047 : BitVec 32 := 1#32
  let v2511 : Index := Scalar.indexCast c1_i32_2047
  let c1_i32_2048 : BitVec 32 := 1#32
  let v2512 : Index := Scalar.indexCast c1_i32_2048
  let c0_i32_1672 : BitVec 32 := 0#32
  let c1_i32_1674 : BitVec 32 := 1#32
  let arg13 : BitVec 32 := Scf.iv c0_i32_1672 c1_i32_1674 k0_t11
  let c5_i32_2045 : BitVec 32 := 5#32
  let v2509 : BitVec 32 := Scalar.muli arg13 c5_i32_2045
  let v2510 : BitVec 32 := Scalar.addi v2509 c0_i32_2046
  let v2513 : Index := Scalar.indexCast v2510
  let c0_2049 : Index := 0#32
  ![1, 1, v2513.toNat, 0]
def k0_off78 (k0_t11 : Fin k0_t11_loop.trips) (c0_i32_2051 : BitVec 32) : Fin 4 → Nat :=
  let c1_i32_2052 : BitVec 32 := 1#32
  let v2519 : Index := Scalar.indexCast c1_i32_2052
  let c1_i32_2053 : BitVec 32 := 1#32
  let v2520 : Index := Scalar.indexCast c1_i32_2053
  let c0_i32_1672 : BitVec 32 := 0#32
  let c1_i32_1674 : BitVec 32 := 1#32
  let arg13 : BitVec 32 := Scf.iv c0_i32_1672 c1_i32_1674 k0_t11
  let c5_i32_2050 : BitVec 32 := 5#32
  let v2517 : BitVec 32 := Scalar.muli arg13 c5_i32_2050
  let v2518 : BitVec 32 := Scalar.addi v2517 c0_i32_2051
  let v2521 : Index := Scalar.indexCast v2518
  let c16_2054 : Index := 16#32
  ![1, 1, v2521.toNat, 16]
def k0_off79 (k0_t11 : Fin k0_t11_loop.trips) (c0_i32_2056 : BitVec 32) : Fin 4 → Nat :=
  let c1_i32_2057 : BitVec 32 := 1#32
  let v2527 : Index := Scalar.indexCast c1_i32_2057
  let c1_i32_2058 : BitVec 32 := 1#32
  let v2528 : Index := Scalar.indexCast c1_i32_2058
  let c0_i32_1672 : BitVec 32 := 0#32
  let c1_i32_1674 : BitVec 32 := 1#32
  let arg13 : BitVec 32 := Scf.iv c0_i32_1672 c1_i32_1674 k0_t11
  let c5_i32_2055 : BitVec 32 := 5#32
  let v2525 : BitVec 32 := Scalar.muli arg13 c5_i32_2055
  let v2526 : BitVec 32 := Scalar.addi v2525 c0_i32_2056
  let v2529 : Index := Scalar.indexCast v2526
  let c32_2059 : Index := 32#32
  ![1, 1, v2529.toNat, 32]
def k0_off80 (k0_t11 : Fin k0_t11_loop.trips) (c0_i32_2061 : BitVec 32) : Fin 4 → Nat :=
  let c1_i32_2062 : BitVec 32 := 1#32
  let v2535 : Index := Scalar.indexCast c1_i32_2062
  let c1_i32_2063 : BitVec 32 := 1#32
  let v2536 : Index := Scalar.indexCast c1_i32_2063
  let c0_i32_1672 : BitVec 32 := 0#32
  let c1_i32_1674 : BitVec 32 := 1#32
  let arg13 : BitVec 32 := Scf.iv c0_i32_1672 c1_i32_1674 k0_t11
  let c5_i32_2060 : BitVec 32 := 5#32
  let v2533 : BitVec 32 := Scalar.muli arg13 c5_i32_2060
  let v2534 : BitVec 32 := Scalar.addi v2533 c0_i32_2061
  let v2537 : Index := Scalar.indexCast v2534
  let c48_2064 : Index := 48#32
  ![1, 1, v2537.toNat, 48]
def k0_off81 (k0_t11 : Fin k0_t11_loop.trips) (c0_i32_2066 : BitVec 32) : Fin 4 → Nat :=
  let c1_i32_2067 : BitVec 32 := 1#32
  let v2543 : Index := Scalar.indexCast c1_i32_2067
  let c1_i32_2068 : BitVec 32 := 1#32
  let v2544 : Index := Scalar.indexCast c1_i32_2068
  let c0_i32_1672 : BitVec 32 := 0#32
  let c1_i32_1674 : BitVec 32 := 1#32
  let arg13 : BitVec 32 := Scf.iv c0_i32_1672 c1_i32_1674 k0_t11
  let c5_i32_2065 : BitVec 32 := 5#32
  let v2541 : BitVec 32 := Scalar.muli arg13 c5_i32_2065
  let v2542 : BitVec 32 := Scalar.addi v2541 c0_i32_2066
  let v2545 : Index := Scalar.indexCast v2542
  let c64_2069 : Index := 64#32
  ![1, 1, v2545.toNat, 64]
def k0_off82 (k0_t11 : Fin k0_t11_loop.trips) (c0_i32_2071 : BitVec 32) : Fin 4 → Nat :=
  let c1_i32_2072 : BitVec 32 := 1#32
  let v2551 : Index := Scalar.indexCast c1_i32_2072
  let c1_i32_2073 : BitVec 32 := 1#32
  let v2552 : Index := Scalar.indexCast c1_i32_2073
  let c0_i32_1672 : BitVec 32 := 0#32
  let c1_i32_1674 : BitVec 32 := 1#32
  let arg13 : BitVec 32 := Scf.iv c0_i32_1672 c1_i32_1674 k0_t11
  let c5_i32_2070 : BitVec 32 := 5#32
  let v2549 : BitVec 32 := Scalar.muli arg13 c5_i32_2070
  let v2550 : BitVec 32 := Scalar.addi v2549 c0_i32_2071
  let v2553 : Index := Scalar.indexCast v2550
  let c80_2074 : Index := 80#32
  ![1, 1, v2553.toNat, 80]
def k0_off83 (k0_t11 : Fin k0_t11_loop.trips) (c0_i32_2076 : BitVec 32) : Fin 4 → Nat :=
  let c1_i32_2077 : BitVec 32 := 1#32
  let v2559 : Index := Scalar.indexCast c1_i32_2077
  let c1_i32_2078 : BitVec 32 := 1#32
  let v2560 : Index := Scalar.indexCast c1_i32_2078
  let c0_i32_1672 : BitVec 32 := 0#32
  let c1_i32_1674 : BitVec 32 := 1#32
  let arg13 : BitVec 32 := Scf.iv c0_i32_1672 c1_i32_1674 k0_t11
  let c5_i32_2075 : BitVec 32 := 5#32
  let v2557 : BitVec 32 := Scalar.muli arg13 c5_i32_2075
  let v2558 : BitVec 32 := Scalar.addi v2557 c0_i32_2076
  let v2561 : Index := Scalar.indexCast v2558
  let c96_2079 : Index := 96#32
  ![1, 1, v2561.toNat, 96]
def k0_off84 (k0_t11 : Fin k0_t11_loop.trips) (c0_i32_2081 : BitVec 32) : Fin 4 → Nat :=
  let c1_i32_2082 : BitVec 32 := 1#32
  let v2567 : Index := Scalar.indexCast c1_i32_2082
  let c1_i32_2083 : BitVec 32 := 1#32
  let v2568 : Index := Scalar.indexCast c1_i32_2083
  let c0_i32_1672 : BitVec 32 := 0#32
  let c1_i32_1674 : BitVec 32 := 1#32
  let arg13 : BitVec 32 := Scf.iv c0_i32_1672 c1_i32_1674 k0_t11
  let c5_i32_2080 : BitVec 32 := 5#32
  let v2565 : BitVec 32 := Scalar.muli arg13 c5_i32_2080
  let v2566 : BitVec 32 := Scalar.addi v2565 c0_i32_2081
  let v2569 : Index := Scalar.indexCast v2566
  let c112_2084 : Index := 112#32
  ![1, 1, v2569.toNat, 112]
@[reducible] def k0_t12_loop : Scf.Loop 32 :=
  let c0_i32_1716 : BitVec 32 := 0#32
  let c10_i32_1717 : BitVec 32 := 10#32
  let v2081 : BitVec 32 := Scalar.addi c0_i32_1716 c10_i32_1717
  let c1_i32_1718 : BitVec 32 := 1#32
  ⟨c0_i32_1716, v2081, c1_i32_1718⟩
def k0_off85 (k0_t12 : Fin k0_t12_loop.trips) (c0_i32_2046 : BitVec 32) : Fin 4 → Nat :=
  let c1_i32_2047 : BitVec 32 := 1#32
  let v2511 : Index := Scalar.indexCast c1_i32_2047
  let c2_i32_2048 : BitVec 32 := 2#32
  let v2512 : Index := Scalar.indexCast c2_i32_2048
  let c0_i32_1716 : BitVec 32 := 0#32
  let c1_i32_1718 : BitVec 32 := 1#32
  let arg13 : BitVec 32 := Scf.iv c0_i32_1716 c1_i32_1718 k0_t12
  let c5_i32_2045 : BitVec 32 := 5#32
  let v2509 : BitVec 32 := Scalar.muli arg13 c5_i32_2045
  let v2510 : BitVec 32 := Scalar.addi v2509 c0_i32_2046
  let v2513 : Index := Scalar.indexCast v2510
  let c0_2049 : Index := 0#32
  ![1, 2, v2513.toNat, 0]
def k0_off86 (k0_t12 : Fin k0_t12_loop.trips) (c0_i32_2051 : BitVec 32) : Fin 4 → Nat :=
  let c1_i32_2052 : BitVec 32 := 1#32
  let v2519 : Index := Scalar.indexCast c1_i32_2052
  let c2_i32_2053 : BitVec 32 := 2#32
  let v2520 : Index := Scalar.indexCast c2_i32_2053
  let c0_i32_1716 : BitVec 32 := 0#32
  let c1_i32_1718 : BitVec 32 := 1#32
  let arg13 : BitVec 32 := Scf.iv c0_i32_1716 c1_i32_1718 k0_t12
  let c5_i32_2050 : BitVec 32 := 5#32
  let v2517 : BitVec 32 := Scalar.muli arg13 c5_i32_2050
  let v2518 : BitVec 32 := Scalar.addi v2517 c0_i32_2051
  let v2521 : Index := Scalar.indexCast v2518
  let c16_2054 : Index := 16#32
  ![1, 2, v2521.toNat, 16]
def k0_off87 (k0_t12 : Fin k0_t12_loop.trips) (c0_i32_2056 : BitVec 32) : Fin 4 → Nat :=
  let c1_i32_2057 : BitVec 32 := 1#32
  let v2527 : Index := Scalar.indexCast c1_i32_2057
  let c2_i32_2058 : BitVec 32 := 2#32
  let v2528 : Index := Scalar.indexCast c2_i32_2058
  let c0_i32_1716 : BitVec 32 := 0#32
  let c1_i32_1718 : BitVec 32 := 1#32
  let arg13 : BitVec 32 := Scf.iv c0_i32_1716 c1_i32_1718 k0_t12
  let c5_i32_2055 : BitVec 32 := 5#32
  let v2525 : BitVec 32 := Scalar.muli arg13 c5_i32_2055
  let v2526 : BitVec 32 := Scalar.addi v2525 c0_i32_2056
  let v2529 : Index := Scalar.indexCast v2526
  let c32_2059 : Index := 32#32
  ![1, 2, v2529.toNat, 32]
def k0_off88 (k0_t12 : Fin k0_t12_loop.trips) (c0_i32_2061 : BitVec 32) : Fin 4 → Nat :=
  let c1_i32_2062 : BitVec 32 := 1#32
  let v2535 : Index := Scalar.indexCast c1_i32_2062
  let c2_i32_2063 : BitVec 32 := 2#32
  let v2536 : Index := Scalar.indexCast c2_i32_2063
  let c0_i32_1716 : BitVec 32 := 0#32
  let c1_i32_1718 : BitVec 32 := 1#32
  let arg13 : BitVec 32 := Scf.iv c0_i32_1716 c1_i32_1718 k0_t12
  let c5_i32_2060 : BitVec 32 := 5#32
  let v2533 : BitVec 32 := Scalar.muli arg13 c5_i32_2060
  let v2534 : BitVec 32 := Scalar.addi v2533 c0_i32_2061
  let v2537 : Index := Scalar.indexCast v2534
  let c48_2064 : Index := 48#32
  ![1, 2, v2537.toNat, 48]
def k0_off89 (k0_t12 : Fin k0_t12_loop.trips) (c0_i32_2066 : BitVec 32) : Fin 4 → Nat :=
  let c1_i32_2067 : BitVec 32 := 1#32
  let v2543 : Index := Scalar.indexCast c1_i32_2067
  let c2_i32_2068 : BitVec 32 := 2#32
  let v2544 : Index := Scalar.indexCast c2_i32_2068
  let c0_i32_1716 : BitVec 32 := 0#32
  let c1_i32_1718 : BitVec 32 := 1#32
  let arg13 : BitVec 32 := Scf.iv c0_i32_1716 c1_i32_1718 k0_t12
  let c5_i32_2065 : BitVec 32 := 5#32
  let v2541 : BitVec 32 := Scalar.muli arg13 c5_i32_2065
  let v2542 : BitVec 32 := Scalar.addi v2541 c0_i32_2066
  let v2545 : Index := Scalar.indexCast v2542
  let c64_2069 : Index := 64#32
  ![1, 2, v2545.toNat, 64]
def k0_off90 (k0_t12 : Fin k0_t12_loop.trips) (c0_i32_2071 : BitVec 32) : Fin 4 → Nat :=
  let c1_i32_2072 : BitVec 32 := 1#32
  let v2551 : Index := Scalar.indexCast c1_i32_2072
  let c2_i32_2073 : BitVec 32 := 2#32
  let v2552 : Index := Scalar.indexCast c2_i32_2073
  let c0_i32_1716 : BitVec 32 := 0#32
  let c1_i32_1718 : BitVec 32 := 1#32
  let arg13 : BitVec 32 := Scf.iv c0_i32_1716 c1_i32_1718 k0_t12
  let c5_i32_2070 : BitVec 32 := 5#32
  let v2549 : BitVec 32 := Scalar.muli arg13 c5_i32_2070
  let v2550 : BitVec 32 := Scalar.addi v2549 c0_i32_2071
  let v2553 : Index := Scalar.indexCast v2550
  let c80_2074 : Index := 80#32
  ![1, 2, v2553.toNat, 80]
def k0_off91 (k0_t12 : Fin k0_t12_loop.trips) (c0_i32_2076 : BitVec 32) : Fin 4 → Nat :=
  let c1_i32_2077 : BitVec 32 := 1#32
  let v2559 : Index := Scalar.indexCast c1_i32_2077
  let c2_i32_2078 : BitVec 32 := 2#32
  let v2560 : Index := Scalar.indexCast c2_i32_2078
  let c0_i32_1716 : BitVec 32 := 0#32
  let c1_i32_1718 : BitVec 32 := 1#32
  let arg13 : BitVec 32 := Scf.iv c0_i32_1716 c1_i32_1718 k0_t12
  let c5_i32_2075 : BitVec 32 := 5#32
  let v2557 : BitVec 32 := Scalar.muli arg13 c5_i32_2075
  let v2558 : BitVec 32 := Scalar.addi v2557 c0_i32_2076
  let v2561 : Index := Scalar.indexCast v2558
  let c96_2079 : Index := 96#32
  ![1, 2, v2561.toNat, 96]
def k0_off92 (k0_t12 : Fin k0_t12_loop.trips) (c0_i32_2081 : BitVec 32) : Fin 4 → Nat :=
  let c1_i32_2082 : BitVec 32 := 1#32
  let v2567 : Index := Scalar.indexCast c1_i32_2082
  let c2_i32_2083 : BitVec 32 := 2#32
  let v2568 : Index := Scalar.indexCast c2_i32_2083
  let c0_i32_1716 : BitVec 32 := 0#32
  let c1_i32_1718 : BitVec 32 := 1#32
  let arg13 : BitVec 32 := Scf.iv c0_i32_1716 c1_i32_1718 k0_t12
  let c5_i32_2080 : BitVec 32 := 5#32
  let v2565 : BitVec 32 := Scalar.muli arg13 c5_i32_2080
  let v2566 : BitVec 32 := Scalar.addi v2565 c0_i32_2081
  let v2569 : Index := Scalar.indexCast v2566
  let c112_2084 : Index := 112#32
  ![1, 2, v2569.toNat, 112]
@[reducible] def k0_t13_loop : Scf.Loop 32 :=
  let c0_i32_1760 : BitVec 32 := 0#32
  let c10_i32_1761 : BitVec 32 := 10#32
  let v2147 : BitVec 32 := Scalar.addi c0_i32_1760 c10_i32_1761
  let c1_i32_1762 : BitVec 32 := 1#32
  ⟨c0_i32_1760, v2147, c1_i32_1762⟩
def k0_off93 (k0_t13 : Fin k0_t13_loop.trips) (c0_i32_2046 : BitVec 32) : Fin 4 → Nat :=
  let c1_i32_2047 : BitVec 32 := 1#32
  let v2511 : Index := Scalar.indexCast c1_i32_2047
  let c3_i32_2048 : BitVec 32 := 3#32
  let v2512 : Index := Scalar.indexCast c3_i32_2048
  let c0_i32_1760 : BitVec 32 := 0#32
  let c1_i32_1762 : BitVec 32 := 1#32
  let arg13 : BitVec 32 := Scf.iv c0_i32_1760 c1_i32_1762 k0_t13
  let c5_i32_2045 : BitVec 32 := 5#32
  let v2509 : BitVec 32 := Scalar.muli arg13 c5_i32_2045
  let v2510 : BitVec 32 := Scalar.addi v2509 c0_i32_2046
  let v2513 : Index := Scalar.indexCast v2510
  let c0_2049 : Index := 0#32
  ![1, 3, v2513.toNat, 0]
def k0_off94 (k0_t13 : Fin k0_t13_loop.trips) (c0_i32_2051 : BitVec 32) : Fin 4 → Nat :=
  let c1_i32_2052 : BitVec 32 := 1#32
  let v2519 : Index := Scalar.indexCast c1_i32_2052
  let c3_i32_2053 : BitVec 32 := 3#32
  let v2520 : Index := Scalar.indexCast c3_i32_2053
  let c0_i32_1760 : BitVec 32 := 0#32
  let c1_i32_1762 : BitVec 32 := 1#32
  let arg13 : BitVec 32 := Scf.iv c0_i32_1760 c1_i32_1762 k0_t13
  let c5_i32_2050 : BitVec 32 := 5#32
  let v2517 : BitVec 32 := Scalar.muli arg13 c5_i32_2050
  let v2518 : BitVec 32 := Scalar.addi v2517 c0_i32_2051
  let v2521 : Index := Scalar.indexCast v2518
  let c16_2054 : Index := 16#32
  ![1, 3, v2521.toNat, 16]
def k0_off95 (k0_t13 : Fin k0_t13_loop.trips) (c0_i32_2056 : BitVec 32) : Fin 4 → Nat :=
  let c1_i32_2057 : BitVec 32 := 1#32
  let v2527 : Index := Scalar.indexCast c1_i32_2057
  let c3_i32_2058 : BitVec 32 := 3#32
  let v2528 : Index := Scalar.indexCast c3_i32_2058
  let c0_i32_1760 : BitVec 32 := 0#32
  let c1_i32_1762 : BitVec 32 := 1#32
  let arg13 : BitVec 32 := Scf.iv c0_i32_1760 c1_i32_1762 k0_t13
  let c5_i32_2055 : BitVec 32 := 5#32
  let v2525 : BitVec 32 := Scalar.muli arg13 c5_i32_2055
  let v2526 : BitVec 32 := Scalar.addi v2525 c0_i32_2056
  let v2529 : Index := Scalar.indexCast v2526
  let c32_2059 : Index := 32#32
  ![1, 3, v2529.toNat, 32]
def k0_off96 (k0_t13 : Fin k0_t13_loop.trips) (c0_i32_2061 : BitVec 32) : Fin 4 → Nat :=
  let c1_i32_2062 : BitVec 32 := 1#32
  let v2535 : Index := Scalar.indexCast c1_i32_2062
  let c3_i32_2063 : BitVec 32 := 3#32
  let v2536 : Index := Scalar.indexCast c3_i32_2063
  let c0_i32_1760 : BitVec 32 := 0#32
  let c1_i32_1762 : BitVec 32 := 1#32
  let arg13 : BitVec 32 := Scf.iv c0_i32_1760 c1_i32_1762 k0_t13
  let c5_i32_2060 : BitVec 32 := 5#32
  let v2533 : BitVec 32 := Scalar.muli arg13 c5_i32_2060
  let v2534 : BitVec 32 := Scalar.addi v2533 c0_i32_2061
  let v2537 : Index := Scalar.indexCast v2534
  let c48_2064 : Index := 48#32
  ![1, 3, v2537.toNat, 48]
def k0_off97 (k0_t13 : Fin k0_t13_loop.trips) (c0_i32_2066 : BitVec 32) : Fin 4 → Nat :=
  let c1_i32_2067 : BitVec 32 := 1#32
  let v2543 : Index := Scalar.indexCast c1_i32_2067
  let c3_i32_2068 : BitVec 32 := 3#32
  let v2544 : Index := Scalar.indexCast c3_i32_2068
  let c0_i32_1760 : BitVec 32 := 0#32
  let c1_i32_1762 : BitVec 32 := 1#32
  let arg13 : BitVec 32 := Scf.iv c0_i32_1760 c1_i32_1762 k0_t13
  let c5_i32_2065 : BitVec 32 := 5#32
  let v2541 : BitVec 32 := Scalar.muli arg13 c5_i32_2065
  let v2542 : BitVec 32 := Scalar.addi v2541 c0_i32_2066
  let v2545 : Index := Scalar.indexCast v2542
  let c64_2069 : Index := 64#32
  ![1, 3, v2545.toNat, 64]
def k0_off98 (k0_t13 : Fin k0_t13_loop.trips) (c0_i32_2071 : BitVec 32) : Fin 4 → Nat :=
  let c1_i32_2072 : BitVec 32 := 1#32
  let v2551 : Index := Scalar.indexCast c1_i32_2072
  let c3_i32_2073 : BitVec 32 := 3#32
  let v2552 : Index := Scalar.indexCast c3_i32_2073
  let c0_i32_1760 : BitVec 32 := 0#32
  let c1_i32_1762 : BitVec 32 := 1#32
  let arg13 : BitVec 32 := Scf.iv c0_i32_1760 c1_i32_1762 k0_t13
  let c5_i32_2070 : BitVec 32 := 5#32
  let v2549 : BitVec 32 := Scalar.muli arg13 c5_i32_2070
  let v2550 : BitVec 32 := Scalar.addi v2549 c0_i32_2071
  let v2553 : Index := Scalar.indexCast v2550
  let c80_2074 : Index := 80#32
  ![1, 3, v2553.toNat, 80]
def k0_off99 (k0_t13 : Fin k0_t13_loop.trips) (c0_i32_2076 : BitVec 32) : Fin 4 → Nat :=
  let c1_i32_2077 : BitVec 32 := 1#32
  let v2559 : Index := Scalar.indexCast c1_i32_2077
  let c3_i32_2078 : BitVec 32 := 3#32
  let v2560 : Index := Scalar.indexCast c3_i32_2078
  let c0_i32_1760 : BitVec 32 := 0#32
  let c1_i32_1762 : BitVec 32 := 1#32
  let arg13 : BitVec 32 := Scf.iv c0_i32_1760 c1_i32_1762 k0_t13
  let c5_i32_2075 : BitVec 32 := 5#32
  let v2557 : BitVec 32 := Scalar.muli arg13 c5_i32_2075
  let v2558 : BitVec 32 := Scalar.addi v2557 c0_i32_2076
  let v2561 : Index := Scalar.indexCast v2558
  let c96_2079 : Index := 96#32
  ![1, 3, v2561.toNat, 96]
def k0_off100 (k0_t13 : Fin k0_t13_loop.trips) (c0_i32_2081 : BitVec 32) : Fin 4 → Nat :=
  let c1_i32_2082 : BitVec 32 := 1#32
  let v2567 : Index := Scalar.indexCast c1_i32_2082
  let c3_i32_2083 : BitVec 32 := 3#32
  let v2568 : Index := Scalar.indexCast c3_i32_2083
  let c0_i32_1760 : BitVec 32 := 0#32
  let c1_i32_1762 : BitVec 32 := 1#32
  let arg13 : BitVec 32 := Scf.iv c0_i32_1760 c1_i32_1762 k0_t13
  let c5_i32_2080 : BitVec 32 := 5#32
  let v2565 : BitVec 32 := Scalar.muli arg13 c5_i32_2080
  let v2566 : BitVec 32 := Scalar.addi v2565 c0_i32_2081
  let v2569 : Index := Scalar.indexCast v2566
  let c112_2084 : Index := 112#32
  ![1, 3, v2569.toNat, 112]
@[reducible] def k0_t14_loop : Scf.Loop 32 :=
  let c0_i32_1804 : BitVec 32 := 0#32
  let c10_i32_1805 : BitVec 32 := 10#32
  let v2213 : BitVec 32 := Scalar.addi c0_i32_1804 c10_i32_1805
  let c1_i32_1806 : BitVec 32 := 1#32
  ⟨c0_i32_1804, v2213, c1_i32_1806⟩
def k0_off101 (k0_t14 : Fin k0_t14_loop.trips) (c0_i32_2046 : BitVec 32) : Fin 4 → Nat :=
  let c1_i32_2047 : BitVec 32 := 1#32
  let v2511 : Index := Scalar.indexCast c1_i32_2047
  let c4_i32_2048 : BitVec 32 := 4#32
  let v2512 : Index := Scalar.indexCast c4_i32_2048
  let c0_i32_1804 : BitVec 32 := 0#32
  let c1_i32_1806 : BitVec 32 := 1#32
  let arg13 : BitVec 32 := Scf.iv c0_i32_1804 c1_i32_1806 k0_t14
  let c5_i32_2045 : BitVec 32 := 5#32
  let v2509 : BitVec 32 := Scalar.muli arg13 c5_i32_2045
  let v2510 : BitVec 32 := Scalar.addi v2509 c0_i32_2046
  let v2513 : Index := Scalar.indexCast v2510
  let c0_2049 : Index := 0#32
  ![1, 4, v2513.toNat, 0]
def k0_off102 (k0_t14 : Fin k0_t14_loop.trips) (c0_i32_2051 : BitVec 32) : Fin 4 → Nat :=
  let c1_i32_2052 : BitVec 32 := 1#32
  let v2519 : Index := Scalar.indexCast c1_i32_2052
  let c4_i32_2053 : BitVec 32 := 4#32
  let v2520 : Index := Scalar.indexCast c4_i32_2053
  let c0_i32_1804 : BitVec 32 := 0#32
  let c1_i32_1806 : BitVec 32 := 1#32
  let arg13 : BitVec 32 := Scf.iv c0_i32_1804 c1_i32_1806 k0_t14
  let c5_i32_2050 : BitVec 32 := 5#32
  let v2517 : BitVec 32 := Scalar.muli arg13 c5_i32_2050
  let v2518 : BitVec 32 := Scalar.addi v2517 c0_i32_2051
  let v2521 : Index := Scalar.indexCast v2518
  let c16_2054 : Index := 16#32
  ![1, 4, v2521.toNat, 16]
def k0_off103 (k0_t14 : Fin k0_t14_loop.trips) (c0_i32_2056 : BitVec 32) : Fin 4 → Nat :=
  let c1_i32_2057 : BitVec 32 := 1#32
  let v2527 : Index := Scalar.indexCast c1_i32_2057
  let c4_i32_2058 : BitVec 32 := 4#32
  let v2528 : Index := Scalar.indexCast c4_i32_2058
  let c0_i32_1804 : BitVec 32 := 0#32
  let c1_i32_1806 : BitVec 32 := 1#32
  let arg13 : BitVec 32 := Scf.iv c0_i32_1804 c1_i32_1806 k0_t14
  let c5_i32_2055 : BitVec 32 := 5#32
  let v2525 : BitVec 32 := Scalar.muli arg13 c5_i32_2055
  let v2526 : BitVec 32 := Scalar.addi v2525 c0_i32_2056
  let v2529 : Index := Scalar.indexCast v2526
  let c32_2059 : Index := 32#32
  ![1, 4, v2529.toNat, 32]
def k0_off104 (k0_t14 : Fin k0_t14_loop.trips) (c0_i32_2061 : BitVec 32) : Fin 4 → Nat :=
  let c1_i32_2062 : BitVec 32 := 1#32
  let v2535 : Index := Scalar.indexCast c1_i32_2062
  let c4_i32_2063 : BitVec 32 := 4#32
  let v2536 : Index := Scalar.indexCast c4_i32_2063
  let c0_i32_1804 : BitVec 32 := 0#32
  let c1_i32_1806 : BitVec 32 := 1#32
  let arg13 : BitVec 32 := Scf.iv c0_i32_1804 c1_i32_1806 k0_t14
  let c5_i32_2060 : BitVec 32 := 5#32
  let v2533 : BitVec 32 := Scalar.muli arg13 c5_i32_2060
  let v2534 : BitVec 32 := Scalar.addi v2533 c0_i32_2061
  let v2537 : Index := Scalar.indexCast v2534
  let c48_2064 : Index := 48#32
  ![1, 4, v2537.toNat, 48]
def k0_off105 (k0_t14 : Fin k0_t14_loop.trips) (c0_i32_2066 : BitVec 32) : Fin 4 → Nat :=
  let c1_i32_2067 : BitVec 32 := 1#32
  let v2543 : Index := Scalar.indexCast c1_i32_2067
  let c4_i32_2068 : BitVec 32 := 4#32
  let v2544 : Index := Scalar.indexCast c4_i32_2068
  let c0_i32_1804 : BitVec 32 := 0#32
  let c1_i32_1806 : BitVec 32 := 1#32
  let arg13 : BitVec 32 := Scf.iv c0_i32_1804 c1_i32_1806 k0_t14
  let c5_i32_2065 : BitVec 32 := 5#32
  let v2541 : BitVec 32 := Scalar.muli arg13 c5_i32_2065
  let v2542 : BitVec 32 := Scalar.addi v2541 c0_i32_2066
  let v2545 : Index := Scalar.indexCast v2542
  let c64_2069 : Index := 64#32
  ![1, 4, v2545.toNat, 64]
def k0_off106 (k0_t14 : Fin k0_t14_loop.trips) (c0_i32_2071 : BitVec 32) : Fin 4 → Nat :=
  let c1_i32_2072 : BitVec 32 := 1#32
  let v2551 : Index := Scalar.indexCast c1_i32_2072
  let c4_i32_2073 : BitVec 32 := 4#32
  let v2552 : Index := Scalar.indexCast c4_i32_2073
  let c0_i32_1804 : BitVec 32 := 0#32
  let c1_i32_1806 : BitVec 32 := 1#32
  let arg13 : BitVec 32 := Scf.iv c0_i32_1804 c1_i32_1806 k0_t14
  let c5_i32_2070 : BitVec 32 := 5#32
  let v2549 : BitVec 32 := Scalar.muli arg13 c5_i32_2070
  let v2550 : BitVec 32 := Scalar.addi v2549 c0_i32_2071
  let v2553 : Index := Scalar.indexCast v2550
  let c80_2074 : Index := 80#32
  ![1, 4, v2553.toNat, 80]
def k0_off107 (k0_t14 : Fin k0_t14_loop.trips) (c0_i32_2076 : BitVec 32) : Fin 4 → Nat :=
  let c1_i32_2077 : BitVec 32 := 1#32
  let v2559 : Index := Scalar.indexCast c1_i32_2077
  let c4_i32_2078 : BitVec 32 := 4#32
  let v2560 : Index := Scalar.indexCast c4_i32_2078
  let c0_i32_1804 : BitVec 32 := 0#32
  let c1_i32_1806 : BitVec 32 := 1#32
  let arg13 : BitVec 32 := Scf.iv c0_i32_1804 c1_i32_1806 k0_t14
  let c5_i32_2075 : BitVec 32 := 5#32
  let v2557 : BitVec 32 := Scalar.muli arg13 c5_i32_2075
  let v2558 : BitVec 32 := Scalar.addi v2557 c0_i32_2076
  let v2561 : Index := Scalar.indexCast v2558
  let c96_2079 : Index := 96#32
  ![1, 4, v2561.toNat, 96]
def k0_off108 (k0_t14 : Fin k0_t14_loop.trips) (c0_i32_2081 : BitVec 32) : Fin 4 → Nat :=
  let c1_i32_2082 : BitVec 32 := 1#32
  let v2567 : Index := Scalar.indexCast c1_i32_2082
  let c4_i32_2083 : BitVec 32 := 4#32
  let v2568 : Index := Scalar.indexCast c4_i32_2083
  let c0_i32_1804 : BitVec 32 := 0#32
  let c1_i32_1806 : BitVec 32 := 1#32
  let arg13 : BitVec 32 := Scf.iv c0_i32_1804 c1_i32_1806 k0_t14
  let c5_i32_2080 : BitVec 32 := 5#32
  let v2565 : BitVec 32 := Scalar.muli arg13 c5_i32_2080
  let v2566 : BitVec 32 := Scalar.addi v2565 c0_i32_2081
  let v2569 : Index := Scalar.indexCast v2566
  let c112_2084 : Index := 112#32
  ![1, 4, v2569.toNat, 112]
@[reducible] def k0_t15_loop : Scf.Loop 32 :=
  let c0_i32_1848 : BitVec 32 := 0#32
  let c10_i32_1849 : BitVec 32 := 10#32
  let v2279 : BitVec 32 := Scalar.addi c0_i32_1848 c10_i32_1849
  let c1_i32_1850 : BitVec 32 := 1#32
  ⟨c0_i32_1848, v2279, c1_i32_1850⟩
def k0_off109 (k0_t15 : Fin k0_t15_loop.trips) (c0_i32_2046 : BitVec 32) : Fin 4 → Nat :=
  let c1_i32_2047 : BitVec 32 := 1#32
  let v2511 : Index := Scalar.indexCast c1_i32_2047
  let c5_i32_2048 : BitVec 32 := 5#32
  let v2512 : Index := Scalar.indexCast c5_i32_2048
  let c0_i32_1848 : BitVec 32 := 0#32
  let c1_i32_1850 : BitVec 32 := 1#32
  let arg13 : BitVec 32 := Scf.iv c0_i32_1848 c1_i32_1850 k0_t15
  let c5_i32_2045 : BitVec 32 := 5#32
  let v2509 : BitVec 32 := Scalar.muli arg13 c5_i32_2045
  let v2510 : BitVec 32 := Scalar.addi v2509 c0_i32_2046
  let v2513 : Index := Scalar.indexCast v2510
  let c0_2049 : Index := 0#32
  ![1, 5, v2513.toNat, 0]
def k0_off110 (k0_t15 : Fin k0_t15_loop.trips) (c0_i32_2051 : BitVec 32) : Fin 4 → Nat :=
  let c1_i32_2052 : BitVec 32 := 1#32
  let v2519 : Index := Scalar.indexCast c1_i32_2052
  let c5_i32_2053 : BitVec 32 := 5#32
  let v2520 : Index := Scalar.indexCast c5_i32_2053
  let c0_i32_1848 : BitVec 32 := 0#32
  let c1_i32_1850 : BitVec 32 := 1#32
  let arg13 : BitVec 32 := Scf.iv c0_i32_1848 c1_i32_1850 k0_t15
  let c5_i32_2050 : BitVec 32 := 5#32
  let v2517 : BitVec 32 := Scalar.muli arg13 c5_i32_2050
  let v2518 : BitVec 32 := Scalar.addi v2517 c0_i32_2051
  let v2521 : Index := Scalar.indexCast v2518
  let c16_2054 : Index := 16#32
  ![1, 5, v2521.toNat, 16]
def k0_off111 (k0_t15 : Fin k0_t15_loop.trips) (c0_i32_2056 : BitVec 32) : Fin 4 → Nat :=
  let c1_i32_2057 : BitVec 32 := 1#32
  let v2527 : Index := Scalar.indexCast c1_i32_2057
  let c5_i32_2058 : BitVec 32 := 5#32
  let v2528 : Index := Scalar.indexCast c5_i32_2058
  let c0_i32_1848 : BitVec 32 := 0#32
  let c1_i32_1850 : BitVec 32 := 1#32
  let arg13 : BitVec 32 := Scf.iv c0_i32_1848 c1_i32_1850 k0_t15
  let c5_i32_2055 : BitVec 32 := 5#32
  let v2525 : BitVec 32 := Scalar.muli arg13 c5_i32_2055
  let v2526 : BitVec 32 := Scalar.addi v2525 c0_i32_2056
  let v2529 : Index := Scalar.indexCast v2526
  let c32_2059 : Index := 32#32
  ![1, 5, v2529.toNat, 32]
def k0_off112 (k0_t15 : Fin k0_t15_loop.trips) (c0_i32_2061 : BitVec 32) : Fin 4 → Nat :=
  let c1_i32_2062 : BitVec 32 := 1#32
  let v2535 : Index := Scalar.indexCast c1_i32_2062
  let c5_i32_2063 : BitVec 32 := 5#32
  let v2536 : Index := Scalar.indexCast c5_i32_2063
  let c0_i32_1848 : BitVec 32 := 0#32
  let c1_i32_1850 : BitVec 32 := 1#32
  let arg13 : BitVec 32 := Scf.iv c0_i32_1848 c1_i32_1850 k0_t15
  let c5_i32_2060 : BitVec 32 := 5#32
  let v2533 : BitVec 32 := Scalar.muli arg13 c5_i32_2060
  let v2534 : BitVec 32 := Scalar.addi v2533 c0_i32_2061
  let v2537 : Index := Scalar.indexCast v2534
  let c48_2064 : Index := 48#32
  ![1, 5, v2537.toNat, 48]
def k0_off113 (k0_t15 : Fin k0_t15_loop.trips) (c0_i32_2066 : BitVec 32) : Fin 4 → Nat :=
  let c1_i32_2067 : BitVec 32 := 1#32
  let v2543 : Index := Scalar.indexCast c1_i32_2067
  let c5_i32_2068 : BitVec 32 := 5#32
  let v2544 : Index := Scalar.indexCast c5_i32_2068
  let c0_i32_1848 : BitVec 32 := 0#32
  let c1_i32_1850 : BitVec 32 := 1#32
  let arg13 : BitVec 32 := Scf.iv c0_i32_1848 c1_i32_1850 k0_t15
  let c5_i32_2065 : BitVec 32 := 5#32
  let v2541 : BitVec 32 := Scalar.muli arg13 c5_i32_2065
  let v2542 : BitVec 32 := Scalar.addi v2541 c0_i32_2066
  let v2545 : Index := Scalar.indexCast v2542
  let c64_2069 : Index := 64#32
  ![1, 5, v2545.toNat, 64]
def k0_off114 (k0_t15 : Fin k0_t15_loop.trips) (c0_i32_2071 : BitVec 32) : Fin 4 → Nat :=
  let c1_i32_2072 : BitVec 32 := 1#32
  let v2551 : Index := Scalar.indexCast c1_i32_2072
  let c5_i32_2073 : BitVec 32 := 5#32
  let v2552 : Index := Scalar.indexCast c5_i32_2073
  let c0_i32_1848 : BitVec 32 := 0#32
  let c1_i32_1850 : BitVec 32 := 1#32
  let arg13 : BitVec 32 := Scf.iv c0_i32_1848 c1_i32_1850 k0_t15
  let c5_i32_2070 : BitVec 32 := 5#32
  let v2549 : BitVec 32 := Scalar.muli arg13 c5_i32_2070
  let v2550 : BitVec 32 := Scalar.addi v2549 c0_i32_2071
  let v2553 : Index := Scalar.indexCast v2550
  let c80_2074 : Index := 80#32
  ![1, 5, v2553.toNat, 80]
def k0_off115 (k0_t15 : Fin k0_t15_loop.trips) (c0_i32_2076 : BitVec 32) : Fin 4 → Nat :=
  let c1_i32_2077 : BitVec 32 := 1#32
  let v2559 : Index := Scalar.indexCast c1_i32_2077
  let c5_i32_2078 : BitVec 32 := 5#32
  let v2560 : Index := Scalar.indexCast c5_i32_2078
  let c0_i32_1848 : BitVec 32 := 0#32
  let c1_i32_1850 : BitVec 32 := 1#32
  let arg13 : BitVec 32 := Scf.iv c0_i32_1848 c1_i32_1850 k0_t15
  let c5_i32_2075 : BitVec 32 := 5#32
  let v2557 : BitVec 32 := Scalar.muli arg13 c5_i32_2075
  let v2558 : BitVec 32 := Scalar.addi v2557 c0_i32_2076
  let v2561 : Index := Scalar.indexCast v2558
  let c96_2079 : Index := 96#32
  ![1, 5, v2561.toNat, 96]
def k0_off116 (k0_t15 : Fin k0_t15_loop.trips) (c0_i32_2081 : BitVec 32) : Fin 4 → Nat :=
  let c1_i32_2082 : BitVec 32 := 1#32
  let v2567 : Index := Scalar.indexCast c1_i32_2082
  let c5_i32_2083 : BitVec 32 := 5#32
  let v2568 : Index := Scalar.indexCast c5_i32_2083
  let c0_i32_1848 : BitVec 32 := 0#32
  let c1_i32_1850 : BitVec 32 := 1#32
  let arg13 : BitVec 32 := Scf.iv c0_i32_1848 c1_i32_1850 k0_t15
  let c5_i32_2080 : BitVec 32 := 5#32
  let v2565 : BitVec 32 := Scalar.muli arg13 c5_i32_2080
  let v2566 : BitVec 32 := Scalar.addi v2565 c0_i32_2081
  let v2569 : Index := Scalar.indexCast v2566
  let c112_2084 : Index := 112#32
  ![1, 5, v2569.toNat, 112]
@[reducible] def k0_t16_loop : Scf.Loop 32 :=
  let c0_i32_1892 : BitVec 32 := 0#32
  let c10_i32_1893 : BitVec 32 := 10#32
  let v2345 : BitVec 32 := Scalar.addi c0_i32_1892 c10_i32_1893
  let c1_i32_1894 : BitVec 32 := 1#32
  ⟨c0_i32_1892, v2345, c1_i32_1894⟩
def k0_off117 (k0_t16 : Fin k0_t16_loop.trips) (c0_i32_2046 : BitVec 32) : Fin 4 → Nat :=
  let c1_i32_2047 : BitVec 32 := 1#32
  let v2511 : Index := Scalar.indexCast c1_i32_2047
  let c6_i32_2048 : BitVec 32 := 6#32
  let v2512 : Index := Scalar.indexCast c6_i32_2048
  let c0_i32_1892 : BitVec 32 := 0#32
  let c1_i32_1894 : BitVec 32 := 1#32
  let arg13 : BitVec 32 := Scf.iv c0_i32_1892 c1_i32_1894 k0_t16
  let c5_i32_2045 : BitVec 32 := 5#32
  let v2509 : BitVec 32 := Scalar.muli arg13 c5_i32_2045
  let v2510 : BitVec 32 := Scalar.addi v2509 c0_i32_2046
  let v2513 : Index := Scalar.indexCast v2510
  let c0_2049 : Index := 0#32
  ![1, 6, v2513.toNat, 0]
def k0_off118 (k0_t16 : Fin k0_t16_loop.trips) (c0_i32_2051 : BitVec 32) : Fin 4 → Nat :=
  let c1_i32_2052 : BitVec 32 := 1#32
  let v2519 : Index := Scalar.indexCast c1_i32_2052
  let c6_i32_2053 : BitVec 32 := 6#32
  let v2520 : Index := Scalar.indexCast c6_i32_2053
  let c0_i32_1892 : BitVec 32 := 0#32
  let c1_i32_1894 : BitVec 32 := 1#32
  let arg13 : BitVec 32 := Scf.iv c0_i32_1892 c1_i32_1894 k0_t16
  let c5_i32_2050 : BitVec 32 := 5#32
  let v2517 : BitVec 32 := Scalar.muli arg13 c5_i32_2050
  let v2518 : BitVec 32 := Scalar.addi v2517 c0_i32_2051
  let v2521 : Index := Scalar.indexCast v2518
  let c16_2054 : Index := 16#32
  ![1, 6, v2521.toNat, 16]
def k0_off119 (k0_t16 : Fin k0_t16_loop.trips) (c0_i32_2056 : BitVec 32) : Fin 4 → Nat :=
  let c1_i32_2057 : BitVec 32 := 1#32
  let v2527 : Index := Scalar.indexCast c1_i32_2057
  let c6_i32_2058 : BitVec 32 := 6#32
  let v2528 : Index := Scalar.indexCast c6_i32_2058
  let c0_i32_1892 : BitVec 32 := 0#32
  let c1_i32_1894 : BitVec 32 := 1#32
  let arg13 : BitVec 32 := Scf.iv c0_i32_1892 c1_i32_1894 k0_t16
  let c5_i32_2055 : BitVec 32 := 5#32
  let v2525 : BitVec 32 := Scalar.muli arg13 c5_i32_2055
  let v2526 : BitVec 32 := Scalar.addi v2525 c0_i32_2056
  let v2529 : Index := Scalar.indexCast v2526
  let c32_2059 : Index := 32#32
  ![1, 6, v2529.toNat, 32]
def k0_off120 (k0_t16 : Fin k0_t16_loop.trips) (c0_i32_2061 : BitVec 32) : Fin 4 → Nat :=
  let c1_i32_2062 : BitVec 32 := 1#32
  let v2535 : Index := Scalar.indexCast c1_i32_2062
  let c6_i32_2063 : BitVec 32 := 6#32
  let v2536 : Index := Scalar.indexCast c6_i32_2063
  let c0_i32_1892 : BitVec 32 := 0#32
  let c1_i32_1894 : BitVec 32 := 1#32
  let arg13 : BitVec 32 := Scf.iv c0_i32_1892 c1_i32_1894 k0_t16
  let c5_i32_2060 : BitVec 32 := 5#32
  let v2533 : BitVec 32 := Scalar.muli arg13 c5_i32_2060
  let v2534 : BitVec 32 := Scalar.addi v2533 c0_i32_2061
  let v2537 : Index := Scalar.indexCast v2534
  let c48_2064 : Index := 48#32
  ![1, 6, v2537.toNat, 48]
def k0_off121 (k0_t16 : Fin k0_t16_loop.trips) (c0_i32_2066 : BitVec 32) : Fin 4 → Nat :=
  let c1_i32_2067 : BitVec 32 := 1#32
  let v2543 : Index := Scalar.indexCast c1_i32_2067
  let c6_i32_2068 : BitVec 32 := 6#32
  let v2544 : Index := Scalar.indexCast c6_i32_2068
  let c0_i32_1892 : BitVec 32 := 0#32
  let c1_i32_1894 : BitVec 32 := 1#32
  let arg13 : BitVec 32 := Scf.iv c0_i32_1892 c1_i32_1894 k0_t16
  let c5_i32_2065 : BitVec 32 := 5#32
  let v2541 : BitVec 32 := Scalar.muli arg13 c5_i32_2065
  let v2542 : BitVec 32 := Scalar.addi v2541 c0_i32_2066
  let v2545 : Index := Scalar.indexCast v2542
  let c64_2069 : Index := 64#32
  ![1, 6, v2545.toNat, 64]
def k0_off122 (k0_t16 : Fin k0_t16_loop.trips) (c0_i32_2071 : BitVec 32) : Fin 4 → Nat :=
  let c1_i32_2072 : BitVec 32 := 1#32
  let v2551 : Index := Scalar.indexCast c1_i32_2072
  let c6_i32_2073 : BitVec 32 := 6#32
  let v2552 : Index := Scalar.indexCast c6_i32_2073
  let c0_i32_1892 : BitVec 32 := 0#32
  let c1_i32_1894 : BitVec 32 := 1#32
  let arg13 : BitVec 32 := Scf.iv c0_i32_1892 c1_i32_1894 k0_t16
  let c5_i32_2070 : BitVec 32 := 5#32
  let v2549 : BitVec 32 := Scalar.muli arg13 c5_i32_2070
  let v2550 : BitVec 32 := Scalar.addi v2549 c0_i32_2071
  let v2553 : Index := Scalar.indexCast v2550
  let c80_2074 : Index := 80#32
  ![1, 6, v2553.toNat, 80]
def k0_off123 (k0_t16 : Fin k0_t16_loop.trips) (c0_i32_2076 : BitVec 32) : Fin 4 → Nat :=
  let c1_i32_2077 : BitVec 32 := 1#32
  let v2559 : Index := Scalar.indexCast c1_i32_2077
  let c6_i32_2078 : BitVec 32 := 6#32
  let v2560 : Index := Scalar.indexCast c6_i32_2078
  let c0_i32_1892 : BitVec 32 := 0#32
  let c1_i32_1894 : BitVec 32 := 1#32
  let arg13 : BitVec 32 := Scf.iv c0_i32_1892 c1_i32_1894 k0_t16
  let c5_i32_2075 : BitVec 32 := 5#32
  let v2557 : BitVec 32 := Scalar.muli arg13 c5_i32_2075
  let v2558 : BitVec 32 := Scalar.addi v2557 c0_i32_2076
  let v2561 : Index := Scalar.indexCast v2558
  let c96_2079 : Index := 96#32
  ![1, 6, v2561.toNat, 96]
def k0_off124 (k0_t16 : Fin k0_t16_loop.trips) (c0_i32_2081 : BitVec 32) : Fin 4 → Nat :=
  let c1_i32_2082 : BitVec 32 := 1#32
  let v2567 : Index := Scalar.indexCast c1_i32_2082
  let c6_i32_2083 : BitVec 32 := 6#32
  let v2568 : Index := Scalar.indexCast c6_i32_2083
  let c0_i32_1892 : BitVec 32 := 0#32
  let c1_i32_1894 : BitVec 32 := 1#32
  let arg13 : BitVec 32 := Scf.iv c0_i32_1892 c1_i32_1894 k0_t16
  let c5_i32_2080 : BitVec 32 := 5#32
  let v2565 : BitVec 32 := Scalar.muli arg13 c5_i32_2080
  let v2566 : BitVec 32 := Scalar.addi v2565 c0_i32_2081
  let v2569 : Index := Scalar.indexCast v2566
  let c112_2084 : Index := 112#32
  ![1, 6, v2569.toNat, 112]
@[reducible] def k0_t17_loop : Scf.Loop 32 :=
  let c0_i32_1936 : BitVec 32 := 0#32
  let c10_i32_1937 : BitVec 32 := 10#32
  let v2411 : BitVec 32 := Scalar.addi c0_i32_1936 c10_i32_1937
  let c1_i32_1938 : BitVec 32 := 1#32
  ⟨c0_i32_1936, v2411, c1_i32_1938⟩
def k0_off125 (k0_t17 : Fin k0_t17_loop.trips) (c0_i32_2046 : BitVec 32) : Fin 4 → Nat :=
  let c1_i32_2047 : BitVec 32 := 1#32
  let v2511 : Index := Scalar.indexCast c1_i32_2047
  let c7_i32_2048 : BitVec 32 := 7#32
  let v2512 : Index := Scalar.indexCast c7_i32_2048
  let c0_i32_1936 : BitVec 32 := 0#32
  let c1_i32_1938 : BitVec 32 := 1#32
  let arg13 : BitVec 32 := Scf.iv c0_i32_1936 c1_i32_1938 k0_t17
  let c5_i32_2045 : BitVec 32 := 5#32
  let v2509 : BitVec 32 := Scalar.muli arg13 c5_i32_2045
  let v2510 : BitVec 32 := Scalar.addi v2509 c0_i32_2046
  let v2513 : Index := Scalar.indexCast v2510
  let c0_2049 : Index := 0#32
  ![1, 7, v2513.toNat, 0]
def k0_off126 (k0_t17 : Fin k0_t17_loop.trips) (c0_i32_2051 : BitVec 32) : Fin 4 → Nat :=
  let c1_i32_2052 : BitVec 32 := 1#32
  let v2519 : Index := Scalar.indexCast c1_i32_2052
  let c7_i32_2053 : BitVec 32 := 7#32
  let v2520 : Index := Scalar.indexCast c7_i32_2053
  let c0_i32_1936 : BitVec 32 := 0#32
  let c1_i32_1938 : BitVec 32 := 1#32
  let arg13 : BitVec 32 := Scf.iv c0_i32_1936 c1_i32_1938 k0_t17
  let c5_i32_2050 : BitVec 32 := 5#32
  let v2517 : BitVec 32 := Scalar.muli arg13 c5_i32_2050
  let v2518 : BitVec 32 := Scalar.addi v2517 c0_i32_2051
  let v2521 : Index := Scalar.indexCast v2518
  let c16_2054 : Index := 16#32
  ![1, 7, v2521.toNat, 16]
def k0_off127 (k0_t17 : Fin k0_t17_loop.trips) (c0_i32_2056 : BitVec 32) : Fin 4 → Nat :=
  let c1_i32_2057 : BitVec 32 := 1#32
  let v2527 : Index := Scalar.indexCast c1_i32_2057
  let c7_i32_2058 : BitVec 32 := 7#32
  let v2528 : Index := Scalar.indexCast c7_i32_2058
  let c0_i32_1936 : BitVec 32 := 0#32
  let c1_i32_1938 : BitVec 32 := 1#32
  let arg13 : BitVec 32 := Scf.iv c0_i32_1936 c1_i32_1938 k0_t17
  let c5_i32_2055 : BitVec 32 := 5#32
  let v2525 : BitVec 32 := Scalar.muli arg13 c5_i32_2055
  let v2526 : BitVec 32 := Scalar.addi v2525 c0_i32_2056
  let v2529 : Index := Scalar.indexCast v2526
  let c32_2059 : Index := 32#32
  ![1, 7, v2529.toNat, 32]
def k0_off128 (k0_t17 : Fin k0_t17_loop.trips) (c0_i32_2061 : BitVec 32) : Fin 4 → Nat :=
  let c1_i32_2062 : BitVec 32 := 1#32
  let v2535 : Index := Scalar.indexCast c1_i32_2062
  let c7_i32_2063 : BitVec 32 := 7#32
  let v2536 : Index := Scalar.indexCast c7_i32_2063
  let c0_i32_1936 : BitVec 32 := 0#32
  let c1_i32_1938 : BitVec 32 := 1#32
  let arg13 : BitVec 32 := Scf.iv c0_i32_1936 c1_i32_1938 k0_t17
  let c5_i32_2060 : BitVec 32 := 5#32
  let v2533 : BitVec 32 := Scalar.muli arg13 c5_i32_2060
  let v2534 : BitVec 32 := Scalar.addi v2533 c0_i32_2061
  let v2537 : Index := Scalar.indexCast v2534
  let c48_2064 : Index := 48#32
  ![1, 7, v2537.toNat, 48]
def k0_off129 (k0_t17 : Fin k0_t17_loop.trips) (c0_i32_2066 : BitVec 32) : Fin 4 → Nat :=
  let c1_i32_2067 : BitVec 32 := 1#32
  let v2543 : Index := Scalar.indexCast c1_i32_2067
  let c7_i32_2068 : BitVec 32 := 7#32
  let v2544 : Index := Scalar.indexCast c7_i32_2068
  let c0_i32_1936 : BitVec 32 := 0#32
  let c1_i32_1938 : BitVec 32 := 1#32
  let arg13 : BitVec 32 := Scf.iv c0_i32_1936 c1_i32_1938 k0_t17
  let c5_i32_2065 : BitVec 32 := 5#32
  let v2541 : BitVec 32 := Scalar.muli arg13 c5_i32_2065
  let v2542 : BitVec 32 := Scalar.addi v2541 c0_i32_2066
  let v2545 : Index := Scalar.indexCast v2542
  let c64_2069 : Index := 64#32
  ![1, 7, v2545.toNat, 64]
def k0_off130 (k0_t17 : Fin k0_t17_loop.trips) (c0_i32_2071 : BitVec 32) : Fin 4 → Nat :=
  let c1_i32_2072 : BitVec 32 := 1#32
  let v2551 : Index := Scalar.indexCast c1_i32_2072
  let c7_i32_2073 : BitVec 32 := 7#32
  let v2552 : Index := Scalar.indexCast c7_i32_2073
  let c0_i32_1936 : BitVec 32 := 0#32
  let c1_i32_1938 : BitVec 32 := 1#32
  let arg13 : BitVec 32 := Scf.iv c0_i32_1936 c1_i32_1938 k0_t17
  let c5_i32_2070 : BitVec 32 := 5#32
  let v2549 : BitVec 32 := Scalar.muli arg13 c5_i32_2070
  let v2550 : BitVec 32 := Scalar.addi v2549 c0_i32_2071
  let v2553 : Index := Scalar.indexCast v2550
  let c80_2074 : Index := 80#32
  ![1, 7, v2553.toNat, 80]
def k0_off131 (k0_t17 : Fin k0_t17_loop.trips) (c0_i32_2076 : BitVec 32) : Fin 4 → Nat :=
  let c1_i32_2077 : BitVec 32 := 1#32
  let v2559 : Index := Scalar.indexCast c1_i32_2077
  let c7_i32_2078 : BitVec 32 := 7#32
  let v2560 : Index := Scalar.indexCast c7_i32_2078
  let c0_i32_1936 : BitVec 32 := 0#32
  let c1_i32_1938 : BitVec 32 := 1#32
  let arg13 : BitVec 32 := Scf.iv c0_i32_1936 c1_i32_1938 k0_t17
  let c5_i32_2075 : BitVec 32 := 5#32
  let v2557 : BitVec 32 := Scalar.muli arg13 c5_i32_2075
  let v2558 : BitVec 32 := Scalar.addi v2557 c0_i32_2076
  let v2561 : Index := Scalar.indexCast v2558
  let c96_2079 : Index := 96#32
  ![1, 7, v2561.toNat, 96]
def k0_off132 (k0_t17 : Fin k0_t17_loop.trips) (c0_i32_2081 : BitVec 32) : Fin 4 → Nat :=
  let c1_i32_2082 : BitVec 32 := 1#32
  let v2567 : Index := Scalar.indexCast c1_i32_2082
  let c7_i32_2083 : BitVec 32 := 7#32
  let v2568 : Index := Scalar.indexCast c7_i32_2083
  let c0_i32_1936 : BitVec 32 := 0#32
  let c1_i32_1938 : BitVec 32 := 1#32
  let arg13 : BitVec 32 := Scf.iv c0_i32_1936 c1_i32_1938 k0_t17
  let c5_i32_2080 : BitVec 32 := 5#32
  let v2565 : BitVec 32 := Scalar.muli arg13 c5_i32_2080
  let v2566 : BitVec 32 := Scalar.addi v2565 c0_i32_2081
  let v2569 : Index := Scalar.indexCast v2566
  let c112_2084 : Index := 112#32
  ![1, 7, v2569.toNat, 112]
def k0_off133 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_1011 : BitVec 32 := 0#32
  let c0_i32_159 : BitVec 32 := 0#32
  let c1_i32_160 : BitVec 32 := 1#32
  let arg12 : BitVec 32 := Scf.iv c0_i32_159 c1_i32_160 k0_t1
  let c2_i32_1010 : BitVec 32 := 2#32
  let v1250 : BitVec 32 := Scalar.muli arg12 c2_i32_1010
  let v1251 : BitVec 32 := Scalar.addi c0_i32_1011 v1250
  let c1_i32_1528 : BitVec 32 := 1#32
  let v1880 : BitVec 32 := Scalar.addi v1251 c1_i32_1528
  let c8_i32_1619 : BitVec 32 := 8#32
  let v1939 : BitVec 32 := Scalar.muli v1880 c8_i32_1619
  let v1940 : BitVec 32 := Scalar.addi v2 v1939
  let c0_i32_2047_r1 : BitVec 32 := 0#32
  ![v1940.toNat, 0]
@[reducible] def k0_t18_loop : Scf.Loop 32 :=
  let c0_i32_248 : BitVec 32 := 0#32
  let c10_i32 : BitVec 32 := 10#32
  let v161 : BitVec 32 := Scalar.addi c0_i32_248 c10_i32
  let c1_i32_249 : BitVec 32 := 1#32
  ⟨c0_i32_248, v161, c1_i32_249⟩
def k0_off134 (k0_t18 : Fin k0_t18_loop.trips) (c0_i32_1011 : BitVec 32) : Fin 4 → Nat :=
  let c0_i32_1012 : BitVec 32 := 0#32
  let v1252 : Index := Scalar.indexCast c0_i32_1012
  let c0_i32_1013 : BitVec 32 := 0#32
  let v1253 : Index := Scalar.indexCast c0_i32_1013
  let c0_i32_248 : BitVec 32 := 0#32
  let c1_i32_249 : BitVec 32 := 1#32
  let arg12 : BitVec 32 := Scf.iv c0_i32_248 c1_i32_249 k0_t18
  let c5_i32_1010 : BitVec 32 := 5#32
  let v1250 : BitVec 32 := Scalar.muli arg12 c5_i32_1010
  let v1251 : BitVec 32 := Scalar.addi v1250 c0_i32_1011
  let v1254 : Index := Scalar.indexCast v1251
  let c0_1014 : Index := 0#32
  ![0, 0, v1254.toNat, 0]
def k0_off135 (k0_t18 : Fin k0_t18_loop.trips) (c0_i32_1016 : BitVec 32) : Fin 4 → Nat :=
  let c0_i32_1017 : BitVec 32 := 0#32
  let v1260 : Index := Scalar.indexCast c0_i32_1017
  let c0_i32_1018 : BitVec 32 := 0#32
  let v1261 : Index := Scalar.indexCast c0_i32_1018
  let c0_i32_248 : BitVec 32 := 0#32
  let c1_i32_249 : BitVec 32 := 1#32
  let arg12 : BitVec 32 := Scf.iv c0_i32_248 c1_i32_249 k0_t18
  let c5_i32_1015 : BitVec 32 := 5#32
  let v1258 : BitVec 32 := Scalar.muli arg12 c5_i32_1015
  let v1259 : BitVec 32 := Scalar.addi v1258 c0_i32_1016
  let v1262 : Index := Scalar.indexCast v1259
  let c16_1019 : Index := 16#32
  ![0, 0, v1262.toNat, 16]
def k0_off136 (k0_t18 : Fin k0_t18_loop.trips) (c0_i32_1021 : BitVec 32) : Fin 4 → Nat :=
  let c0_i32_1022 : BitVec 32 := 0#32
  let v1268 : Index := Scalar.indexCast c0_i32_1022
  let c0_i32_1023 : BitVec 32 := 0#32
  let v1269 : Index := Scalar.indexCast c0_i32_1023
  let c0_i32_248 : BitVec 32 := 0#32
  let c1_i32_249 : BitVec 32 := 1#32
  let arg12 : BitVec 32 := Scf.iv c0_i32_248 c1_i32_249 k0_t18
  let c5_i32_1020 : BitVec 32 := 5#32
  let v1266 : BitVec 32 := Scalar.muli arg12 c5_i32_1020
  let v1267 : BitVec 32 := Scalar.addi v1266 c0_i32_1021
  let v1270 : Index := Scalar.indexCast v1267
  let c32_1024 : Index := 32#32
  ![0, 0, v1270.toNat, 32]
def k0_off137 (k0_t18 : Fin k0_t18_loop.trips) (c0_i32_1026 : BitVec 32) : Fin 4 → Nat :=
  let c0_i32_1027 : BitVec 32 := 0#32
  let v1276 : Index := Scalar.indexCast c0_i32_1027
  let c0_i32_1028 : BitVec 32 := 0#32
  let v1277 : Index := Scalar.indexCast c0_i32_1028
  let c0_i32_248 : BitVec 32 := 0#32
  let c1_i32_249 : BitVec 32 := 1#32
  let arg12 : BitVec 32 := Scf.iv c0_i32_248 c1_i32_249 k0_t18
  let c5_i32_1025 : BitVec 32 := 5#32
  let v1274 : BitVec 32 := Scalar.muli arg12 c5_i32_1025
  let v1275 : BitVec 32 := Scalar.addi v1274 c0_i32_1026
  let v1278 : Index := Scalar.indexCast v1275
  let c48_1029 : Index := 48#32
  ![0, 0, v1278.toNat, 48]
def k0_off138 (k0_t18 : Fin k0_t18_loop.trips) (c0_i32_1031 : BitVec 32) : Fin 4 → Nat :=
  let c0_i32_1032 : BitVec 32 := 0#32
  let v1284 : Index := Scalar.indexCast c0_i32_1032
  let c0_i32_1033 : BitVec 32 := 0#32
  let v1285 : Index := Scalar.indexCast c0_i32_1033
  let c0_i32_248 : BitVec 32 := 0#32
  let c1_i32_249 : BitVec 32 := 1#32
  let arg12 : BitVec 32 := Scf.iv c0_i32_248 c1_i32_249 k0_t18
  let c5_i32_1030 : BitVec 32 := 5#32
  let v1282 : BitVec 32 := Scalar.muli arg12 c5_i32_1030
  let v1283 : BitVec 32 := Scalar.addi v1282 c0_i32_1031
  let v1286 : Index := Scalar.indexCast v1283
  let c64_1034 : Index := 64#32
  ![0, 0, v1286.toNat, 64]
def k0_off139 (k0_t18 : Fin k0_t18_loop.trips) (c0_i32_1036 : BitVec 32) : Fin 4 → Nat :=
  let c0_i32_1037 : BitVec 32 := 0#32
  let v1292 : Index := Scalar.indexCast c0_i32_1037
  let c0_i32_1038 : BitVec 32 := 0#32
  let v1293 : Index := Scalar.indexCast c0_i32_1038
  let c0_i32_248 : BitVec 32 := 0#32
  let c1_i32_249 : BitVec 32 := 1#32
  let arg12 : BitVec 32 := Scf.iv c0_i32_248 c1_i32_249 k0_t18
  let c5_i32_1035 : BitVec 32 := 5#32
  let v1290 : BitVec 32 := Scalar.muli arg12 c5_i32_1035
  let v1291 : BitVec 32 := Scalar.addi v1290 c0_i32_1036
  let v1294 : Index := Scalar.indexCast v1291
  let c80_1039 : Index := 80#32
  ![0, 0, v1294.toNat, 80]
def k0_off140 (k0_t18 : Fin k0_t18_loop.trips) (c0_i32_1041 : BitVec 32) : Fin 4 → Nat :=
  let c0_i32_1042 : BitVec 32 := 0#32
  let v1300 : Index := Scalar.indexCast c0_i32_1042
  let c0_i32_1043 : BitVec 32 := 0#32
  let v1301 : Index := Scalar.indexCast c0_i32_1043
  let c0_i32_248 : BitVec 32 := 0#32
  let c1_i32_249 : BitVec 32 := 1#32
  let arg12 : BitVec 32 := Scf.iv c0_i32_248 c1_i32_249 k0_t18
  let c5_i32_1040 : BitVec 32 := 5#32
  let v1298 : BitVec 32 := Scalar.muli arg12 c5_i32_1040
  let v1299 : BitVec 32 := Scalar.addi v1298 c0_i32_1041
  let v1302 : Index := Scalar.indexCast v1299
  let c96_1044 : Index := 96#32
  ![0, 0, v1302.toNat, 96]
def k0_off141 (k0_t18 : Fin k0_t18_loop.trips) (c0_i32_1046 : BitVec 32) : Fin 4 → Nat :=
  let c0_i32_1047 : BitVec 32 := 0#32
  let v1308 : Index := Scalar.indexCast c0_i32_1047
  let c0_i32_1048 : BitVec 32 := 0#32
  let v1309 : Index := Scalar.indexCast c0_i32_1048
  let c0_i32_248 : BitVec 32 := 0#32
  let c1_i32_249 : BitVec 32 := 1#32
  let arg12 : BitVec 32 := Scf.iv c0_i32_248 c1_i32_249 k0_t18
  let c5_i32_1045 : BitVec 32 := 5#32
  let v1306 : BitVec 32 := Scalar.muli arg12 c5_i32_1045
  let v1307 : BitVec 32 := Scalar.addi v1306 c0_i32_1046
  let v1310 : Index := Scalar.indexCast v1307
  let c112_1049 : Index := 112#32
  ![0, 0, v1310.toNat, 112]
@[reducible] def k0_t19_loop : Scf.Loop 32 :=
  let c0_i32_283 : BitVec 32 := 0#32
  let c10_i32_284 : BitVec 32 := 10#32
  let v227 : BitVec 32 := Scalar.addi c0_i32_283 c10_i32_284
  let c1_i32_285 : BitVec 32 := 1#32
  ⟨c0_i32_283, v227, c1_i32_285⟩
def k0_off142 (k0_t19 : Fin k0_t19_loop.trips) (c0_i32_1011 : BitVec 32) : Fin 4 → Nat :=
  let c0_i32_1012 : BitVec 32 := 0#32
  let v1252 : Index := Scalar.indexCast c0_i32_1012
  let c1_i32_1013 : BitVec 32 := 1#32
  let v1253 : Index := Scalar.indexCast c1_i32_1013
  let c0_i32_283 : BitVec 32 := 0#32
  let c1_i32_285 : BitVec 32 := 1#32
  let arg12 : BitVec 32 := Scf.iv c0_i32_283 c1_i32_285 k0_t19
  let c5_i32_1010 : BitVec 32 := 5#32
  let v1250 : BitVec 32 := Scalar.muli arg12 c5_i32_1010
  let v1251 : BitVec 32 := Scalar.addi v1250 c0_i32_1011
  let v1254 : Index := Scalar.indexCast v1251
  let c0_1014 : Index := 0#32
  ![0, 1, v1254.toNat, 0]
def k0_off143 (k0_t19 : Fin k0_t19_loop.trips) (c0_i32_1016 : BitVec 32) : Fin 4 → Nat :=
  let c0_i32_1017 : BitVec 32 := 0#32
  let v1260 : Index := Scalar.indexCast c0_i32_1017
  let c1_i32_1018 : BitVec 32 := 1#32
  let v1261 : Index := Scalar.indexCast c1_i32_1018
  let c0_i32_283 : BitVec 32 := 0#32
  let c1_i32_285 : BitVec 32 := 1#32
  let arg12 : BitVec 32 := Scf.iv c0_i32_283 c1_i32_285 k0_t19
  let c5_i32_1015 : BitVec 32 := 5#32
  let v1258 : BitVec 32 := Scalar.muli arg12 c5_i32_1015
  let v1259 : BitVec 32 := Scalar.addi v1258 c0_i32_1016
  let v1262 : Index := Scalar.indexCast v1259
  let c16_1019 : Index := 16#32
  ![0, 1, v1262.toNat, 16]
def k0_off144 (k0_t19 : Fin k0_t19_loop.trips) (c0_i32_1021 : BitVec 32) : Fin 4 → Nat :=
  let c0_i32_1022 : BitVec 32 := 0#32
  let v1268 : Index := Scalar.indexCast c0_i32_1022
  let c1_i32_1023 : BitVec 32 := 1#32
  let v1269 : Index := Scalar.indexCast c1_i32_1023
  let c0_i32_283 : BitVec 32 := 0#32
  let c1_i32_285 : BitVec 32 := 1#32
  let arg12 : BitVec 32 := Scf.iv c0_i32_283 c1_i32_285 k0_t19
  let c5_i32_1020 : BitVec 32 := 5#32
  let v1266 : BitVec 32 := Scalar.muli arg12 c5_i32_1020
  let v1267 : BitVec 32 := Scalar.addi v1266 c0_i32_1021
  let v1270 : Index := Scalar.indexCast v1267
  let c32_1024 : Index := 32#32
  ![0, 1, v1270.toNat, 32]
def k0_off145 (k0_t19 : Fin k0_t19_loop.trips) (c0_i32_1026 : BitVec 32) : Fin 4 → Nat :=
  let c0_i32_1027 : BitVec 32 := 0#32
  let v1276 : Index := Scalar.indexCast c0_i32_1027
  let c1_i32_1028 : BitVec 32 := 1#32
  let v1277 : Index := Scalar.indexCast c1_i32_1028
  let c0_i32_283 : BitVec 32 := 0#32
  let c1_i32_285 : BitVec 32 := 1#32
  let arg12 : BitVec 32 := Scf.iv c0_i32_283 c1_i32_285 k0_t19
  let c5_i32_1025 : BitVec 32 := 5#32
  let v1274 : BitVec 32 := Scalar.muli arg12 c5_i32_1025
  let v1275 : BitVec 32 := Scalar.addi v1274 c0_i32_1026
  let v1278 : Index := Scalar.indexCast v1275
  let c48_1029 : Index := 48#32
  ![0, 1, v1278.toNat, 48]
def k0_off146 (k0_t19 : Fin k0_t19_loop.trips) (c0_i32_1031 : BitVec 32) : Fin 4 → Nat :=
  let c0_i32_1032 : BitVec 32 := 0#32
  let v1284 : Index := Scalar.indexCast c0_i32_1032
  let c1_i32_1033 : BitVec 32 := 1#32
  let v1285 : Index := Scalar.indexCast c1_i32_1033
  let c0_i32_283 : BitVec 32 := 0#32
  let c1_i32_285 : BitVec 32 := 1#32
  let arg12 : BitVec 32 := Scf.iv c0_i32_283 c1_i32_285 k0_t19
  let c5_i32_1030 : BitVec 32 := 5#32
  let v1282 : BitVec 32 := Scalar.muli arg12 c5_i32_1030
  let v1283 : BitVec 32 := Scalar.addi v1282 c0_i32_1031
  let v1286 : Index := Scalar.indexCast v1283
  let c64_1034 : Index := 64#32
  ![0, 1, v1286.toNat, 64]
def k0_off147 (k0_t19 : Fin k0_t19_loop.trips) (c0_i32_1036 : BitVec 32) : Fin 4 → Nat :=
  let c0_i32_1037 : BitVec 32 := 0#32
  let v1292 : Index := Scalar.indexCast c0_i32_1037
  let c1_i32_1038 : BitVec 32 := 1#32
  let v1293 : Index := Scalar.indexCast c1_i32_1038
  let c0_i32_283 : BitVec 32 := 0#32
  let c1_i32_285 : BitVec 32 := 1#32
  let arg12 : BitVec 32 := Scf.iv c0_i32_283 c1_i32_285 k0_t19
  let c5_i32_1035 : BitVec 32 := 5#32
  let v1290 : BitVec 32 := Scalar.muli arg12 c5_i32_1035
  let v1291 : BitVec 32 := Scalar.addi v1290 c0_i32_1036
  let v1294 : Index := Scalar.indexCast v1291
  let c80_1039 : Index := 80#32
  ![0, 1, v1294.toNat, 80]
def k0_off148 (k0_t19 : Fin k0_t19_loop.trips) (c0_i32_1041 : BitVec 32) : Fin 4 → Nat :=
  let c0_i32_1042 : BitVec 32 := 0#32
  let v1300 : Index := Scalar.indexCast c0_i32_1042
  let c1_i32_1043 : BitVec 32 := 1#32
  let v1301 : Index := Scalar.indexCast c1_i32_1043
  let c0_i32_283 : BitVec 32 := 0#32
  let c1_i32_285 : BitVec 32 := 1#32
  let arg12 : BitVec 32 := Scf.iv c0_i32_283 c1_i32_285 k0_t19
  let c5_i32_1040 : BitVec 32 := 5#32
  let v1298 : BitVec 32 := Scalar.muli arg12 c5_i32_1040
  let v1299 : BitVec 32 := Scalar.addi v1298 c0_i32_1041
  let v1302 : Index := Scalar.indexCast v1299
  let c96_1044 : Index := 96#32
  ![0, 1, v1302.toNat, 96]
def k0_off149 (k0_t19 : Fin k0_t19_loop.trips) (c0_i32_1046 : BitVec 32) : Fin 4 → Nat :=
  let c0_i32_1047 : BitVec 32 := 0#32
  let v1308 : Index := Scalar.indexCast c0_i32_1047
  let c1_i32_1048 : BitVec 32 := 1#32
  let v1309 : Index := Scalar.indexCast c1_i32_1048
  let c0_i32_283 : BitVec 32 := 0#32
  let c1_i32_285 : BitVec 32 := 1#32
  let arg12 : BitVec 32 := Scf.iv c0_i32_283 c1_i32_285 k0_t19
  let c5_i32_1045 : BitVec 32 := 5#32
  let v1306 : BitVec 32 := Scalar.muli arg12 c5_i32_1045
  let v1307 : BitVec 32 := Scalar.addi v1306 c0_i32_1046
  let v1310 : Index := Scalar.indexCast v1307
  let c112_1049 : Index := 112#32
  ![0, 1, v1310.toNat, 112]
@[reducible] def k0_t20_loop : Scf.Loop 32 :=
  let c0_i32_327 : BitVec 32 := 0#32
  let c10_i32_328 : BitVec 32 := 10#32
  let v293 : BitVec 32 := Scalar.addi c0_i32_327 c10_i32_328
  let c1_i32_329 : BitVec 32 := 1#32
  ⟨c0_i32_327, v293, c1_i32_329⟩
def k0_off150 (k0_t20 : Fin k0_t20_loop.trips) (c0_i32_1011 : BitVec 32) : Fin 4 → Nat :=
  let c0_i32_1012 : BitVec 32 := 0#32
  let v1252 : Index := Scalar.indexCast c0_i32_1012
  let c2_i32_1013 : BitVec 32 := 2#32
  let v1253 : Index := Scalar.indexCast c2_i32_1013
  let c0_i32_327 : BitVec 32 := 0#32
  let c1_i32_329 : BitVec 32 := 1#32
  let arg12 : BitVec 32 := Scf.iv c0_i32_327 c1_i32_329 k0_t20
  let c5_i32_1010 : BitVec 32 := 5#32
  let v1250 : BitVec 32 := Scalar.muli arg12 c5_i32_1010
  let v1251 : BitVec 32 := Scalar.addi v1250 c0_i32_1011
  let v1254 : Index := Scalar.indexCast v1251
  let c0_1014 : Index := 0#32
  ![0, 2, v1254.toNat, 0]
def k0_off151 (k0_t20 : Fin k0_t20_loop.trips) (c0_i32_1016 : BitVec 32) : Fin 4 → Nat :=
  let c0_i32_1017 : BitVec 32 := 0#32
  let v1260 : Index := Scalar.indexCast c0_i32_1017
  let c2_i32_1018 : BitVec 32 := 2#32
  let v1261 : Index := Scalar.indexCast c2_i32_1018
  let c0_i32_327 : BitVec 32 := 0#32
  let c1_i32_329 : BitVec 32 := 1#32
  let arg12 : BitVec 32 := Scf.iv c0_i32_327 c1_i32_329 k0_t20
  let c5_i32_1015 : BitVec 32 := 5#32
  let v1258 : BitVec 32 := Scalar.muli arg12 c5_i32_1015
  let v1259 : BitVec 32 := Scalar.addi v1258 c0_i32_1016
  let v1262 : Index := Scalar.indexCast v1259
  let c16_1019 : Index := 16#32
  ![0, 2, v1262.toNat, 16]
def k0_off152 (k0_t20 : Fin k0_t20_loop.trips) (c0_i32_1021 : BitVec 32) : Fin 4 → Nat :=
  let c0_i32_1022 : BitVec 32 := 0#32
  let v1268 : Index := Scalar.indexCast c0_i32_1022
  let c2_i32_1023 : BitVec 32 := 2#32
  let v1269 : Index := Scalar.indexCast c2_i32_1023
  let c0_i32_327 : BitVec 32 := 0#32
  let c1_i32_329 : BitVec 32 := 1#32
  let arg12 : BitVec 32 := Scf.iv c0_i32_327 c1_i32_329 k0_t20
  let c5_i32_1020 : BitVec 32 := 5#32
  let v1266 : BitVec 32 := Scalar.muli arg12 c5_i32_1020
  let v1267 : BitVec 32 := Scalar.addi v1266 c0_i32_1021
  let v1270 : Index := Scalar.indexCast v1267
  let c32_1024 : Index := 32#32
  ![0, 2, v1270.toNat, 32]
def k0_off153 (k0_t20 : Fin k0_t20_loop.trips) (c0_i32_1026 : BitVec 32) : Fin 4 → Nat :=
  let c0_i32_1027 : BitVec 32 := 0#32
  let v1276 : Index := Scalar.indexCast c0_i32_1027
  let c2_i32_1028 : BitVec 32 := 2#32
  let v1277 : Index := Scalar.indexCast c2_i32_1028
  let c0_i32_327 : BitVec 32 := 0#32
  let c1_i32_329 : BitVec 32 := 1#32
  let arg12 : BitVec 32 := Scf.iv c0_i32_327 c1_i32_329 k0_t20
  let c5_i32_1025 : BitVec 32 := 5#32
  let v1274 : BitVec 32 := Scalar.muli arg12 c5_i32_1025
  let v1275 : BitVec 32 := Scalar.addi v1274 c0_i32_1026
  let v1278 : Index := Scalar.indexCast v1275
  let c48_1029 : Index := 48#32
  ![0, 2, v1278.toNat, 48]
def k0_off154 (k0_t20 : Fin k0_t20_loop.trips) (c0_i32_1031 : BitVec 32) : Fin 4 → Nat :=
  let c0_i32_1032 : BitVec 32 := 0#32
  let v1284 : Index := Scalar.indexCast c0_i32_1032
  let c2_i32_1033 : BitVec 32 := 2#32
  let v1285 : Index := Scalar.indexCast c2_i32_1033
  let c0_i32_327 : BitVec 32 := 0#32
  let c1_i32_329 : BitVec 32 := 1#32
  let arg12 : BitVec 32 := Scf.iv c0_i32_327 c1_i32_329 k0_t20
  let c5_i32_1030 : BitVec 32 := 5#32
  let v1282 : BitVec 32 := Scalar.muli arg12 c5_i32_1030
  let v1283 : BitVec 32 := Scalar.addi v1282 c0_i32_1031
  let v1286 : Index := Scalar.indexCast v1283
  let c64_1034 : Index := 64#32
  ![0, 2, v1286.toNat, 64]
def k0_off155 (k0_t20 : Fin k0_t20_loop.trips) (c0_i32_1036 : BitVec 32) : Fin 4 → Nat :=
  let c0_i32_1037 : BitVec 32 := 0#32
  let v1292 : Index := Scalar.indexCast c0_i32_1037
  let c2_i32_1038 : BitVec 32 := 2#32
  let v1293 : Index := Scalar.indexCast c2_i32_1038
  let c0_i32_327 : BitVec 32 := 0#32
  let c1_i32_329 : BitVec 32 := 1#32
  let arg12 : BitVec 32 := Scf.iv c0_i32_327 c1_i32_329 k0_t20
  let c5_i32_1035 : BitVec 32 := 5#32
  let v1290 : BitVec 32 := Scalar.muli arg12 c5_i32_1035
  let v1291 : BitVec 32 := Scalar.addi v1290 c0_i32_1036
  let v1294 : Index := Scalar.indexCast v1291
  let c80_1039 : Index := 80#32
  ![0, 2, v1294.toNat, 80]
def k0_off156 (k0_t20 : Fin k0_t20_loop.trips) (c0_i32_1041 : BitVec 32) : Fin 4 → Nat :=
  let c0_i32_1042 : BitVec 32 := 0#32
  let v1300 : Index := Scalar.indexCast c0_i32_1042
  let c2_i32_1043 : BitVec 32 := 2#32
  let v1301 : Index := Scalar.indexCast c2_i32_1043
  let c0_i32_327 : BitVec 32 := 0#32
  let c1_i32_329 : BitVec 32 := 1#32
  let arg12 : BitVec 32 := Scf.iv c0_i32_327 c1_i32_329 k0_t20
  let c5_i32_1040 : BitVec 32 := 5#32
  let v1298 : BitVec 32 := Scalar.muli arg12 c5_i32_1040
  let v1299 : BitVec 32 := Scalar.addi v1298 c0_i32_1041
  let v1302 : Index := Scalar.indexCast v1299
  let c96_1044 : Index := 96#32
  ![0, 2, v1302.toNat, 96]
def k0_off157 (k0_t20 : Fin k0_t20_loop.trips) (c0_i32_1046 : BitVec 32) : Fin 4 → Nat :=
  let c0_i32_1047 : BitVec 32 := 0#32
  let v1308 : Index := Scalar.indexCast c0_i32_1047
  let c2_i32_1048 : BitVec 32 := 2#32
  let v1309 : Index := Scalar.indexCast c2_i32_1048
  let c0_i32_327 : BitVec 32 := 0#32
  let c1_i32_329 : BitVec 32 := 1#32
  let arg12 : BitVec 32 := Scf.iv c0_i32_327 c1_i32_329 k0_t20
  let c5_i32_1045 : BitVec 32 := 5#32
  let v1306 : BitVec 32 := Scalar.muli arg12 c5_i32_1045
  let v1307 : BitVec 32 := Scalar.addi v1306 c0_i32_1046
  let v1310 : Index := Scalar.indexCast v1307
  let c112_1049 : Index := 112#32
  ![0, 2, v1310.toNat, 112]
@[reducible] def k0_t21_loop : Scf.Loop 32 :=
  let c0_i32_371 : BitVec 32 := 0#32
  let c10_i32_372 : BitVec 32 := 10#32
  let v359 : BitVec 32 := Scalar.addi c0_i32_371 c10_i32_372
  let c1_i32_373 : BitVec 32 := 1#32
  ⟨c0_i32_371, v359, c1_i32_373⟩
def k0_off158 (k0_t21 : Fin k0_t21_loop.trips) (c0_i32_1011 : BitVec 32) : Fin 4 → Nat :=
  let c0_i32_1012 : BitVec 32 := 0#32
  let v1252 : Index := Scalar.indexCast c0_i32_1012
  let c3_i32_1013 : BitVec 32 := 3#32
  let v1253 : Index := Scalar.indexCast c3_i32_1013
  let c0_i32_371 : BitVec 32 := 0#32
  let c1_i32_373 : BitVec 32 := 1#32
  let arg12 : BitVec 32 := Scf.iv c0_i32_371 c1_i32_373 k0_t21
  let c5_i32_1010 : BitVec 32 := 5#32
  let v1250 : BitVec 32 := Scalar.muli arg12 c5_i32_1010
  let v1251 : BitVec 32 := Scalar.addi v1250 c0_i32_1011
  let v1254 : Index := Scalar.indexCast v1251
  let c0_1014 : Index := 0#32
  ![0, 3, v1254.toNat, 0]
def k0_off159 (k0_t21 : Fin k0_t21_loop.trips) (c0_i32_1016 : BitVec 32) : Fin 4 → Nat :=
  let c0_i32_1017 : BitVec 32 := 0#32
  let v1260 : Index := Scalar.indexCast c0_i32_1017
  let c3_i32_1018 : BitVec 32 := 3#32
  let v1261 : Index := Scalar.indexCast c3_i32_1018
  let c0_i32_371 : BitVec 32 := 0#32
  let c1_i32_373 : BitVec 32 := 1#32
  let arg12 : BitVec 32 := Scf.iv c0_i32_371 c1_i32_373 k0_t21
  let c5_i32_1015 : BitVec 32 := 5#32
  let v1258 : BitVec 32 := Scalar.muli arg12 c5_i32_1015
  let v1259 : BitVec 32 := Scalar.addi v1258 c0_i32_1016
  let v1262 : Index := Scalar.indexCast v1259
  let c16_1019 : Index := 16#32
  ![0, 3, v1262.toNat, 16]
def k0_off160 (k0_t21 : Fin k0_t21_loop.trips) (c0_i32_1021 : BitVec 32) : Fin 4 → Nat :=
  let c0_i32_1022 : BitVec 32 := 0#32
  let v1268 : Index := Scalar.indexCast c0_i32_1022
  let c3_i32_1023 : BitVec 32 := 3#32
  let v1269 : Index := Scalar.indexCast c3_i32_1023
  let c0_i32_371 : BitVec 32 := 0#32
  let c1_i32_373 : BitVec 32 := 1#32
  let arg12 : BitVec 32 := Scf.iv c0_i32_371 c1_i32_373 k0_t21
  let c5_i32_1020 : BitVec 32 := 5#32
  let v1266 : BitVec 32 := Scalar.muli arg12 c5_i32_1020
  let v1267 : BitVec 32 := Scalar.addi v1266 c0_i32_1021
  let v1270 : Index := Scalar.indexCast v1267
  let c32_1024 : Index := 32#32
  ![0, 3, v1270.toNat, 32]
def k0_off161 (k0_t21 : Fin k0_t21_loop.trips) (c0_i32_1026 : BitVec 32) : Fin 4 → Nat :=
  let c0_i32_1027 : BitVec 32 := 0#32
  let v1276 : Index := Scalar.indexCast c0_i32_1027
  let c3_i32_1028 : BitVec 32 := 3#32
  let v1277 : Index := Scalar.indexCast c3_i32_1028
  let c0_i32_371 : BitVec 32 := 0#32
  let c1_i32_373 : BitVec 32 := 1#32
  let arg12 : BitVec 32 := Scf.iv c0_i32_371 c1_i32_373 k0_t21
  let c5_i32_1025 : BitVec 32 := 5#32
  let v1274 : BitVec 32 := Scalar.muli arg12 c5_i32_1025
  let v1275 : BitVec 32 := Scalar.addi v1274 c0_i32_1026
  let v1278 : Index := Scalar.indexCast v1275
  let c48_1029 : Index := 48#32
  ![0, 3, v1278.toNat, 48]
def k0_off162 (k0_t21 : Fin k0_t21_loop.trips) (c0_i32_1031 : BitVec 32) : Fin 4 → Nat :=
  let c0_i32_1032 : BitVec 32 := 0#32
  let v1284 : Index := Scalar.indexCast c0_i32_1032
  let c3_i32_1033 : BitVec 32 := 3#32
  let v1285 : Index := Scalar.indexCast c3_i32_1033
  let c0_i32_371 : BitVec 32 := 0#32
  let c1_i32_373 : BitVec 32 := 1#32
  let arg12 : BitVec 32 := Scf.iv c0_i32_371 c1_i32_373 k0_t21
  let c5_i32_1030 : BitVec 32 := 5#32
  let v1282 : BitVec 32 := Scalar.muli arg12 c5_i32_1030
  let v1283 : BitVec 32 := Scalar.addi v1282 c0_i32_1031
  let v1286 : Index := Scalar.indexCast v1283
  let c64_1034 : Index := 64#32
  ![0, 3, v1286.toNat, 64]
def k0_off163 (k0_t21 : Fin k0_t21_loop.trips) (c0_i32_1036 : BitVec 32) : Fin 4 → Nat :=
  let c0_i32_1037 : BitVec 32 := 0#32
  let v1292 : Index := Scalar.indexCast c0_i32_1037
  let c3_i32_1038 : BitVec 32 := 3#32
  let v1293 : Index := Scalar.indexCast c3_i32_1038
  let c0_i32_371 : BitVec 32 := 0#32
  let c1_i32_373 : BitVec 32 := 1#32
  let arg12 : BitVec 32 := Scf.iv c0_i32_371 c1_i32_373 k0_t21
  let c5_i32_1035 : BitVec 32 := 5#32
  let v1290 : BitVec 32 := Scalar.muli arg12 c5_i32_1035
  let v1291 : BitVec 32 := Scalar.addi v1290 c0_i32_1036
  let v1294 : Index := Scalar.indexCast v1291
  let c80_1039 : Index := 80#32
  ![0, 3, v1294.toNat, 80]
def k0_off164 (k0_t21 : Fin k0_t21_loop.trips) (c0_i32_1041 : BitVec 32) : Fin 4 → Nat :=
  let c0_i32_1042 : BitVec 32 := 0#32
  let v1300 : Index := Scalar.indexCast c0_i32_1042
  let c3_i32_1043 : BitVec 32 := 3#32
  let v1301 : Index := Scalar.indexCast c3_i32_1043
  let c0_i32_371 : BitVec 32 := 0#32
  let c1_i32_373 : BitVec 32 := 1#32
  let arg12 : BitVec 32 := Scf.iv c0_i32_371 c1_i32_373 k0_t21
  let c5_i32_1040 : BitVec 32 := 5#32
  let v1298 : BitVec 32 := Scalar.muli arg12 c5_i32_1040
  let v1299 : BitVec 32 := Scalar.addi v1298 c0_i32_1041
  let v1302 : Index := Scalar.indexCast v1299
  let c96_1044 : Index := 96#32
  ![0, 3, v1302.toNat, 96]
def k0_off165 (k0_t21 : Fin k0_t21_loop.trips) (c0_i32_1046 : BitVec 32) : Fin 4 → Nat :=
  let c0_i32_1047 : BitVec 32 := 0#32
  let v1308 : Index := Scalar.indexCast c0_i32_1047
  let c3_i32_1048 : BitVec 32 := 3#32
  let v1309 : Index := Scalar.indexCast c3_i32_1048
  let c0_i32_371 : BitVec 32 := 0#32
  let c1_i32_373 : BitVec 32 := 1#32
  let arg12 : BitVec 32 := Scf.iv c0_i32_371 c1_i32_373 k0_t21
  let c5_i32_1045 : BitVec 32 := 5#32
  let v1306 : BitVec 32 := Scalar.muli arg12 c5_i32_1045
  let v1307 : BitVec 32 := Scalar.addi v1306 c0_i32_1046
  let v1310 : Index := Scalar.indexCast v1307
  let c112_1049 : Index := 112#32
  ![0, 3, v1310.toNat, 112]
@[reducible] def k0_t22_loop : Scf.Loop 32 :=
  let c0_i32_415 : BitVec 32 := 0#32
  let c10_i32_416 : BitVec 32 := 10#32
  let v425 : BitVec 32 := Scalar.addi c0_i32_415 c10_i32_416
  let c1_i32_417 : BitVec 32 := 1#32
  ⟨c0_i32_415, v425, c1_i32_417⟩
def k0_off166 (k0_t22 : Fin k0_t22_loop.trips) (c0_i32_1011 : BitVec 32) : Fin 4 → Nat :=
  let c0_i32_1012 : BitVec 32 := 0#32
  let v1252 : Index := Scalar.indexCast c0_i32_1012
  let c4_i32_1013 : BitVec 32 := 4#32
  let v1253 : Index := Scalar.indexCast c4_i32_1013
  let c0_i32_415 : BitVec 32 := 0#32
  let c1_i32_417 : BitVec 32 := 1#32
  let arg12 : BitVec 32 := Scf.iv c0_i32_415 c1_i32_417 k0_t22
  let c5_i32_1010 : BitVec 32 := 5#32
  let v1250 : BitVec 32 := Scalar.muli arg12 c5_i32_1010
  let v1251 : BitVec 32 := Scalar.addi v1250 c0_i32_1011
  let v1254 : Index := Scalar.indexCast v1251
  let c0_1014 : Index := 0#32
  ![0, 4, v1254.toNat, 0]
def k0_off167 (k0_t22 : Fin k0_t22_loop.trips) (c0_i32_1016 : BitVec 32) : Fin 4 → Nat :=
  let c0_i32_1017 : BitVec 32 := 0#32
  let v1260 : Index := Scalar.indexCast c0_i32_1017
  let c4_i32_1018 : BitVec 32 := 4#32
  let v1261 : Index := Scalar.indexCast c4_i32_1018
  let c0_i32_415 : BitVec 32 := 0#32
  let c1_i32_417 : BitVec 32 := 1#32
  let arg12 : BitVec 32 := Scf.iv c0_i32_415 c1_i32_417 k0_t22
  let c5_i32_1015 : BitVec 32 := 5#32
  let v1258 : BitVec 32 := Scalar.muli arg12 c5_i32_1015
  let v1259 : BitVec 32 := Scalar.addi v1258 c0_i32_1016
  let v1262 : Index := Scalar.indexCast v1259
  let c16_1019 : Index := 16#32
  ![0, 4, v1262.toNat, 16]
def k0_off168 (k0_t22 : Fin k0_t22_loop.trips) (c0_i32_1021 : BitVec 32) : Fin 4 → Nat :=
  let c0_i32_1022 : BitVec 32 := 0#32
  let v1268 : Index := Scalar.indexCast c0_i32_1022
  let c4_i32_1023 : BitVec 32 := 4#32
  let v1269 : Index := Scalar.indexCast c4_i32_1023
  let c0_i32_415 : BitVec 32 := 0#32
  let c1_i32_417 : BitVec 32 := 1#32
  let arg12 : BitVec 32 := Scf.iv c0_i32_415 c1_i32_417 k0_t22
  let c5_i32_1020 : BitVec 32 := 5#32
  let v1266 : BitVec 32 := Scalar.muli arg12 c5_i32_1020
  let v1267 : BitVec 32 := Scalar.addi v1266 c0_i32_1021
  let v1270 : Index := Scalar.indexCast v1267
  let c32_1024 : Index := 32#32
  ![0, 4, v1270.toNat, 32]
def k0_off169 (k0_t22 : Fin k0_t22_loop.trips) (c0_i32_1026 : BitVec 32) : Fin 4 → Nat :=
  let c0_i32_1027 : BitVec 32 := 0#32
  let v1276 : Index := Scalar.indexCast c0_i32_1027
  let c4_i32_1028 : BitVec 32 := 4#32
  let v1277 : Index := Scalar.indexCast c4_i32_1028
  let c0_i32_415 : BitVec 32 := 0#32
  let c1_i32_417 : BitVec 32 := 1#32
  let arg12 : BitVec 32 := Scf.iv c0_i32_415 c1_i32_417 k0_t22
  let c5_i32_1025 : BitVec 32 := 5#32
  let v1274 : BitVec 32 := Scalar.muli arg12 c5_i32_1025
  let v1275 : BitVec 32 := Scalar.addi v1274 c0_i32_1026
  let v1278 : Index := Scalar.indexCast v1275
  let c48_1029 : Index := 48#32
  ![0, 4, v1278.toNat, 48]
def k0_off170 (k0_t22 : Fin k0_t22_loop.trips) (c0_i32_1031 : BitVec 32) : Fin 4 → Nat :=
  let c0_i32_1032 : BitVec 32 := 0#32
  let v1284 : Index := Scalar.indexCast c0_i32_1032
  let c4_i32_1033 : BitVec 32 := 4#32
  let v1285 : Index := Scalar.indexCast c4_i32_1033
  let c0_i32_415 : BitVec 32 := 0#32
  let c1_i32_417 : BitVec 32 := 1#32
  let arg12 : BitVec 32 := Scf.iv c0_i32_415 c1_i32_417 k0_t22
  let c5_i32_1030 : BitVec 32 := 5#32
  let v1282 : BitVec 32 := Scalar.muli arg12 c5_i32_1030
  let v1283 : BitVec 32 := Scalar.addi v1282 c0_i32_1031
  let v1286 : Index := Scalar.indexCast v1283
  let c64_1034 : Index := 64#32
  ![0, 4, v1286.toNat, 64]
def k0_off171 (k0_t22 : Fin k0_t22_loop.trips) (c0_i32_1036 : BitVec 32) : Fin 4 → Nat :=
  let c0_i32_1037 : BitVec 32 := 0#32
  let v1292 : Index := Scalar.indexCast c0_i32_1037
  let c4_i32_1038 : BitVec 32 := 4#32
  let v1293 : Index := Scalar.indexCast c4_i32_1038
  let c0_i32_415 : BitVec 32 := 0#32
  let c1_i32_417 : BitVec 32 := 1#32
  let arg12 : BitVec 32 := Scf.iv c0_i32_415 c1_i32_417 k0_t22
  let c5_i32_1035 : BitVec 32 := 5#32
  let v1290 : BitVec 32 := Scalar.muli arg12 c5_i32_1035
  let v1291 : BitVec 32 := Scalar.addi v1290 c0_i32_1036
  let v1294 : Index := Scalar.indexCast v1291
  let c80_1039 : Index := 80#32
  ![0, 4, v1294.toNat, 80]
def k0_off172 (k0_t22 : Fin k0_t22_loop.trips) (c0_i32_1041 : BitVec 32) : Fin 4 → Nat :=
  let c0_i32_1042 : BitVec 32 := 0#32
  let v1300 : Index := Scalar.indexCast c0_i32_1042
  let c4_i32_1043 : BitVec 32 := 4#32
  let v1301 : Index := Scalar.indexCast c4_i32_1043
  let c0_i32_415 : BitVec 32 := 0#32
  let c1_i32_417 : BitVec 32 := 1#32
  let arg12 : BitVec 32 := Scf.iv c0_i32_415 c1_i32_417 k0_t22
  let c5_i32_1040 : BitVec 32 := 5#32
  let v1298 : BitVec 32 := Scalar.muli arg12 c5_i32_1040
  let v1299 : BitVec 32 := Scalar.addi v1298 c0_i32_1041
  let v1302 : Index := Scalar.indexCast v1299
  let c96_1044 : Index := 96#32
  ![0, 4, v1302.toNat, 96]
def k0_off173 (k0_t22 : Fin k0_t22_loop.trips) (c0_i32_1046 : BitVec 32) : Fin 4 → Nat :=
  let c0_i32_1047 : BitVec 32 := 0#32
  let v1308 : Index := Scalar.indexCast c0_i32_1047
  let c4_i32_1048 : BitVec 32 := 4#32
  let v1309 : Index := Scalar.indexCast c4_i32_1048
  let c0_i32_415 : BitVec 32 := 0#32
  let c1_i32_417 : BitVec 32 := 1#32
  let arg12 : BitVec 32 := Scf.iv c0_i32_415 c1_i32_417 k0_t22
  let c5_i32_1045 : BitVec 32 := 5#32
  let v1306 : BitVec 32 := Scalar.muli arg12 c5_i32_1045
  let v1307 : BitVec 32 := Scalar.addi v1306 c0_i32_1046
  let v1310 : Index := Scalar.indexCast v1307
  let c112_1049 : Index := 112#32
  ![0, 4, v1310.toNat, 112]
@[reducible] def k0_t23_loop : Scf.Loop 32 :=
  let c0_i32_459 : BitVec 32 := 0#32
  let c10_i32_460 : BitVec 32 := 10#32
  let v491 : BitVec 32 := Scalar.addi c0_i32_459 c10_i32_460
  let c1_i32_461 : BitVec 32 := 1#32
  ⟨c0_i32_459, v491, c1_i32_461⟩
def k0_off174 (k0_t23 : Fin k0_t23_loop.trips) (c0_i32_1011 : BitVec 32) : Fin 4 → Nat :=
  let c0_i32_1012 : BitVec 32 := 0#32
  let v1252 : Index := Scalar.indexCast c0_i32_1012
  let c5_i32_1013 : BitVec 32 := 5#32
  let v1253 : Index := Scalar.indexCast c5_i32_1013
  let c0_i32_459 : BitVec 32 := 0#32
  let c1_i32_461 : BitVec 32 := 1#32
  let arg12 : BitVec 32 := Scf.iv c0_i32_459 c1_i32_461 k0_t23
  let c5_i32_1010 : BitVec 32 := 5#32
  let v1250 : BitVec 32 := Scalar.muli arg12 c5_i32_1010
  let v1251 : BitVec 32 := Scalar.addi v1250 c0_i32_1011
  let v1254 : Index := Scalar.indexCast v1251
  let c0_1014 : Index := 0#32
  ![0, 5, v1254.toNat, 0]
def k0_off175 (k0_t23 : Fin k0_t23_loop.trips) (c0_i32_1016 : BitVec 32) : Fin 4 → Nat :=
  let c0_i32_1017 : BitVec 32 := 0#32
  let v1260 : Index := Scalar.indexCast c0_i32_1017
  let c5_i32_1018 : BitVec 32 := 5#32
  let v1261 : Index := Scalar.indexCast c5_i32_1018
  let c0_i32_459 : BitVec 32 := 0#32
  let c1_i32_461 : BitVec 32 := 1#32
  let arg12 : BitVec 32 := Scf.iv c0_i32_459 c1_i32_461 k0_t23
  let c5_i32_1015 : BitVec 32 := 5#32
  let v1258 : BitVec 32 := Scalar.muli arg12 c5_i32_1015
  let v1259 : BitVec 32 := Scalar.addi v1258 c0_i32_1016
  let v1262 : Index := Scalar.indexCast v1259
  let c16_1019 : Index := 16#32
  ![0, 5, v1262.toNat, 16]
def k0_off176 (k0_t23 : Fin k0_t23_loop.trips) (c0_i32_1021 : BitVec 32) : Fin 4 → Nat :=
  let c0_i32_1022 : BitVec 32 := 0#32
  let v1268 : Index := Scalar.indexCast c0_i32_1022
  let c5_i32_1023 : BitVec 32 := 5#32
  let v1269 : Index := Scalar.indexCast c5_i32_1023
  let c0_i32_459 : BitVec 32 := 0#32
  let c1_i32_461 : BitVec 32 := 1#32
  let arg12 : BitVec 32 := Scf.iv c0_i32_459 c1_i32_461 k0_t23
  let c5_i32_1020 : BitVec 32 := 5#32
  let v1266 : BitVec 32 := Scalar.muli arg12 c5_i32_1020
  let v1267 : BitVec 32 := Scalar.addi v1266 c0_i32_1021
  let v1270 : Index := Scalar.indexCast v1267
  let c32_1024 : Index := 32#32
  ![0, 5, v1270.toNat, 32]
def k0_off177 (k0_t23 : Fin k0_t23_loop.trips) (c0_i32_1026 : BitVec 32) : Fin 4 → Nat :=
  let c0_i32_1027 : BitVec 32 := 0#32
  let v1276 : Index := Scalar.indexCast c0_i32_1027
  let c5_i32_1028 : BitVec 32 := 5#32
  let v1277 : Index := Scalar.indexCast c5_i32_1028
  let c0_i32_459 : BitVec 32 := 0#32
  let c1_i32_461 : BitVec 32 := 1#32
  let arg12 : BitVec 32 := Scf.iv c0_i32_459 c1_i32_461 k0_t23
  let c5_i32_1025 : BitVec 32 := 5#32
  let v1274 : BitVec 32 := Scalar.muli arg12 c5_i32_1025
  let v1275 : BitVec 32 := Scalar.addi v1274 c0_i32_1026
  let v1278 : Index := Scalar.indexCast v1275
  let c48_1029 : Index := 48#32
  ![0, 5, v1278.toNat, 48]
def k0_off178 (k0_t23 : Fin k0_t23_loop.trips) (c0_i32_1031 : BitVec 32) : Fin 4 → Nat :=
  let c0_i32_1032 : BitVec 32 := 0#32
  let v1284 : Index := Scalar.indexCast c0_i32_1032
  let c5_i32_1033 : BitVec 32 := 5#32
  let v1285 : Index := Scalar.indexCast c5_i32_1033
  let c0_i32_459 : BitVec 32 := 0#32
  let c1_i32_461 : BitVec 32 := 1#32
  let arg12 : BitVec 32 := Scf.iv c0_i32_459 c1_i32_461 k0_t23
  let c5_i32_1030 : BitVec 32 := 5#32
  let v1282 : BitVec 32 := Scalar.muli arg12 c5_i32_1030
  let v1283 : BitVec 32 := Scalar.addi v1282 c0_i32_1031
  let v1286 : Index := Scalar.indexCast v1283
  let c64_1034 : Index := 64#32
  ![0, 5, v1286.toNat, 64]
def k0_off179 (k0_t23 : Fin k0_t23_loop.trips) (c0_i32_1036 : BitVec 32) : Fin 4 → Nat :=
  let c0_i32_1037 : BitVec 32 := 0#32
  let v1292 : Index := Scalar.indexCast c0_i32_1037
  let c5_i32_1038 : BitVec 32 := 5#32
  let v1293 : Index := Scalar.indexCast c5_i32_1038
  let c0_i32_459 : BitVec 32 := 0#32
  let c1_i32_461 : BitVec 32 := 1#32
  let arg12 : BitVec 32 := Scf.iv c0_i32_459 c1_i32_461 k0_t23
  let c5_i32_1035 : BitVec 32 := 5#32
  let v1290 : BitVec 32 := Scalar.muli arg12 c5_i32_1035
  let v1291 : BitVec 32 := Scalar.addi v1290 c0_i32_1036
  let v1294 : Index := Scalar.indexCast v1291
  let c80_1039 : Index := 80#32
  ![0, 5, v1294.toNat, 80]
def k0_off180 (k0_t23 : Fin k0_t23_loop.trips) (c0_i32_1041 : BitVec 32) : Fin 4 → Nat :=
  let c0_i32_1042 : BitVec 32 := 0#32
  let v1300 : Index := Scalar.indexCast c0_i32_1042
  let c5_i32_1043 : BitVec 32 := 5#32
  let v1301 : Index := Scalar.indexCast c5_i32_1043
  let c0_i32_459 : BitVec 32 := 0#32
  let c1_i32_461 : BitVec 32 := 1#32
  let arg12 : BitVec 32 := Scf.iv c0_i32_459 c1_i32_461 k0_t23
  let c5_i32_1040 : BitVec 32 := 5#32
  let v1298 : BitVec 32 := Scalar.muli arg12 c5_i32_1040
  let v1299 : BitVec 32 := Scalar.addi v1298 c0_i32_1041
  let v1302 : Index := Scalar.indexCast v1299
  let c96_1044 : Index := 96#32
  ![0, 5, v1302.toNat, 96]
def k0_off181 (k0_t23 : Fin k0_t23_loop.trips) (c0_i32_1046 : BitVec 32) : Fin 4 → Nat :=
  let c0_i32_1047 : BitVec 32 := 0#32
  let v1308 : Index := Scalar.indexCast c0_i32_1047
  let c5_i32_1048 : BitVec 32 := 5#32
  let v1309 : Index := Scalar.indexCast c5_i32_1048
  let c0_i32_459 : BitVec 32 := 0#32
  let c1_i32_461 : BitVec 32 := 1#32
  let arg12 : BitVec 32 := Scf.iv c0_i32_459 c1_i32_461 k0_t23
  let c5_i32_1045 : BitVec 32 := 5#32
  let v1306 : BitVec 32 := Scalar.muli arg12 c5_i32_1045
  let v1307 : BitVec 32 := Scalar.addi v1306 c0_i32_1046
  let v1310 : Index := Scalar.indexCast v1307
  let c112_1049 : Index := 112#32
  ![0, 5, v1310.toNat, 112]
@[reducible] def k0_t24_loop : Scf.Loop 32 :=
  let c0_i32_503 : BitVec 32 := 0#32
  let c10_i32_504 : BitVec 32 := 10#32
  let v557 : BitVec 32 := Scalar.addi c0_i32_503 c10_i32_504
  let c1_i32_505 : BitVec 32 := 1#32
  ⟨c0_i32_503, v557, c1_i32_505⟩
def k0_off182 (k0_t24 : Fin k0_t24_loop.trips) (c0_i32_1011 : BitVec 32) : Fin 4 → Nat :=
  let c0_i32_1012 : BitVec 32 := 0#32
  let v1252 : Index := Scalar.indexCast c0_i32_1012
  let c6_i32_1013 : BitVec 32 := 6#32
  let v1253 : Index := Scalar.indexCast c6_i32_1013
  let c0_i32_503 : BitVec 32 := 0#32
  let c1_i32_505 : BitVec 32 := 1#32
  let arg12 : BitVec 32 := Scf.iv c0_i32_503 c1_i32_505 k0_t24
  let c5_i32_1010 : BitVec 32 := 5#32
  let v1250 : BitVec 32 := Scalar.muli arg12 c5_i32_1010
  let v1251 : BitVec 32 := Scalar.addi v1250 c0_i32_1011
  let v1254 : Index := Scalar.indexCast v1251
  let c0_1014 : Index := 0#32
  ![0, 6, v1254.toNat, 0]
def k0_off183 (k0_t24 : Fin k0_t24_loop.trips) (c0_i32_1016 : BitVec 32) : Fin 4 → Nat :=
  let c0_i32_1017 : BitVec 32 := 0#32
  let v1260 : Index := Scalar.indexCast c0_i32_1017
  let c6_i32_1018 : BitVec 32 := 6#32
  let v1261 : Index := Scalar.indexCast c6_i32_1018
  let c0_i32_503 : BitVec 32 := 0#32
  let c1_i32_505 : BitVec 32 := 1#32
  let arg12 : BitVec 32 := Scf.iv c0_i32_503 c1_i32_505 k0_t24
  let c5_i32_1015 : BitVec 32 := 5#32
  let v1258 : BitVec 32 := Scalar.muli arg12 c5_i32_1015
  let v1259 : BitVec 32 := Scalar.addi v1258 c0_i32_1016
  let v1262 : Index := Scalar.indexCast v1259
  let c16_1019 : Index := 16#32
  ![0, 6, v1262.toNat, 16]
def k0_off184 (k0_t24 : Fin k0_t24_loop.trips) (c0_i32_1021 : BitVec 32) : Fin 4 → Nat :=
  let c0_i32_1022 : BitVec 32 := 0#32
  let v1268 : Index := Scalar.indexCast c0_i32_1022
  let c6_i32_1023 : BitVec 32 := 6#32
  let v1269 : Index := Scalar.indexCast c6_i32_1023
  let c0_i32_503 : BitVec 32 := 0#32
  let c1_i32_505 : BitVec 32 := 1#32
  let arg12 : BitVec 32 := Scf.iv c0_i32_503 c1_i32_505 k0_t24
  let c5_i32_1020 : BitVec 32 := 5#32
  let v1266 : BitVec 32 := Scalar.muli arg12 c5_i32_1020
  let v1267 : BitVec 32 := Scalar.addi v1266 c0_i32_1021
  let v1270 : Index := Scalar.indexCast v1267
  let c32_1024 : Index := 32#32
  ![0, 6, v1270.toNat, 32]
def k0_off185 (k0_t24 : Fin k0_t24_loop.trips) (c0_i32_1026 : BitVec 32) : Fin 4 → Nat :=
  let c0_i32_1027 : BitVec 32 := 0#32
  let v1276 : Index := Scalar.indexCast c0_i32_1027
  let c6_i32_1028 : BitVec 32 := 6#32
  let v1277 : Index := Scalar.indexCast c6_i32_1028
  let c0_i32_503 : BitVec 32 := 0#32
  let c1_i32_505 : BitVec 32 := 1#32
  let arg12 : BitVec 32 := Scf.iv c0_i32_503 c1_i32_505 k0_t24
  let c5_i32_1025 : BitVec 32 := 5#32
  let v1274 : BitVec 32 := Scalar.muli arg12 c5_i32_1025
  let v1275 : BitVec 32 := Scalar.addi v1274 c0_i32_1026
  let v1278 : Index := Scalar.indexCast v1275
  let c48_1029 : Index := 48#32
  ![0, 6, v1278.toNat, 48]
def k0_off186 (k0_t24 : Fin k0_t24_loop.trips) (c0_i32_1031 : BitVec 32) : Fin 4 → Nat :=
  let c0_i32_1032 : BitVec 32 := 0#32
  let v1284 : Index := Scalar.indexCast c0_i32_1032
  let c6_i32_1033 : BitVec 32 := 6#32
  let v1285 : Index := Scalar.indexCast c6_i32_1033
  let c0_i32_503 : BitVec 32 := 0#32
  let c1_i32_505 : BitVec 32 := 1#32
  let arg12 : BitVec 32 := Scf.iv c0_i32_503 c1_i32_505 k0_t24
  let c5_i32_1030 : BitVec 32 := 5#32
  let v1282 : BitVec 32 := Scalar.muli arg12 c5_i32_1030
  let v1283 : BitVec 32 := Scalar.addi v1282 c0_i32_1031
  let v1286 : Index := Scalar.indexCast v1283
  let c64_1034 : Index := 64#32
  ![0, 6, v1286.toNat, 64]
def k0_off187 (k0_t24 : Fin k0_t24_loop.trips) (c0_i32_1036 : BitVec 32) : Fin 4 → Nat :=
  let c0_i32_1037 : BitVec 32 := 0#32
  let v1292 : Index := Scalar.indexCast c0_i32_1037
  let c6_i32_1038 : BitVec 32 := 6#32
  let v1293 : Index := Scalar.indexCast c6_i32_1038
  let c0_i32_503 : BitVec 32 := 0#32
  let c1_i32_505 : BitVec 32 := 1#32
  let arg12 : BitVec 32 := Scf.iv c0_i32_503 c1_i32_505 k0_t24
  let c5_i32_1035 : BitVec 32 := 5#32
  let v1290 : BitVec 32 := Scalar.muli arg12 c5_i32_1035
  let v1291 : BitVec 32 := Scalar.addi v1290 c0_i32_1036
  let v1294 : Index := Scalar.indexCast v1291
  let c80_1039 : Index := 80#32
  ![0, 6, v1294.toNat, 80]
def k0_off188 (k0_t24 : Fin k0_t24_loop.trips) (c0_i32_1041 : BitVec 32) : Fin 4 → Nat :=
  let c0_i32_1042 : BitVec 32 := 0#32
  let v1300 : Index := Scalar.indexCast c0_i32_1042
  let c6_i32_1043 : BitVec 32 := 6#32
  let v1301 : Index := Scalar.indexCast c6_i32_1043
  let c0_i32_503 : BitVec 32 := 0#32
  let c1_i32_505 : BitVec 32 := 1#32
  let arg12 : BitVec 32 := Scf.iv c0_i32_503 c1_i32_505 k0_t24
  let c5_i32_1040 : BitVec 32 := 5#32
  let v1298 : BitVec 32 := Scalar.muli arg12 c5_i32_1040
  let v1299 : BitVec 32 := Scalar.addi v1298 c0_i32_1041
  let v1302 : Index := Scalar.indexCast v1299
  let c96_1044 : Index := 96#32
  ![0, 6, v1302.toNat, 96]
def k0_off189 (k0_t24 : Fin k0_t24_loop.trips) (c0_i32_1046 : BitVec 32) : Fin 4 → Nat :=
  let c0_i32_1047 : BitVec 32 := 0#32
  let v1308 : Index := Scalar.indexCast c0_i32_1047
  let c6_i32_1048 : BitVec 32 := 6#32
  let v1309 : Index := Scalar.indexCast c6_i32_1048
  let c0_i32_503 : BitVec 32 := 0#32
  let c1_i32_505 : BitVec 32 := 1#32
  let arg12 : BitVec 32 := Scf.iv c0_i32_503 c1_i32_505 k0_t24
  let c5_i32_1045 : BitVec 32 := 5#32
  let v1306 : BitVec 32 := Scalar.muli arg12 c5_i32_1045
  let v1307 : BitVec 32 := Scalar.addi v1306 c0_i32_1046
  let v1310 : Index := Scalar.indexCast v1307
  let c112_1049 : Index := 112#32
  ![0, 6, v1310.toNat, 112]
@[reducible] def k0_t25_loop : Scf.Loop 32 :=
  let c0_i32_547 : BitVec 32 := 0#32
  let c10_i32_548 : BitVec 32 := 10#32
  let v623 : BitVec 32 := Scalar.addi c0_i32_547 c10_i32_548
  let c1_i32_549 : BitVec 32 := 1#32
  ⟨c0_i32_547, v623, c1_i32_549⟩
def k0_off190 (k0_t25 : Fin k0_t25_loop.trips) (c0_i32_1011 : BitVec 32) : Fin 4 → Nat :=
  let c0_i32_1012 : BitVec 32 := 0#32
  let v1252 : Index := Scalar.indexCast c0_i32_1012
  let c7_i32_1013 : BitVec 32 := 7#32
  let v1253 : Index := Scalar.indexCast c7_i32_1013
  let c0_i32_547 : BitVec 32 := 0#32
  let c1_i32_549 : BitVec 32 := 1#32
  let arg12 : BitVec 32 := Scf.iv c0_i32_547 c1_i32_549 k0_t25
  let c5_i32_1010 : BitVec 32 := 5#32
  let v1250 : BitVec 32 := Scalar.muli arg12 c5_i32_1010
  let v1251 : BitVec 32 := Scalar.addi v1250 c0_i32_1011
  let v1254 : Index := Scalar.indexCast v1251
  let c0_1014 : Index := 0#32
  ![0, 7, v1254.toNat, 0]
def k0_off191 (k0_t25 : Fin k0_t25_loop.trips) (c0_i32_1016 : BitVec 32) : Fin 4 → Nat :=
  let c0_i32_1017 : BitVec 32 := 0#32
  let v1260 : Index := Scalar.indexCast c0_i32_1017
  let c7_i32_1018 : BitVec 32 := 7#32
  let v1261 : Index := Scalar.indexCast c7_i32_1018
  let c0_i32_547 : BitVec 32 := 0#32
  let c1_i32_549 : BitVec 32 := 1#32
  let arg12 : BitVec 32 := Scf.iv c0_i32_547 c1_i32_549 k0_t25
  let c5_i32_1015 : BitVec 32 := 5#32
  let v1258 : BitVec 32 := Scalar.muli arg12 c5_i32_1015
  let v1259 : BitVec 32 := Scalar.addi v1258 c0_i32_1016
  let v1262 : Index := Scalar.indexCast v1259
  let c16_1019 : Index := 16#32
  ![0, 7, v1262.toNat, 16]
def k0_off192 (k0_t25 : Fin k0_t25_loop.trips) (c0_i32_1021 : BitVec 32) : Fin 4 → Nat :=
  let c0_i32_1022 : BitVec 32 := 0#32
  let v1268 : Index := Scalar.indexCast c0_i32_1022
  let c7_i32_1023 : BitVec 32 := 7#32
  let v1269 : Index := Scalar.indexCast c7_i32_1023
  let c0_i32_547 : BitVec 32 := 0#32
  let c1_i32_549 : BitVec 32 := 1#32
  let arg12 : BitVec 32 := Scf.iv c0_i32_547 c1_i32_549 k0_t25
  let c5_i32_1020 : BitVec 32 := 5#32
  let v1266 : BitVec 32 := Scalar.muli arg12 c5_i32_1020
  let v1267 : BitVec 32 := Scalar.addi v1266 c0_i32_1021
  let v1270 : Index := Scalar.indexCast v1267
  let c32_1024 : Index := 32#32
  ![0, 7, v1270.toNat, 32]
def k0_off193 (k0_t25 : Fin k0_t25_loop.trips) (c0_i32_1026 : BitVec 32) : Fin 4 → Nat :=
  let c0_i32_1027 : BitVec 32 := 0#32
  let v1276 : Index := Scalar.indexCast c0_i32_1027
  let c7_i32_1028 : BitVec 32 := 7#32
  let v1277 : Index := Scalar.indexCast c7_i32_1028
  let c0_i32_547 : BitVec 32 := 0#32
  let c1_i32_549 : BitVec 32 := 1#32
  let arg12 : BitVec 32 := Scf.iv c0_i32_547 c1_i32_549 k0_t25
  let c5_i32_1025 : BitVec 32 := 5#32
  let v1274 : BitVec 32 := Scalar.muli arg12 c5_i32_1025
  let v1275 : BitVec 32 := Scalar.addi v1274 c0_i32_1026
  let v1278 : Index := Scalar.indexCast v1275
  let c48_1029 : Index := 48#32
  ![0, 7, v1278.toNat, 48]
def k0_off194 (k0_t25 : Fin k0_t25_loop.trips) (c0_i32_1031 : BitVec 32) : Fin 4 → Nat :=
  let c0_i32_1032 : BitVec 32 := 0#32
  let v1284 : Index := Scalar.indexCast c0_i32_1032
  let c7_i32_1033 : BitVec 32 := 7#32
  let v1285 : Index := Scalar.indexCast c7_i32_1033
  let c0_i32_547 : BitVec 32 := 0#32
  let c1_i32_549 : BitVec 32 := 1#32
  let arg12 : BitVec 32 := Scf.iv c0_i32_547 c1_i32_549 k0_t25
  let c5_i32_1030 : BitVec 32 := 5#32
  let v1282 : BitVec 32 := Scalar.muli arg12 c5_i32_1030
  let v1283 : BitVec 32 := Scalar.addi v1282 c0_i32_1031
  let v1286 : Index := Scalar.indexCast v1283
  let c64_1034 : Index := 64#32
  ![0, 7, v1286.toNat, 64]
def k0_off195 (k0_t25 : Fin k0_t25_loop.trips) (c0_i32_1036 : BitVec 32) : Fin 4 → Nat :=
  let c0_i32_1037 : BitVec 32 := 0#32
  let v1292 : Index := Scalar.indexCast c0_i32_1037
  let c7_i32_1038 : BitVec 32 := 7#32
  let v1293 : Index := Scalar.indexCast c7_i32_1038
  let c0_i32_547 : BitVec 32 := 0#32
  let c1_i32_549 : BitVec 32 := 1#32
  let arg12 : BitVec 32 := Scf.iv c0_i32_547 c1_i32_549 k0_t25
  let c5_i32_1035 : BitVec 32 := 5#32
  let v1290 : BitVec 32 := Scalar.muli arg12 c5_i32_1035
  let v1291 : BitVec 32 := Scalar.addi v1290 c0_i32_1036
  let v1294 : Index := Scalar.indexCast v1291
  let c80_1039 : Index := 80#32
  ![0, 7, v1294.toNat, 80]
def k0_off196 (k0_t25 : Fin k0_t25_loop.trips) (c0_i32_1041 : BitVec 32) : Fin 4 → Nat :=
  let c0_i32_1042 : BitVec 32 := 0#32
  let v1300 : Index := Scalar.indexCast c0_i32_1042
  let c7_i32_1043 : BitVec 32 := 7#32
  let v1301 : Index := Scalar.indexCast c7_i32_1043
  let c0_i32_547 : BitVec 32 := 0#32
  let c1_i32_549 : BitVec 32 := 1#32
  let arg12 : BitVec 32 := Scf.iv c0_i32_547 c1_i32_549 k0_t25
  let c5_i32_1040 : BitVec 32 := 5#32
  let v1298 : BitVec 32 := Scalar.muli arg12 c5_i32_1040
  let v1299 : BitVec 32 := Scalar.addi v1298 c0_i32_1041
  let v1302 : Index := Scalar.indexCast v1299
  let c96_1044 : Index := 96#32
  ![0, 7, v1302.toNat, 96]
def k0_off197 (k0_t25 : Fin k0_t25_loop.trips) (c0_i32_1046 : BitVec 32) : Fin 4 → Nat :=
  let c0_i32_1047 : BitVec 32 := 0#32
  let v1308 : Index := Scalar.indexCast c0_i32_1047
  let c7_i32_1048 : BitVec 32 := 7#32
  let v1309 : Index := Scalar.indexCast c7_i32_1048
  let c0_i32_547 : BitVec 32 := 0#32
  let c1_i32_549 : BitVec 32 := 1#32
  let arg12 : BitVec 32 := Scf.iv c0_i32_547 c1_i32_549 k0_t25
  let c5_i32_1045 : BitVec 32 := 5#32
  let v1306 : BitVec 32 := Scalar.muli arg12 c5_i32_1045
  let v1307 : BitVec 32 := Scalar.addi v1306 c0_i32_1046
  let v1310 : Index := Scalar.indexCast v1307
  let c112_1049 : Index := 112#32
  ![0, 7, v1310.toNat, 112]
def k0_off198 (i : grid0.Coords) (c496_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let v152 : BitVec 32 := Scalar.addi v2 c496_i32
  let c0_i32_1012_r2 : BitVec 32 := 0#32
  ![v152.toNat, 0]
@[reducible] def k0_t26_loop : Scf.Loop 32 :=
  let c0_i32_665 : BitVec 32 := 0#32
  let c10_i32_666 : BitVec 32 := 10#32
  let v730 : BitVec 32 := Scalar.addi c0_i32_665 c10_i32_666
  let c1_i32_667 : BitVec 32 := 1#32
  ⟨c0_i32_665, v730, c1_i32_667⟩
def k0_off199 (k0_t26 : Fin k0_t26_loop.trips) (c0_i32_1011 : BitVec 32) : Fin 4 → Nat :=
  let c1_i32_1012 : BitVec 32 := 1#32
  let v1252 : Index := Scalar.indexCast c1_i32_1012
  let c0_i32_1013 : BitVec 32 := 0#32
  let v1253 : Index := Scalar.indexCast c0_i32_1013
  let c0_i32_665 : BitVec 32 := 0#32
  let c1_i32_667 : BitVec 32 := 1#32
  let arg12 : BitVec 32 := Scf.iv c0_i32_665 c1_i32_667 k0_t26
  let c5_i32_1010 : BitVec 32 := 5#32
  let v1250 : BitVec 32 := Scalar.muli arg12 c5_i32_1010
  let v1251 : BitVec 32 := Scalar.addi v1250 c0_i32_1011
  let v1254 : Index := Scalar.indexCast v1251
  let c0_1014 : Index := 0#32
  ![1, 0, v1254.toNat, 0]
def k0_off200 (k0_t26 : Fin k0_t26_loop.trips) (c0_i32_1016 : BitVec 32) : Fin 4 → Nat :=
  let c1_i32_1017 : BitVec 32 := 1#32
  let v1260 : Index := Scalar.indexCast c1_i32_1017
  let c0_i32_1018 : BitVec 32 := 0#32
  let v1261 : Index := Scalar.indexCast c0_i32_1018
  let c0_i32_665 : BitVec 32 := 0#32
  let c1_i32_667 : BitVec 32 := 1#32
  let arg12 : BitVec 32 := Scf.iv c0_i32_665 c1_i32_667 k0_t26
  let c5_i32_1015 : BitVec 32 := 5#32
  let v1258 : BitVec 32 := Scalar.muli arg12 c5_i32_1015
  let v1259 : BitVec 32 := Scalar.addi v1258 c0_i32_1016
  let v1262 : Index := Scalar.indexCast v1259
  let c16_1019 : Index := 16#32
  ![1, 0, v1262.toNat, 16]
def k0_off201 (k0_t26 : Fin k0_t26_loop.trips) (c0_i32_1021 : BitVec 32) : Fin 4 → Nat :=
  let c1_i32_1022 : BitVec 32 := 1#32
  let v1268 : Index := Scalar.indexCast c1_i32_1022
  let c0_i32_1023 : BitVec 32 := 0#32
  let v1269 : Index := Scalar.indexCast c0_i32_1023
  let c0_i32_665 : BitVec 32 := 0#32
  let c1_i32_667 : BitVec 32 := 1#32
  let arg12 : BitVec 32 := Scf.iv c0_i32_665 c1_i32_667 k0_t26
  let c5_i32_1020 : BitVec 32 := 5#32
  let v1266 : BitVec 32 := Scalar.muli arg12 c5_i32_1020
  let v1267 : BitVec 32 := Scalar.addi v1266 c0_i32_1021
  let v1270 : Index := Scalar.indexCast v1267
  let c32_1024 : Index := 32#32
  ![1, 0, v1270.toNat, 32]
def k0_off202 (k0_t26 : Fin k0_t26_loop.trips) (c0_i32_1026 : BitVec 32) : Fin 4 → Nat :=
  let c1_i32_1027 : BitVec 32 := 1#32
  let v1276 : Index := Scalar.indexCast c1_i32_1027
  let c0_i32_1028 : BitVec 32 := 0#32
  let v1277 : Index := Scalar.indexCast c0_i32_1028
  let c0_i32_665 : BitVec 32 := 0#32
  let c1_i32_667 : BitVec 32 := 1#32
  let arg12 : BitVec 32 := Scf.iv c0_i32_665 c1_i32_667 k0_t26
  let c5_i32_1025 : BitVec 32 := 5#32
  let v1274 : BitVec 32 := Scalar.muli arg12 c5_i32_1025
  let v1275 : BitVec 32 := Scalar.addi v1274 c0_i32_1026
  let v1278 : Index := Scalar.indexCast v1275
  let c48_1029 : Index := 48#32
  ![1, 0, v1278.toNat, 48]
def k0_off203 (k0_t26 : Fin k0_t26_loop.trips) (c0_i32_1031 : BitVec 32) : Fin 4 → Nat :=
  let c1_i32_1032 : BitVec 32 := 1#32
  let v1284 : Index := Scalar.indexCast c1_i32_1032
  let c0_i32_1033 : BitVec 32 := 0#32
  let v1285 : Index := Scalar.indexCast c0_i32_1033
  let c0_i32_665 : BitVec 32 := 0#32
  let c1_i32_667 : BitVec 32 := 1#32
  let arg12 : BitVec 32 := Scf.iv c0_i32_665 c1_i32_667 k0_t26
  let c5_i32_1030 : BitVec 32 := 5#32
  let v1282 : BitVec 32 := Scalar.muli arg12 c5_i32_1030
  let v1283 : BitVec 32 := Scalar.addi v1282 c0_i32_1031
  let v1286 : Index := Scalar.indexCast v1283
  let c64_1034 : Index := 64#32
  ![1, 0, v1286.toNat, 64]
def k0_off204 (k0_t26 : Fin k0_t26_loop.trips) (c0_i32_1036 : BitVec 32) : Fin 4 → Nat :=
  let c1_i32_1037 : BitVec 32 := 1#32
  let v1292 : Index := Scalar.indexCast c1_i32_1037
  let c0_i32_1038 : BitVec 32 := 0#32
  let v1293 : Index := Scalar.indexCast c0_i32_1038
  let c0_i32_665 : BitVec 32 := 0#32
  let c1_i32_667 : BitVec 32 := 1#32
  let arg12 : BitVec 32 := Scf.iv c0_i32_665 c1_i32_667 k0_t26
  let c5_i32_1035 : BitVec 32 := 5#32
  let v1290 : BitVec 32 := Scalar.muli arg12 c5_i32_1035
  let v1291 : BitVec 32 := Scalar.addi v1290 c0_i32_1036
  let v1294 : Index := Scalar.indexCast v1291
  let c80_1039 : Index := 80#32
  ![1, 0, v1294.toNat, 80]
def k0_off205 (k0_t26 : Fin k0_t26_loop.trips) (c0_i32_1041 : BitVec 32) : Fin 4 → Nat :=
  let c1_i32_1042 : BitVec 32 := 1#32
  let v1300 : Index := Scalar.indexCast c1_i32_1042
  let c0_i32_1043 : BitVec 32 := 0#32
  let v1301 : Index := Scalar.indexCast c0_i32_1043
  let c0_i32_665 : BitVec 32 := 0#32
  let c1_i32_667 : BitVec 32 := 1#32
  let arg12 : BitVec 32 := Scf.iv c0_i32_665 c1_i32_667 k0_t26
  let c5_i32_1040 : BitVec 32 := 5#32
  let v1298 : BitVec 32 := Scalar.muli arg12 c5_i32_1040
  let v1299 : BitVec 32 := Scalar.addi v1298 c0_i32_1041
  let v1302 : Index := Scalar.indexCast v1299
  let c96_1044 : Index := 96#32
  ![1, 0, v1302.toNat, 96]
def k0_off206 (k0_t26 : Fin k0_t26_loop.trips) (c0_i32_1046 : BitVec 32) : Fin 4 → Nat :=
  let c1_i32_1047 : BitVec 32 := 1#32
  let v1308 : Index := Scalar.indexCast c1_i32_1047
  let c0_i32_1048 : BitVec 32 := 0#32
  let v1309 : Index := Scalar.indexCast c0_i32_1048
  let c0_i32_665 : BitVec 32 := 0#32
  let c1_i32_667 : BitVec 32 := 1#32
  let arg12 : BitVec 32 := Scf.iv c0_i32_665 c1_i32_667 k0_t26
  let c5_i32_1045 : BitVec 32 := 5#32
  let v1306 : BitVec 32 := Scalar.muli arg12 c5_i32_1045
  let v1307 : BitVec 32 := Scalar.addi v1306 c0_i32_1046
  let v1310 : Index := Scalar.indexCast v1307
  let c112_1049 : Index := 112#32
  ![1, 0, v1310.toNat, 112]
@[reducible] def k0_t27_loop : Scf.Loop 32 :=
  let c0_i32_709 : BitVec 32 := 0#32
  let c10_i32_710 : BitVec 32 := 10#32
  let v796 : BitVec 32 := Scalar.addi c0_i32_709 c10_i32_710
  let c1_i32_711 : BitVec 32 := 1#32
  ⟨c0_i32_709, v796, c1_i32_711⟩
def k0_off207 (k0_t27 : Fin k0_t27_loop.trips) (c0_i32_1011 : BitVec 32) : Fin 4 → Nat :=
  let c1_i32_1012 : BitVec 32 := 1#32
  let v1252 : Index := Scalar.indexCast c1_i32_1012
  let c1_i32_1013 : BitVec 32 := 1#32
  let v1253 : Index := Scalar.indexCast c1_i32_1013
  let c0_i32_709 : BitVec 32 := 0#32
  let c1_i32_711 : BitVec 32 := 1#32
  let arg12 : BitVec 32 := Scf.iv c0_i32_709 c1_i32_711 k0_t27
  let c5_i32_1010 : BitVec 32 := 5#32
  let v1250 : BitVec 32 := Scalar.muli arg12 c5_i32_1010
  let v1251 : BitVec 32 := Scalar.addi v1250 c0_i32_1011
  let v1254 : Index := Scalar.indexCast v1251
  let c0_1014 : Index := 0#32
  ![1, 1, v1254.toNat, 0]
def k0_off208 (k0_t27 : Fin k0_t27_loop.trips) (c0_i32_1016 : BitVec 32) : Fin 4 → Nat :=
  let c1_i32_1017 : BitVec 32 := 1#32
  let v1260 : Index := Scalar.indexCast c1_i32_1017
  let c1_i32_1018 : BitVec 32 := 1#32
  let v1261 : Index := Scalar.indexCast c1_i32_1018
  let c0_i32_709 : BitVec 32 := 0#32
  let c1_i32_711 : BitVec 32 := 1#32
  let arg12 : BitVec 32 := Scf.iv c0_i32_709 c1_i32_711 k0_t27
  let c5_i32_1015 : BitVec 32 := 5#32
  let v1258 : BitVec 32 := Scalar.muli arg12 c5_i32_1015
  let v1259 : BitVec 32 := Scalar.addi v1258 c0_i32_1016
  let v1262 : Index := Scalar.indexCast v1259
  let c16_1019 : Index := 16#32
  ![1, 1, v1262.toNat, 16]
def k0_off209 (k0_t27 : Fin k0_t27_loop.trips) (c0_i32_1021 : BitVec 32) : Fin 4 → Nat :=
  let c1_i32_1022 : BitVec 32 := 1#32
  let v1268 : Index := Scalar.indexCast c1_i32_1022
  let c1_i32_1023 : BitVec 32 := 1#32
  let v1269 : Index := Scalar.indexCast c1_i32_1023
  let c0_i32_709 : BitVec 32 := 0#32
  let c1_i32_711 : BitVec 32 := 1#32
  let arg12 : BitVec 32 := Scf.iv c0_i32_709 c1_i32_711 k0_t27
  let c5_i32_1020 : BitVec 32 := 5#32
  let v1266 : BitVec 32 := Scalar.muli arg12 c5_i32_1020
  let v1267 : BitVec 32 := Scalar.addi v1266 c0_i32_1021
  let v1270 : Index := Scalar.indexCast v1267
  let c32_1024 : Index := 32#32
  ![1, 1, v1270.toNat, 32]
def k0_off210 (k0_t27 : Fin k0_t27_loop.trips) (c0_i32_1026 : BitVec 32) : Fin 4 → Nat :=
  let c1_i32_1027 : BitVec 32 := 1#32
  let v1276 : Index := Scalar.indexCast c1_i32_1027
  let c1_i32_1028 : BitVec 32 := 1#32
  let v1277 : Index := Scalar.indexCast c1_i32_1028
  let c0_i32_709 : BitVec 32 := 0#32
  let c1_i32_711 : BitVec 32 := 1#32
  let arg12 : BitVec 32 := Scf.iv c0_i32_709 c1_i32_711 k0_t27
  let c5_i32_1025 : BitVec 32 := 5#32
  let v1274 : BitVec 32 := Scalar.muli arg12 c5_i32_1025
  let v1275 : BitVec 32 := Scalar.addi v1274 c0_i32_1026
  let v1278 : Index := Scalar.indexCast v1275
  let c48_1029 : Index := 48#32
  ![1, 1, v1278.toNat, 48]
def k0_off211 (k0_t27 : Fin k0_t27_loop.trips) (c0_i32_1031 : BitVec 32) : Fin 4 → Nat :=
  let c1_i32_1032 : BitVec 32 := 1#32
  let v1284 : Index := Scalar.indexCast c1_i32_1032
  let c1_i32_1033 : BitVec 32 := 1#32
  let v1285 : Index := Scalar.indexCast c1_i32_1033
  let c0_i32_709 : BitVec 32 := 0#32
  let c1_i32_711 : BitVec 32 := 1#32
  let arg12 : BitVec 32 := Scf.iv c0_i32_709 c1_i32_711 k0_t27
  let c5_i32_1030 : BitVec 32 := 5#32
  let v1282 : BitVec 32 := Scalar.muli arg12 c5_i32_1030
  let v1283 : BitVec 32 := Scalar.addi v1282 c0_i32_1031
  let v1286 : Index := Scalar.indexCast v1283
  let c64_1034 : Index := 64#32
  ![1, 1, v1286.toNat, 64]
def k0_off212 (k0_t27 : Fin k0_t27_loop.trips) (c0_i32_1036 : BitVec 32) : Fin 4 → Nat :=
  let c1_i32_1037 : BitVec 32 := 1#32
  let v1292 : Index := Scalar.indexCast c1_i32_1037
  let c1_i32_1038 : BitVec 32 := 1#32
  let v1293 : Index := Scalar.indexCast c1_i32_1038
  let c0_i32_709 : BitVec 32 := 0#32
  let c1_i32_711 : BitVec 32 := 1#32
  let arg12 : BitVec 32 := Scf.iv c0_i32_709 c1_i32_711 k0_t27
  let c5_i32_1035 : BitVec 32 := 5#32
  let v1290 : BitVec 32 := Scalar.muli arg12 c5_i32_1035
  let v1291 : BitVec 32 := Scalar.addi v1290 c0_i32_1036
  let v1294 : Index := Scalar.indexCast v1291
  let c80_1039 : Index := 80#32
  ![1, 1, v1294.toNat, 80]
def k0_off213 (k0_t27 : Fin k0_t27_loop.trips) (c0_i32_1041 : BitVec 32) : Fin 4 → Nat :=
  let c1_i32_1042 : BitVec 32 := 1#32
  let v1300 : Index := Scalar.indexCast c1_i32_1042
  let c1_i32_1043 : BitVec 32 := 1#32
  let v1301 : Index := Scalar.indexCast c1_i32_1043
  let c0_i32_709 : BitVec 32 := 0#32
  let c1_i32_711 : BitVec 32 := 1#32
  let arg12 : BitVec 32 := Scf.iv c0_i32_709 c1_i32_711 k0_t27
  let c5_i32_1040 : BitVec 32 := 5#32
  let v1298 : BitVec 32 := Scalar.muli arg12 c5_i32_1040
  let v1299 : BitVec 32 := Scalar.addi v1298 c0_i32_1041
  let v1302 : Index := Scalar.indexCast v1299
  let c96_1044 : Index := 96#32
  ![1, 1, v1302.toNat, 96]
def k0_off214 (k0_t27 : Fin k0_t27_loop.trips) (c0_i32_1046 : BitVec 32) : Fin 4 → Nat :=
  let c1_i32_1047 : BitVec 32 := 1#32
  let v1308 : Index := Scalar.indexCast c1_i32_1047
  let c1_i32_1048 : BitVec 32 := 1#32
  let v1309 : Index := Scalar.indexCast c1_i32_1048
  let c0_i32_709 : BitVec 32 := 0#32
  let c1_i32_711 : BitVec 32 := 1#32
  let arg12 : BitVec 32 := Scf.iv c0_i32_709 c1_i32_711 k0_t27
  let c5_i32_1045 : BitVec 32 := 5#32
  let v1306 : BitVec 32 := Scalar.muli arg12 c5_i32_1045
  let v1307 : BitVec 32 := Scalar.addi v1306 c0_i32_1046
  let v1310 : Index := Scalar.indexCast v1307
  let c112_1049 : Index := 112#32
  ![1, 1, v1310.toNat, 112]
@[reducible] def k0_t28_loop : Scf.Loop 32 :=
  let c0_i32_753 : BitVec 32 := 0#32
  let c10_i32_754 : BitVec 32 := 10#32
  let v862 : BitVec 32 := Scalar.addi c0_i32_753 c10_i32_754
  let c1_i32_755 : BitVec 32 := 1#32
  ⟨c0_i32_753, v862, c1_i32_755⟩
def k0_off215 (k0_t28 : Fin k0_t28_loop.trips) (c0_i32_1011 : BitVec 32) : Fin 4 → Nat :=
  let c1_i32_1012 : BitVec 32 := 1#32
  let v1252 : Index := Scalar.indexCast c1_i32_1012
  let c2_i32_1013 : BitVec 32 := 2#32
  let v1253 : Index := Scalar.indexCast c2_i32_1013
  let c0_i32_753 : BitVec 32 := 0#32
  let c1_i32_755 : BitVec 32 := 1#32
  let arg12 : BitVec 32 := Scf.iv c0_i32_753 c1_i32_755 k0_t28
  let c5_i32_1010 : BitVec 32 := 5#32
  let v1250 : BitVec 32 := Scalar.muli arg12 c5_i32_1010
  let v1251 : BitVec 32 := Scalar.addi v1250 c0_i32_1011
  let v1254 : Index := Scalar.indexCast v1251
  let c0_1014 : Index := 0#32
  ![1, 2, v1254.toNat, 0]
def k0_off216 (k0_t28 : Fin k0_t28_loop.trips) (c0_i32_1016 : BitVec 32) : Fin 4 → Nat :=
  let c1_i32_1017 : BitVec 32 := 1#32
  let v1260 : Index := Scalar.indexCast c1_i32_1017
  let c2_i32_1018 : BitVec 32 := 2#32
  let v1261 : Index := Scalar.indexCast c2_i32_1018
  let c0_i32_753 : BitVec 32 := 0#32
  let c1_i32_755 : BitVec 32 := 1#32
  let arg12 : BitVec 32 := Scf.iv c0_i32_753 c1_i32_755 k0_t28
  let c5_i32_1015 : BitVec 32 := 5#32
  let v1258 : BitVec 32 := Scalar.muli arg12 c5_i32_1015
  let v1259 : BitVec 32 := Scalar.addi v1258 c0_i32_1016
  let v1262 : Index := Scalar.indexCast v1259
  let c16_1019 : Index := 16#32
  ![1, 2, v1262.toNat, 16]
def k0_off217 (k0_t28 : Fin k0_t28_loop.trips) (c0_i32_1021 : BitVec 32) : Fin 4 → Nat :=
  let c1_i32_1022 : BitVec 32 := 1#32
  let v1268 : Index := Scalar.indexCast c1_i32_1022
  let c2_i32_1023 : BitVec 32 := 2#32
  let v1269 : Index := Scalar.indexCast c2_i32_1023
  let c0_i32_753 : BitVec 32 := 0#32
  let c1_i32_755 : BitVec 32 := 1#32
  let arg12 : BitVec 32 := Scf.iv c0_i32_753 c1_i32_755 k0_t28
  let c5_i32_1020 : BitVec 32 := 5#32
  let v1266 : BitVec 32 := Scalar.muli arg12 c5_i32_1020
  let v1267 : BitVec 32 := Scalar.addi v1266 c0_i32_1021
  let v1270 : Index := Scalar.indexCast v1267
  let c32_1024 : Index := 32#32
  ![1, 2, v1270.toNat, 32]
def k0_off218 (k0_t28 : Fin k0_t28_loop.trips) (c0_i32_1026 : BitVec 32) : Fin 4 → Nat :=
  let c1_i32_1027 : BitVec 32 := 1#32
  let v1276 : Index := Scalar.indexCast c1_i32_1027
  let c2_i32_1028 : BitVec 32 := 2#32
  let v1277 : Index := Scalar.indexCast c2_i32_1028
  let c0_i32_753 : BitVec 32 := 0#32
  let c1_i32_755 : BitVec 32 := 1#32
  let arg12 : BitVec 32 := Scf.iv c0_i32_753 c1_i32_755 k0_t28
  let c5_i32_1025 : BitVec 32 := 5#32
  let v1274 : BitVec 32 := Scalar.muli arg12 c5_i32_1025
  let v1275 : BitVec 32 := Scalar.addi v1274 c0_i32_1026
  let v1278 : Index := Scalar.indexCast v1275
  let c48_1029 : Index := 48#32
  ![1, 2, v1278.toNat, 48]
def k0_off219 (k0_t28 : Fin k0_t28_loop.trips) (c0_i32_1031 : BitVec 32) : Fin 4 → Nat :=
  let c1_i32_1032 : BitVec 32 := 1#32
  let v1284 : Index := Scalar.indexCast c1_i32_1032
  let c2_i32_1033 : BitVec 32 := 2#32
  let v1285 : Index := Scalar.indexCast c2_i32_1033
  let c0_i32_753 : BitVec 32 := 0#32
  let c1_i32_755 : BitVec 32 := 1#32
  let arg12 : BitVec 32 := Scf.iv c0_i32_753 c1_i32_755 k0_t28
  let c5_i32_1030 : BitVec 32 := 5#32
  let v1282 : BitVec 32 := Scalar.muli arg12 c5_i32_1030
  let v1283 : BitVec 32 := Scalar.addi v1282 c0_i32_1031
  let v1286 : Index := Scalar.indexCast v1283
  let c64_1034 : Index := 64#32
  ![1, 2, v1286.toNat, 64]
def k0_off220 (k0_t28 : Fin k0_t28_loop.trips) (c0_i32_1036 : BitVec 32) : Fin 4 → Nat :=
  let c1_i32_1037 : BitVec 32 := 1#32
  let v1292 : Index := Scalar.indexCast c1_i32_1037
  let c2_i32_1038 : BitVec 32 := 2#32
  let v1293 : Index := Scalar.indexCast c2_i32_1038
  let c0_i32_753 : BitVec 32 := 0#32
  let c1_i32_755 : BitVec 32 := 1#32
  let arg12 : BitVec 32 := Scf.iv c0_i32_753 c1_i32_755 k0_t28
  let c5_i32_1035 : BitVec 32 := 5#32
  let v1290 : BitVec 32 := Scalar.muli arg12 c5_i32_1035
  let v1291 : BitVec 32 := Scalar.addi v1290 c0_i32_1036
  let v1294 : Index := Scalar.indexCast v1291
  let c80_1039 : Index := 80#32
  ![1, 2, v1294.toNat, 80]
def k0_off221 (k0_t28 : Fin k0_t28_loop.trips) (c0_i32_1041 : BitVec 32) : Fin 4 → Nat :=
  let c1_i32_1042 : BitVec 32 := 1#32
  let v1300 : Index := Scalar.indexCast c1_i32_1042
  let c2_i32_1043 : BitVec 32 := 2#32
  let v1301 : Index := Scalar.indexCast c2_i32_1043
  let c0_i32_753 : BitVec 32 := 0#32
  let c1_i32_755 : BitVec 32 := 1#32
  let arg12 : BitVec 32 := Scf.iv c0_i32_753 c1_i32_755 k0_t28
  let c5_i32_1040 : BitVec 32 := 5#32
  let v1298 : BitVec 32 := Scalar.muli arg12 c5_i32_1040
  let v1299 : BitVec 32 := Scalar.addi v1298 c0_i32_1041
  let v1302 : Index := Scalar.indexCast v1299
  let c96_1044 : Index := 96#32
  ![1, 2, v1302.toNat, 96]
def k0_off222 (k0_t28 : Fin k0_t28_loop.trips) (c0_i32_1046 : BitVec 32) : Fin 4 → Nat :=
  let c1_i32_1047 : BitVec 32 := 1#32
  let v1308 : Index := Scalar.indexCast c1_i32_1047
  let c2_i32_1048 : BitVec 32 := 2#32
  let v1309 : Index := Scalar.indexCast c2_i32_1048
  let c0_i32_753 : BitVec 32 := 0#32
  let c1_i32_755 : BitVec 32 := 1#32
  let arg12 : BitVec 32 := Scf.iv c0_i32_753 c1_i32_755 k0_t28
  let c5_i32_1045 : BitVec 32 := 5#32
  let v1306 : BitVec 32 := Scalar.muli arg12 c5_i32_1045
  let v1307 : BitVec 32 := Scalar.addi v1306 c0_i32_1046
  let v1310 : Index := Scalar.indexCast v1307
  let c112_1049 : Index := 112#32
  ![1, 2, v1310.toNat, 112]
@[reducible] def k0_t29_loop : Scf.Loop 32 :=
  let c0_i32_797 : BitVec 32 := 0#32
  let c10_i32_798 : BitVec 32 := 10#32
  let v928 : BitVec 32 := Scalar.addi c0_i32_797 c10_i32_798
  let c1_i32_799 : BitVec 32 := 1#32
  ⟨c0_i32_797, v928, c1_i32_799⟩
def k0_off223 (k0_t29 : Fin k0_t29_loop.trips) (c0_i32_1011 : BitVec 32) : Fin 4 → Nat :=
  let c1_i32_1012 : BitVec 32 := 1#32
  let v1252 : Index := Scalar.indexCast c1_i32_1012
  let c3_i32_1013 : BitVec 32 := 3#32
  let v1253 : Index := Scalar.indexCast c3_i32_1013
  let c0_i32_797 : BitVec 32 := 0#32
  let c1_i32_799 : BitVec 32 := 1#32
  let arg12 : BitVec 32 := Scf.iv c0_i32_797 c1_i32_799 k0_t29
  let c5_i32_1010 : BitVec 32 := 5#32
  let v1250 : BitVec 32 := Scalar.muli arg12 c5_i32_1010
  let v1251 : BitVec 32 := Scalar.addi v1250 c0_i32_1011
  let v1254 : Index := Scalar.indexCast v1251
  let c0_1014 : Index := 0#32
  ![1, 3, v1254.toNat, 0]
def k0_off224 (k0_t29 : Fin k0_t29_loop.trips) (c0_i32_1016 : BitVec 32) : Fin 4 → Nat :=
  let c1_i32_1017 : BitVec 32 := 1#32
  let v1260 : Index := Scalar.indexCast c1_i32_1017
  let c3_i32_1018 : BitVec 32 := 3#32
  let v1261 : Index := Scalar.indexCast c3_i32_1018
  let c0_i32_797 : BitVec 32 := 0#32
  let c1_i32_799 : BitVec 32 := 1#32
  let arg12 : BitVec 32 := Scf.iv c0_i32_797 c1_i32_799 k0_t29
  let c5_i32_1015 : BitVec 32 := 5#32
  let v1258 : BitVec 32 := Scalar.muli arg12 c5_i32_1015
  let v1259 : BitVec 32 := Scalar.addi v1258 c0_i32_1016
  let v1262 : Index := Scalar.indexCast v1259
  let c16_1019 : Index := 16#32
  ![1, 3, v1262.toNat, 16]
def k0_off225 (k0_t29 : Fin k0_t29_loop.trips) (c0_i32_1021 : BitVec 32) : Fin 4 → Nat :=
  let c1_i32_1022 : BitVec 32 := 1#32
  let v1268 : Index := Scalar.indexCast c1_i32_1022
  let c3_i32_1023 : BitVec 32 := 3#32
  let v1269 : Index := Scalar.indexCast c3_i32_1023
  let c0_i32_797 : BitVec 32 := 0#32
  let c1_i32_799 : BitVec 32 := 1#32
  let arg12 : BitVec 32 := Scf.iv c0_i32_797 c1_i32_799 k0_t29
  let c5_i32_1020 : BitVec 32 := 5#32
  let v1266 : BitVec 32 := Scalar.muli arg12 c5_i32_1020
  let v1267 : BitVec 32 := Scalar.addi v1266 c0_i32_1021
  let v1270 : Index := Scalar.indexCast v1267
  let c32_1024 : Index := 32#32
  ![1, 3, v1270.toNat, 32]
def k0_off226 (k0_t29 : Fin k0_t29_loop.trips) (c0_i32_1026 : BitVec 32) : Fin 4 → Nat :=
  let c1_i32_1027 : BitVec 32 := 1#32
  let v1276 : Index := Scalar.indexCast c1_i32_1027
  let c3_i32_1028 : BitVec 32 := 3#32
  let v1277 : Index := Scalar.indexCast c3_i32_1028
  let c0_i32_797 : BitVec 32 := 0#32
  let c1_i32_799 : BitVec 32 := 1#32
  let arg12 : BitVec 32 := Scf.iv c0_i32_797 c1_i32_799 k0_t29
  let c5_i32_1025 : BitVec 32 := 5#32
  let v1274 : BitVec 32 := Scalar.muli arg12 c5_i32_1025
  let v1275 : BitVec 32 := Scalar.addi v1274 c0_i32_1026
  let v1278 : Index := Scalar.indexCast v1275
  let c48_1029 : Index := 48#32
  ![1, 3, v1278.toNat, 48]
def k0_off227 (k0_t29 : Fin k0_t29_loop.trips) (c0_i32_1031 : BitVec 32) : Fin 4 → Nat :=
  let c1_i32_1032 : BitVec 32 := 1#32
  let v1284 : Index := Scalar.indexCast c1_i32_1032
  let c3_i32_1033 : BitVec 32 := 3#32
  let v1285 : Index := Scalar.indexCast c3_i32_1033
  let c0_i32_797 : BitVec 32 := 0#32
  let c1_i32_799 : BitVec 32 := 1#32
  let arg12 : BitVec 32 := Scf.iv c0_i32_797 c1_i32_799 k0_t29
  let c5_i32_1030 : BitVec 32 := 5#32
  let v1282 : BitVec 32 := Scalar.muli arg12 c5_i32_1030
  let v1283 : BitVec 32 := Scalar.addi v1282 c0_i32_1031
  let v1286 : Index := Scalar.indexCast v1283
  let c64_1034 : Index := 64#32
  ![1, 3, v1286.toNat, 64]
def k0_off228 (k0_t29 : Fin k0_t29_loop.trips) (c0_i32_1036 : BitVec 32) : Fin 4 → Nat :=
  let c1_i32_1037 : BitVec 32 := 1#32
  let v1292 : Index := Scalar.indexCast c1_i32_1037
  let c3_i32_1038 : BitVec 32 := 3#32
  let v1293 : Index := Scalar.indexCast c3_i32_1038
  let c0_i32_797 : BitVec 32 := 0#32
  let c1_i32_799 : BitVec 32 := 1#32
  let arg12 : BitVec 32 := Scf.iv c0_i32_797 c1_i32_799 k0_t29
  let c5_i32_1035 : BitVec 32 := 5#32
  let v1290 : BitVec 32 := Scalar.muli arg12 c5_i32_1035
  let v1291 : BitVec 32 := Scalar.addi v1290 c0_i32_1036
  let v1294 : Index := Scalar.indexCast v1291
  let c80_1039 : Index := 80#32
  ![1, 3, v1294.toNat, 80]
def k0_off229 (k0_t29 : Fin k0_t29_loop.trips) (c0_i32_1041 : BitVec 32) : Fin 4 → Nat :=
  let c1_i32_1042 : BitVec 32 := 1#32
  let v1300 : Index := Scalar.indexCast c1_i32_1042
  let c3_i32_1043 : BitVec 32 := 3#32
  let v1301 : Index := Scalar.indexCast c3_i32_1043
  let c0_i32_797 : BitVec 32 := 0#32
  let c1_i32_799 : BitVec 32 := 1#32
  let arg12 : BitVec 32 := Scf.iv c0_i32_797 c1_i32_799 k0_t29
  let c5_i32_1040 : BitVec 32 := 5#32
  let v1298 : BitVec 32 := Scalar.muli arg12 c5_i32_1040
  let v1299 : BitVec 32 := Scalar.addi v1298 c0_i32_1041
  let v1302 : Index := Scalar.indexCast v1299
  let c96_1044 : Index := 96#32
  ![1, 3, v1302.toNat, 96]
def k0_off230 (k0_t29 : Fin k0_t29_loop.trips) (c0_i32_1046 : BitVec 32) : Fin 4 → Nat :=
  let c1_i32_1047 : BitVec 32 := 1#32
  let v1308 : Index := Scalar.indexCast c1_i32_1047
  let c3_i32_1048 : BitVec 32 := 3#32
  let v1309 : Index := Scalar.indexCast c3_i32_1048
  let c0_i32_797 : BitVec 32 := 0#32
  let c1_i32_799 : BitVec 32 := 1#32
  let arg12 : BitVec 32 := Scf.iv c0_i32_797 c1_i32_799 k0_t29
  let c5_i32_1045 : BitVec 32 := 5#32
  let v1306 : BitVec 32 := Scalar.muli arg12 c5_i32_1045
  let v1307 : BitVec 32 := Scalar.addi v1306 c0_i32_1046
  let v1310 : Index := Scalar.indexCast v1307
  let c112_1049 : Index := 112#32
  ![1, 3, v1310.toNat, 112]
@[reducible] def k0_t30_loop : Scf.Loop 32 :=
  let c0_i32_841 : BitVec 32 := 0#32
  let c10_i32_842 : BitVec 32 := 10#32
  let v994 : BitVec 32 := Scalar.addi c0_i32_841 c10_i32_842
  let c1_i32_843 : BitVec 32 := 1#32
  ⟨c0_i32_841, v994, c1_i32_843⟩
def k0_off231 (k0_t30 : Fin k0_t30_loop.trips) (c0_i32_1011 : BitVec 32) : Fin 4 → Nat :=
  let c1_i32_1012 : BitVec 32 := 1#32
  let v1252 : Index := Scalar.indexCast c1_i32_1012
  let c4_i32_1013 : BitVec 32 := 4#32
  let v1253 : Index := Scalar.indexCast c4_i32_1013
  let c0_i32_841 : BitVec 32 := 0#32
  let c1_i32_843 : BitVec 32 := 1#32
  let arg12 : BitVec 32 := Scf.iv c0_i32_841 c1_i32_843 k0_t30
  let c5_i32_1010 : BitVec 32 := 5#32
  let v1250 : BitVec 32 := Scalar.muli arg12 c5_i32_1010
  let v1251 : BitVec 32 := Scalar.addi v1250 c0_i32_1011
  let v1254 : Index := Scalar.indexCast v1251
  let c0_1014 : Index := 0#32
  ![1, 4, v1254.toNat, 0]
def k0_off232 (k0_t30 : Fin k0_t30_loop.trips) (c0_i32_1016 : BitVec 32) : Fin 4 → Nat :=
  let c1_i32_1017 : BitVec 32 := 1#32
  let v1260 : Index := Scalar.indexCast c1_i32_1017
  let c4_i32_1018 : BitVec 32 := 4#32
  let v1261 : Index := Scalar.indexCast c4_i32_1018
  let c0_i32_841 : BitVec 32 := 0#32
  let c1_i32_843 : BitVec 32 := 1#32
  let arg12 : BitVec 32 := Scf.iv c0_i32_841 c1_i32_843 k0_t30
  let c5_i32_1015 : BitVec 32 := 5#32
  let v1258 : BitVec 32 := Scalar.muli arg12 c5_i32_1015
  let v1259 : BitVec 32 := Scalar.addi v1258 c0_i32_1016
  let v1262 : Index := Scalar.indexCast v1259
  let c16_1019 : Index := 16#32
  ![1, 4, v1262.toNat, 16]
def k0_off233 (k0_t30 : Fin k0_t30_loop.trips) (c0_i32_1021 : BitVec 32) : Fin 4 → Nat :=
  let c1_i32_1022 : BitVec 32 := 1#32
  let v1268 : Index := Scalar.indexCast c1_i32_1022
  let c4_i32_1023 : BitVec 32 := 4#32
  let v1269 : Index := Scalar.indexCast c4_i32_1023
  let c0_i32_841 : BitVec 32 := 0#32
  let c1_i32_843 : BitVec 32 := 1#32
  let arg12 : BitVec 32 := Scf.iv c0_i32_841 c1_i32_843 k0_t30
  let c5_i32_1020 : BitVec 32 := 5#32
  let v1266 : BitVec 32 := Scalar.muli arg12 c5_i32_1020
  let v1267 : BitVec 32 := Scalar.addi v1266 c0_i32_1021
  let v1270 : Index := Scalar.indexCast v1267
  let c32_1024 : Index := 32#32
  ![1, 4, v1270.toNat, 32]
def k0_off234 (k0_t30 : Fin k0_t30_loop.trips) (c0_i32_1026 : BitVec 32) : Fin 4 → Nat :=
  let c1_i32_1027 : BitVec 32 := 1#32
  let v1276 : Index := Scalar.indexCast c1_i32_1027
  let c4_i32_1028 : BitVec 32 := 4#32
  let v1277 : Index := Scalar.indexCast c4_i32_1028
  let c0_i32_841 : BitVec 32 := 0#32
  let c1_i32_843 : BitVec 32 := 1#32
  let arg12 : BitVec 32 := Scf.iv c0_i32_841 c1_i32_843 k0_t30
  let c5_i32_1025 : BitVec 32 := 5#32
  let v1274 : BitVec 32 := Scalar.muli arg12 c5_i32_1025
  let v1275 : BitVec 32 := Scalar.addi v1274 c0_i32_1026
  let v1278 : Index := Scalar.indexCast v1275
  let c48_1029 : Index := 48#32
  ![1, 4, v1278.toNat, 48]
def k0_off235 (k0_t30 : Fin k0_t30_loop.trips) (c0_i32_1031 : BitVec 32) : Fin 4 → Nat :=
  let c1_i32_1032 : BitVec 32 := 1#32
  let v1284 : Index := Scalar.indexCast c1_i32_1032
  let c4_i32_1033 : BitVec 32 := 4#32
  let v1285 : Index := Scalar.indexCast c4_i32_1033
  let c0_i32_841 : BitVec 32 := 0#32
  let c1_i32_843 : BitVec 32 := 1#32
  let arg12 : BitVec 32 := Scf.iv c0_i32_841 c1_i32_843 k0_t30
  let c5_i32_1030 : BitVec 32 := 5#32
  let v1282 : BitVec 32 := Scalar.muli arg12 c5_i32_1030
  let v1283 : BitVec 32 := Scalar.addi v1282 c0_i32_1031
  let v1286 : Index := Scalar.indexCast v1283
  let c64_1034 : Index := 64#32
  ![1, 4, v1286.toNat, 64]
def k0_off236 (k0_t30 : Fin k0_t30_loop.trips) (c0_i32_1036 : BitVec 32) : Fin 4 → Nat :=
  let c1_i32_1037 : BitVec 32 := 1#32
  let v1292 : Index := Scalar.indexCast c1_i32_1037
  let c4_i32_1038 : BitVec 32 := 4#32
  let v1293 : Index := Scalar.indexCast c4_i32_1038
  let c0_i32_841 : BitVec 32 := 0#32
  let c1_i32_843 : BitVec 32 := 1#32
  let arg12 : BitVec 32 := Scf.iv c0_i32_841 c1_i32_843 k0_t30
  let c5_i32_1035 : BitVec 32 := 5#32
  let v1290 : BitVec 32 := Scalar.muli arg12 c5_i32_1035
  let v1291 : BitVec 32 := Scalar.addi v1290 c0_i32_1036
  let v1294 : Index := Scalar.indexCast v1291
  let c80_1039 : Index := 80#32
  ![1, 4, v1294.toNat, 80]
def k0_off237 (k0_t30 : Fin k0_t30_loop.trips) (c0_i32_1041 : BitVec 32) : Fin 4 → Nat :=
  let c1_i32_1042 : BitVec 32 := 1#32
  let v1300 : Index := Scalar.indexCast c1_i32_1042
  let c4_i32_1043 : BitVec 32 := 4#32
  let v1301 : Index := Scalar.indexCast c4_i32_1043
  let c0_i32_841 : BitVec 32 := 0#32
  let c1_i32_843 : BitVec 32 := 1#32
  let arg12 : BitVec 32 := Scf.iv c0_i32_841 c1_i32_843 k0_t30
  let c5_i32_1040 : BitVec 32 := 5#32
  let v1298 : BitVec 32 := Scalar.muli arg12 c5_i32_1040
  let v1299 : BitVec 32 := Scalar.addi v1298 c0_i32_1041
  let v1302 : Index := Scalar.indexCast v1299
  let c96_1044 : Index := 96#32
  ![1, 4, v1302.toNat, 96]
def k0_off238 (k0_t30 : Fin k0_t30_loop.trips) (c0_i32_1046 : BitVec 32) : Fin 4 → Nat :=
  let c1_i32_1047 : BitVec 32 := 1#32
  let v1308 : Index := Scalar.indexCast c1_i32_1047
  let c4_i32_1048 : BitVec 32 := 4#32
  let v1309 : Index := Scalar.indexCast c4_i32_1048
  let c0_i32_841 : BitVec 32 := 0#32
  let c1_i32_843 : BitVec 32 := 1#32
  let arg12 : BitVec 32 := Scf.iv c0_i32_841 c1_i32_843 k0_t30
  let c5_i32_1045 : BitVec 32 := 5#32
  let v1306 : BitVec 32 := Scalar.muli arg12 c5_i32_1045
  let v1307 : BitVec 32 := Scalar.addi v1306 c0_i32_1046
  let v1310 : Index := Scalar.indexCast v1307
  let c112_1049 : Index := 112#32
  ![1, 4, v1310.toNat, 112]
@[reducible] def k0_t31_loop : Scf.Loop 32 :=
  let c0_i32_885 : BitVec 32 := 0#32
  let c10_i32_886 : BitVec 32 := 10#32
  let v1060 : BitVec 32 := Scalar.addi c0_i32_885 c10_i32_886
  let c1_i32_887 : BitVec 32 := 1#32
  ⟨c0_i32_885, v1060, c1_i32_887⟩
def k0_off239 (k0_t31 : Fin k0_t31_loop.trips) (c0_i32_1011 : BitVec 32) : Fin 4 → Nat :=
  let c1_i32_1012 : BitVec 32 := 1#32
  let v1252 : Index := Scalar.indexCast c1_i32_1012
  let c5_i32_1013 : BitVec 32 := 5#32
  let v1253 : Index := Scalar.indexCast c5_i32_1013
  let c0_i32_885 : BitVec 32 := 0#32
  let c1_i32_887 : BitVec 32 := 1#32
  let arg12 : BitVec 32 := Scf.iv c0_i32_885 c1_i32_887 k0_t31
  let c5_i32_1010 : BitVec 32 := 5#32
  let v1250 : BitVec 32 := Scalar.muli arg12 c5_i32_1010
  let v1251 : BitVec 32 := Scalar.addi v1250 c0_i32_1011
  let v1254 : Index := Scalar.indexCast v1251
  let c0_1014 : Index := 0#32
  ![1, 5, v1254.toNat, 0]
def k0_off240 (k0_t31 : Fin k0_t31_loop.trips) (c0_i32_1016 : BitVec 32) : Fin 4 → Nat :=
  let c1_i32_1017 : BitVec 32 := 1#32
  let v1260 : Index := Scalar.indexCast c1_i32_1017
  let c5_i32_1018 : BitVec 32 := 5#32
  let v1261 : Index := Scalar.indexCast c5_i32_1018
  let c0_i32_885 : BitVec 32 := 0#32
  let c1_i32_887 : BitVec 32 := 1#32
  let arg12 : BitVec 32 := Scf.iv c0_i32_885 c1_i32_887 k0_t31
  let c5_i32_1015 : BitVec 32 := 5#32
  let v1258 : BitVec 32 := Scalar.muli arg12 c5_i32_1015
  let v1259 : BitVec 32 := Scalar.addi v1258 c0_i32_1016
  let v1262 : Index := Scalar.indexCast v1259
  let c16_1019 : Index := 16#32
  ![1, 5, v1262.toNat, 16]
def k0_off241 (k0_t31 : Fin k0_t31_loop.trips) (c0_i32_1021 : BitVec 32) : Fin 4 → Nat :=
  let c1_i32_1022 : BitVec 32 := 1#32
  let v1268 : Index := Scalar.indexCast c1_i32_1022
  let c5_i32_1023 : BitVec 32 := 5#32
  let v1269 : Index := Scalar.indexCast c5_i32_1023
  let c0_i32_885 : BitVec 32 := 0#32
  let c1_i32_887 : BitVec 32 := 1#32
  let arg12 : BitVec 32 := Scf.iv c0_i32_885 c1_i32_887 k0_t31
  let c5_i32_1020 : BitVec 32 := 5#32
  let v1266 : BitVec 32 := Scalar.muli arg12 c5_i32_1020
  let v1267 : BitVec 32 := Scalar.addi v1266 c0_i32_1021
  let v1270 : Index := Scalar.indexCast v1267
  let c32_1024 : Index := 32#32
  ![1, 5, v1270.toNat, 32]
def k0_off242 (k0_t31 : Fin k0_t31_loop.trips) (c0_i32_1026 : BitVec 32) : Fin 4 → Nat :=
  let c1_i32_1027 : BitVec 32 := 1#32
  let v1276 : Index := Scalar.indexCast c1_i32_1027
  let c5_i32_1028 : BitVec 32 := 5#32
  let v1277 : Index := Scalar.indexCast c5_i32_1028
  let c0_i32_885 : BitVec 32 := 0#32
  let c1_i32_887 : BitVec 32 := 1#32
  let arg12 : BitVec 32 := Scf.iv c0_i32_885 c1_i32_887 k0_t31
  let c5_i32_1025 : BitVec 32 := 5#32
  let v1274 : BitVec 32 := Scalar.muli arg12 c5_i32_1025
  let v1275 : BitVec 32 := Scalar.addi v1274 c0_i32_1026
  let v1278 : Index := Scalar.indexCast v1275
  let c48_1029 : Index := 48#32
  ![1, 5, v1278.toNat, 48]
def k0_off243 (k0_t31 : Fin k0_t31_loop.trips) (c0_i32_1031 : BitVec 32) : Fin 4 → Nat :=
  let c1_i32_1032 : BitVec 32 := 1#32
  let v1284 : Index := Scalar.indexCast c1_i32_1032
  let c5_i32_1033 : BitVec 32 := 5#32
  let v1285 : Index := Scalar.indexCast c5_i32_1033
  let c0_i32_885 : BitVec 32 := 0#32
  let c1_i32_887 : BitVec 32 := 1#32
  let arg12 : BitVec 32 := Scf.iv c0_i32_885 c1_i32_887 k0_t31
  let c5_i32_1030 : BitVec 32 := 5#32
  let v1282 : BitVec 32 := Scalar.muli arg12 c5_i32_1030
  let v1283 : BitVec 32 := Scalar.addi v1282 c0_i32_1031
  let v1286 : Index := Scalar.indexCast v1283
  let c64_1034 : Index := 64#32
  ![1, 5, v1286.toNat, 64]
def k0_off244 (k0_t31 : Fin k0_t31_loop.trips) (c0_i32_1036 : BitVec 32) : Fin 4 → Nat :=
  let c1_i32_1037 : BitVec 32 := 1#32
  let v1292 : Index := Scalar.indexCast c1_i32_1037
  let c5_i32_1038 : BitVec 32 := 5#32
  let v1293 : Index := Scalar.indexCast c5_i32_1038
  let c0_i32_885 : BitVec 32 := 0#32
  let c1_i32_887 : BitVec 32 := 1#32
  let arg12 : BitVec 32 := Scf.iv c0_i32_885 c1_i32_887 k0_t31
  let c5_i32_1035 : BitVec 32 := 5#32
  let v1290 : BitVec 32 := Scalar.muli arg12 c5_i32_1035
  let v1291 : BitVec 32 := Scalar.addi v1290 c0_i32_1036
  let v1294 : Index := Scalar.indexCast v1291
  let c80_1039 : Index := 80#32
  ![1, 5, v1294.toNat, 80]
def k0_off245 (k0_t31 : Fin k0_t31_loop.trips) (c0_i32_1041 : BitVec 32) : Fin 4 → Nat :=
  let c1_i32_1042 : BitVec 32 := 1#32
  let v1300 : Index := Scalar.indexCast c1_i32_1042
  let c5_i32_1043 : BitVec 32 := 5#32
  let v1301 : Index := Scalar.indexCast c5_i32_1043
  let c0_i32_885 : BitVec 32 := 0#32
  let c1_i32_887 : BitVec 32 := 1#32
  let arg12 : BitVec 32 := Scf.iv c0_i32_885 c1_i32_887 k0_t31
  let c5_i32_1040 : BitVec 32 := 5#32
  let v1298 : BitVec 32 := Scalar.muli arg12 c5_i32_1040
  let v1299 : BitVec 32 := Scalar.addi v1298 c0_i32_1041
  let v1302 : Index := Scalar.indexCast v1299
  let c96_1044 : Index := 96#32
  ![1, 5, v1302.toNat, 96]
def k0_off246 (k0_t31 : Fin k0_t31_loop.trips) (c0_i32_1046 : BitVec 32) : Fin 4 → Nat :=
  let c1_i32_1047 : BitVec 32 := 1#32
  let v1308 : Index := Scalar.indexCast c1_i32_1047
  let c5_i32_1048 : BitVec 32 := 5#32
  let v1309 : Index := Scalar.indexCast c5_i32_1048
  let c0_i32_885 : BitVec 32 := 0#32
  let c1_i32_887 : BitVec 32 := 1#32
  let arg12 : BitVec 32 := Scf.iv c0_i32_885 c1_i32_887 k0_t31
  let c5_i32_1045 : BitVec 32 := 5#32
  let v1306 : BitVec 32 := Scalar.muli arg12 c5_i32_1045
  let v1307 : BitVec 32 := Scalar.addi v1306 c0_i32_1046
  let v1310 : Index := Scalar.indexCast v1307
  let c112_1049 : Index := 112#32
  ![1, 5, v1310.toNat, 112]
@[reducible] def k0_t32_loop : Scf.Loop 32 :=
  let c0_i32_929 : BitVec 32 := 0#32
  let c10_i32_930 : BitVec 32 := 10#32
  let v1126 : BitVec 32 := Scalar.addi c0_i32_929 c10_i32_930
  let c1_i32_931 : BitVec 32 := 1#32
  ⟨c0_i32_929, v1126, c1_i32_931⟩
def k0_off247 (k0_t32 : Fin k0_t32_loop.trips) (c0_i32_1011 : BitVec 32) : Fin 4 → Nat :=
  let c1_i32_1012 : BitVec 32 := 1#32
  let v1252 : Index := Scalar.indexCast c1_i32_1012
  let c6_i32_1013 : BitVec 32 := 6#32
  let v1253 : Index := Scalar.indexCast c6_i32_1013
  let c0_i32_929 : BitVec 32 := 0#32
  let c1_i32_931 : BitVec 32 := 1#32
  let arg12 : BitVec 32 := Scf.iv c0_i32_929 c1_i32_931 k0_t32
  let c5_i32_1010 : BitVec 32 := 5#32
  let v1250 : BitVec 32 := Scalar.muli arg12 c5_i32_1010
  let v1251 : BitVec 32 := Scalar.addi v1250 c0_i32_1011
  let v1254 : Index := Scalar.indexCast v1251
  let c0_1014 : Index := 0#32
  ![1, 6, v1254.toNat, 0]
def k0_off248 (k0_t32 : Fin k0_t32_loop.trips) (c0_i32_1016 : BitVec 32) : Fin 4 → Nat :=
  let c1_i32_1017 : BitVec 32 := 1#32
  let v1260 : Index := Scalar.indexCast c1_i32_1017
  let c6_i32_1018 : BitVec 32 := 6#32
  let v1261 : Index := Scalar.indexCast c6_i32_1018
  let c0_i32_929 : BitVec 32 := 0#32
  let c1_i32_931 : BitVec 32 := 1#32
  let arg12 : BitVec 32 := Scf.iv c0_i32_929 c1_i32_931 k0_t32
  let c5_i32_1015 : BitVec 32 := 5#32
  let v1258 : BitVec 32 := Scalar.muli arg12 c5_i32_1015
  let v1259 : BitVec 32 := Scalar.addi v1258 c0_i32_1016
  let v1262 : Index := Scalar.indexCast v1259
  let c16_1019 : Index := 16#32
  ![1, 6, v1262.toNat, 16]
def k0_off249 (k0_t32 : Fin k0_t32_loop.trips) (c0_i32_1021 : BitVec 32) : Fin 4 → Nat :=
  let c1_i32_1022 : BitVec 32 := 1#32
  let v1268 : Index := Scalar.indexCast c1_i32_1022
  let c6_i32_1023 : BitVec 32 := 6#32
  let v1269 : Index := Scalar.indexCast c6_i32_1023
  let c0_i32_929 : BitVec 32 := 0#32
  let c1_i32_931 : BitVec 32 := 1#32
  let arg12 : BitVec 32 := Scf.iv c0_i32_929 c1_i32_931 k0_t32
  let c5_i32_1020 : BitVec 32 := 5#32
  let v1266 : BitVec 32 := Scalar.muli arg12 c5_i32_1020
  let v1267 : BitVec 32 := Scalar.addi v1266 c0_i32_1021
  let v1270 : Index := Scalar.indexCast v1267
  let c32_1024 : Index := 32#32
  ![1, 6, v1270.toNat, 32]
def k0_off250 (k0_t32 : Fin k0_t32_loop.trips) (c0_i32_1026 : BitVec 32) : Fin 4 → Nat :=
  let c1_i32_1027 : BitVec 32 := 1#32
  let v1276 : Index := Scalar.indexCast c1_i32_1027
  let c6_i32_1028 : BitVec 32 := 6#32
  let v1277 : Index := Scalar.indexCast c6_i32_1028
  let c0_i32_929 : BitVec 32 := 0#32
  let c1_i32_931 : BitVec 32 := 1#32
  let arg12 : BitVec 32 := Scf.iv c0_i32_929 c1_i32_931 k0_t32
  let c5_i32_1025 : BitVec 32 := 5#32
  let v1274 : BitVec 32 := Scalar.muli arg12 c5_i32_1025
  let v1275 : BitVec 32 := Scalar.addi v1274 c0_i32_1026
  let v1278 : Index := Scalar.indexCast v1275
  let c48_1029 : Index := 48#32
  ![1, 6, v1278.toNat, 48]
def k0_off251 (k0_t32 : Fin k0_t32_loop.trips) (c0_i32_1031 : BitVec 32) : Fin 4 → Nat :=
  let c1_i32_1032 : BitVec 32 := 1#32
  let v1284 : Index := Scalar.indexCast c1_i32_1032
  let c6_i32_1033 : BitVec 32 := 6#32
  let v1285 : Index := Scalar.indexCast c6_i32_1033
  let c0_i32_929 : BitVec 32 := 0#32
  let c1_i32_931 : BitVec 32 := 1#32
  let arg12 : BitVec 32 := Scf.iv c0_i32_929 c1_i32_931 k0_t32
  let c5_i32_1030 : BitVec 32 := 5#32
  let v1282 : BitVec 32 := Scalar.muli arg12 c5_i32_1030
  let v1283 : BitVec 32 := Scalar.addi v1282 c0_i32_1031
  let v1286 : Index := Scalar.indexCast v1283
  let c64_1034 : Index := 64#32
  ![1, 6, v1286.toNat, 64]
def k0_off252 (k0_t32 : Fin k0_t32_loop.trips) (c0_i32_1036 : BitVec 32) : Fin 4 → Nat :=
  let c1_i32_1037 : BitVec 32 := 1#32
  let v1292 : Index := Scalar.indexCast c1_i32_1037
  let c6_i32_1038 : BitVec 32 := 6#32
  let v1293 : Index := Scalar.indexCast c6_i32_1038
  let c0_i32_929 : BitVec 32 := 0#32
  let c1_i32_931 : BitVec 32 := 1#32
  let arg12 : BitVec 32 := Scf.iv c0_i32_929 c1_i32_931 k0_t32
  let c5_i32_1035 : BitVec 32 := 5#32
  let v1290 : BitVec 32 := Scalar.muli arg12 c5_i32_1035
  let v1291 : BitVec 32 := Scalar.addi v1290 c0_i32_1036
  let v1294 : Index := Scalar.indexCast v1291
  let c80_1039 : Index := 80#32
  ![1, 6, v1294.toNat, 80]
def k0_off253 (k0_t32 : Fin k0_t32_loop.trips) (c0_i32_1041 : BitVec 32) : Fin 4 → Nat :=
  let c1_i32_1042 : BitVec 32 := 1#32
  let v1300 : Index := Scalar.indexCast c1_i32_1042
  let c6_i32_1043 : BitVec 32 := 6#32
  let v1301 : Index := Scalar.indexCast c6_i32_1043
  let c0_i32_929 : BitVec 32 := 0#32
  let c1_i32_931 : BitVec 32 := 1#32
  let arg12 : BitVec 32 := Scf.iv c0_i32_929 c1_i32_931 k0_t32
  let c5_i32_1040 : BitVec 32 := 5#32
  let v1298 : BitVec 32 := Scalar.muli arg12 c5_i32_1040
  let v1299 : BitVec 32 := Scalar.addi v1298 c0_i32_1041
  let v1302 : Index := Scalar.indexCast v1299
  let c96_1044 : Index := 96#32
  ![1, 6, v1302.toNat, 96]
def k0_off254 (k0_t32 : Fin k0_t32_loop.trips) (c0_i32_1046 : BitVec 32) : Fin 4 → Nat :=
  let c1_i32_1047 : BitVec 32 := 1#32
  let v1308 : Index := Scalar.indexCast c1_i32_1047
  let c6_i32_1048 : BitVec 32 := 6#32
  let v1309 : Index := Scalar.indexCast c6_i32_1048
  let c0_i32_929 : BitVec 32 := 0#32
  let c1_i32_931 : BitVec 32 := 1#32
  let arg12 : BitVec 32 := Scf.iv c0_i32_929 c1_i32_931 k0_t32
  let c5_i32_1045 : BitVec 32 := 5#32
  let v1306 : BitVec 32 := Scalar.muli arg12 c5_i32_1045
  let v1307 : BitVec 32 := Scalar.addi v1306 c0_i32_1046
  let v1310 : Index := Scalar.indexCast v1307
  let c112_1049 : Index := 112#32
  ![1, 6, v1310.toNat, 112]
@[reducible] def k0_t33_loop : Scf.Loop 32 :=
  let c0_i32_973 : BitVec 32 := 0#32
  let c10_i32_974 : BitVec 32 := 10#32
  let v1192 : BitVec 32 := Scalar.addi c0_i32_973 c10_i32_974
  let c1_i32_975 : BitVec 32 := 1#32
  ⟨c0_i32_973, v1192, c1_i32_975⟩
def k0_off255 (k0_t33 : Fin k0_t33_loop.trips) (c0_i32_1011 : BitVec 32) : Fin 4 → Nat :=
  let c1_i32_1012 : BitVec 32 := 1#32
  let v1252 : Index := Scalar.indexCast c1_i32_1012
  let c7_i32_1013 : BitVec 32 := 7#32
  let v1253 : Index := Scalar.indexCast c7_i32_1013
  let c0_i32_973 : BitVec 32 := 0#32
  let c1_i32_975 : BitVec 32 := 1#32
  let arg12 : BitVec 32 := Scf.iv c0_i32_973 c1_i32_975 k0_t33
  let c5_i32_1010 : BitVec 32 := 5#32
  let v1250 : BitVec 32 := Scalar.muli arg12 c5_i32_1010
  let v1251 : BitVec 32 := Scalar.addi v1250 c0_i32_1011
  let v1254 : Index := Scalar.indexCast v1251
  let c0_1014 : Index := 0#32
  ![1, 7, v1254.toNat, 0]
def k0_off256 (k0_t33 : Fin k0_t33_loop.trips) (c0_i32_1016 : BitVec 32) : Fin 4 → Nat :=
  let c1_i32_1017 : BitVec 32 := 1#32
  let v1260 : Index := Scalar.indexCast c1_i32_1017
  let c7_i32_1018 : BitVec 32 := 7#32
  let v1261 : Index := Scalar.indexCast c7_i32_1018
  let c0_i32_973 : BitVec 32 := 0#32
  let c1_i32_975 : BitVec 32 := 1#32
  let arg12 : BitVec 32 := Scf.iv c0_i32_973 c1_i32_975 k0_t33
  let c5_i32_1015 : BitVec 32 := 5#32
  let v1258 : BitVec 32 := Scalar.muli arg12 c5_i32_1015
  let v1259 : BitVec 32 := Scalar.addi v1258 c0_i32_1016
  let v1262 : Index := Scalar.indexCast v1259
  let c16_1019 : Index := 16#32
  ![1, 7, v1262.toNat, 16]
def k0_off257 (k0_t33 : Fin k0_t33_loop.trips) (c0_i32_1021 : BitVec 32) : Fin 4 → Nat :=
  let c1_i32_1022 : BitVec 32 := 1#32
  let v1268 : Index := Scalar.indexCast c1_i32_1022
  let c7_i32_1023 : BitVec 32 := 7#32
  let v1269 : Index := Scalar.indexCast c7_i32_1023
  let c0_i32_973 : BitVec 32 := 0#32
  let c1_i32_975 : BitVec 32 := 1#32
  let arg12 : BitVec 32 := Scf.iv c0_i32_973 c1_i32_975 k0_t33
  let c5_i32_1020 : BitVec 32 := 5#32
  let v1266 : BitVec 32 := Scalar.muli arg12 c5_i32_1020
  let v1267 : BitVec 32 := Scalar.addi v1266 c0_i32_1021
  let v1270 : Index := Scalar.indexCast v1267
  let c32_1024 : Index := 32#32
  ![1, 7, v1270.toNat, 32]
def k0_off258 (k0_t33 : Fin k0_t33_loop.trips) (c0_i32_1026 : BitVec 32) : Fin 4 → Nat :=
  let c1_i32_1027 : BitVec 32 := 1#32
  let v1276 : Index := Scalar.indexCast c1_i32_1027
  let c7_i32_1028 : BitVec 32 := 7#32
  let v1277 : Index := Scalar.indexCast c7_i32_1028
  let c0_i32_973 : BitVec 32 := 0#32
  let c1_i32_975 : BitVec 32 := 1#32
  let arg12 : BitVec 32 := Scf.iv c0_i32_973 c1_i32_975 k0_t33
  let c5_i32_1025 : BitVec 32 := 5#32
  let v1274 : BitVec 32 := Scalar.muli arg12 c5_i32_1025
  let v1275 : BitVec 32 := Scalar.addi v1274 c0_i32_1026
  let v1278 : Index := Scalar.indexCast v1275
  let c48_1029 : Index := 48#32
  ![1, 7, v1278.toNat, 48]
def k0_off259 (k0_t33 : Fin k0_t33_loop.trips) (c0_i32_1031 : BitVec 32) : Fin 4 → Nat :=
  let c1_i32_1032 : BitVec 32 := 1#32
  let v1284 : Index := Scalar.indexCast c1_i32_1032
  let c7_i32_1033 : BitVec 32 := 7#32
  let v1285 : Index := Scalar.indexCast c7_i32_1033
  let c0_i32_973 : BitVec 32 := 0#32
  let c1_i32_975 : BitVec 32 := 1#32
  let arg12 : BitVec 32 := Scf.iv c0_i32_973 c1_i32_975 k0_t33
  let c5_i32_1030 : BitVec 32 := 5#32
  let v1282 : BitVec 32 := Scalar.muli arg12 c5_i32_1030
  let v1283 : BitVec 32 := Scalar.addi v1282 c0_i32_1031
  let v1286 : Index := Scalar.indexCast v1283
  let c64_1034 : Index := 64#32
  ![1, 7, v1286.toNat, 64]
def k0_off260 (k0_t33 : Fin k0_t33_loop.trips) (c0_i32_1036 : BitVec 32) : Fin 4 → Nat :=
  let c1_i32_1037 : BitVec 32 := 1#32
  let v1292 : Index := Scalar.indexCast c1_i32_1037
  let c7_i32_1038 : BitVec 32 := 7#32
  let v1293 : Index := Scalar.indexCast c7_i32_1038
  let c0_i32_973 : BitVec 32 := 0#32
  let c1_i32_975 : BitVec 32 := 1#32
  let arg12 : BitVec 32 := Scf.iv c0_i32_973 c1_i32_975 k0_t33
  let c5_i32_1035 : BitVec 32 := 5#32
  let v1290 : BitVec 32 := Scalar.muli arg12 c5_i32_1035
  let v1291 : BitVec 32 := Scalar.addi v1290 c0_i32_1036
  let v1294 : Index := Scalar.indexCast v1291
  let c80_1039 : Index := 80#32
  ![1, 7, v1294.toNat, 80]
def k0_off261 (k0_t33 : Fin k0_t33_loop.trips) (c0_i32_1041 : BitVec 32) : Fin 4 → Nat :=
  let c1_i32_1042 : BitVec 32 := 1#32
  let v1300 : Index := Scalar.indexCast c1_i32_1042
  let c7_i32_1043 : BitVec 32 := 7#32
  let v1301 : Index := Scalar.indexCast c7_i32_1043
  let c0_i32_973 : BitVec 32 := 0#32
  let c1_i32_975 : BitVec 32 := 1#32
  let arg12 : BitVec 32 := Scf.iv c0_i32_973 c1_i32_975 k0_t33
  let c5_i32_1040 : BitVec 32 := 5#32
  let v1298 : BitVec 32 := Scalar.muli arg12 c5_i32_1040
  let v1299 : BitVec 32 := Scalar.addi v1298 c0_i32_1041
  let v1302 : Index := Scalar.indexCast v1299
  let c96_1044 : Index := 96#32
  ![1, 7, v1302.toNat, 96]
def k0_off262 (k0_t33 : Fin k0_t33_loop.trips) (c0_i32_1046 : BitVec 32) : Fin 4 → Nat :=
  let c1_i32_1047 : BitVec 32 := 1#32
  let v1308 : Index := Scalar.indexCast c1_i32_1047
  let c7_i32_1048 : BitVec 32 := 7#32
  let v1309 : Index := Scalar.indexCast c7_i32_1048
  let c0_i32_973 : BitVec 32 := 0#32
  let c1_i32_975 : BitVec 32 := 1#32
  let arg12 : BitVec 32 := Scf.iv c0_i32_973 c1_i32_975 k0_t33
  let c5_i32_1045 : BitVec 32 := 5#32
  let v1306 : BitVec 32 := Scalar.muli arg12 c5_i32_1045
  let v1307 : BitVec 32 := Scalar.addi v1306 c0_i32_1046
  let v1310 : Index := Scalar.indexCast v1307
  let c112_1049 : Index := 112#32
  ![1, 7, v1310.toNat, 112]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x2 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2048x2 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_s" => some ((50⁻¹ : ℝ) : EReal)
  | _ => none
-- ==== ReferenceIdeal.lean ====
abbrev S16384x50 : Shape := ⟨2, ![16384, 50]⟩
abbrev S100000x128 : Shape := ⟨2, ![100000, 128]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x2 : Shape := ⟨2, ![32, 2]⟩
abbrev S2 : Shape := ⟨1, ![2]⟩
abbrev S_ : Shape := ⟨0, ![]⟩
abbrev S16384x50x1 : Shape := ⟨3, ![16384, 50, 1]⟩
abbrev S1 : Shape := ⟨1, ![1]⟩
abbrev S1x1x1 : Shape := ⟨3, ![1, 1, 1]⟩
abbrev S16384x50x128 : Shape := ⟨3, ![16384, 50, 128]⟩
abbrev S16384x128 : Shape := ⟨2, ![16384, 128]⟩
abbrev S1x128 : Shape := ⟨2, ![1, 128]⟩
abbrev S16384x32 : Shape := ⟨2, ![16384, 32]⟩
abbrev S1x32 : Shape := ⟨2, ![1, 32]⟩
abbrev S16384x2 : Shape := ⟨2, ![16384, 2]⟩
abbrev S1x2 : Shape := ⟨2, ![1, 2]⟩

abbrev nBuf : Space → Nat
  | .hbm => 63
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x32, .f32⟩
  | .hbm, ⟨7, _⟩ => ⟨S32, .f32⟩
  | .hbm, ⟨8, _⟩ => ⟨S32x2, .f32⟩
  | .hbm, ⟨9, _⟩ => ⟨S2, .f32⟩
  | .hbm, ⟨10, _⟩ => ⟨S_, .i32⟩
  | .hbm, ⟨11, _⟩ => ⟨S16384x50, .i32⟩
  | .hbm, ⟨12, _⟩ => ⟨S16384x50, .i1⟩
  | .hbm, ⟨13, _⟩ => ⟨S_, .i32⟩
  | .hbm, ⟨14, _⟩ => ⟨S16384x50, .i32⟩
  | .hbm, ⟨15, _⟩ => ⟨S16384x50, .i32⟩
  | .hbm, ⟨16, _⟩ => ⟨S16384x50, .i32⟩
  | .hbm, ⟨17, _⟩ => ⟨S16384x50x1, .i32⟩
  | .hbm, ⟨18, _⟩ => ⟨S1, .i32⟩
  | .hbm, ⟨19, _⟩ => ⟨S_, .i32⟩
  | .hbm, ⟨20, _⟩ => ⟨S16384x50x1, .i32⟩
  | .hbm, ⟨21, _⟩ => ⟨S16384x50x1, .i1⟩
  | .hbm, ⟨22, _⟩ => ⟨S1x1x1, .i32⟩
  | .hbm, ⟨23, _⟩ => ⟨S16384x50x1, .i32⟩
  | .hbm, ⟨24, _⟩ => ⟨S16384x50x1, .i1⟩
  | .hbm, ⟨25, _⟩ => ⟨S16384x50x1, .i1⟩
  | .hbm, ⟨26, _⟩ => ⟨S_, .i1⟩
  | .hbm, ⟨27, _⟩ => ⟨S16384x50, .i1⟩
  | .hbm, ⟨28, _⟩ => ⟨S16384x50x128, .f32⟩
  | .hbm, ⟨29, _⟩ => ⟨S16384x50x128, .i1⟩
  | .hbm, ⟨30, _⟩ => ⟨S_, .f32⟩
  | .hbm, ⟨31, _⟩ => ⟨S16384x50x128, .f32⟩
  | .hbm, ⟨32, _⟩ => ⟨S16384x50x128, .f32⟩
  | .hbm, ⟨33, _⟩ => ⟨S_, .f32⟩
  | .hbm, ⟨34, _⟩ => ⟨S16384x128, .f32⟩
  | .hbm, ⟨35, _⟩ => ⟨S_, .f32⟩
  | .hbm, ⟨36, _⟩ => ⟨S16384x128, .f32⟩
  | .hbm, ⟨37, _⟩ => ⟨S16384x128, .f32⟩
  | .hbm, ⟨38, _⟩ => ⟨S16384x128, .f32⟩
  | .hbm, ⟨39, _⟩ => ⟨S1x128, .f32⟩
  | .hbm, ⟨40, _⟩ => ⟨S16384x128, .f32⟩
  | .hbm, ⟨41, _⟩ => ⟨S16384x128, .f32⟩
  | .hbm, ⟨42, _⟩ => ⟨S_, .f32⟩
  | .hbm, ⟨43, _⟩ => ⟨S16384x128, .f32⟩
  | .hbm, ⟨44, _⟩ => ⟨S16384x128, .f32⟩
  | .hbm, ⟨45, _⟩ => ⟨S16384x128, .f32⟩
  | .hbm, ⟨46, _⟩ => ⟨S1x128, .f32⟩
  | .hbm, ⟨47, _⟩ => ⟨S16384x128, .f32⟩
  | .hbm, ⟨48, _⟩ => ⟨S16384x128, .f32⟩
  | .hbm, ⟨49, _⟩ => ⟨S_, .f32⟩
  | .hbm, ⟨50, _⟩ => ⟨S16384x128, .f32⟩
  | .hbm, ⟨51, _⟩ => ⟨S16384x128, .f32⟩
  | .hbm, ⟨52, _⟩ => ⟨S16384x32, .f32⟩
  | .hbm, ⟨53, _⟩ => ⟨S1x32, .f32⟩
  | .hbm, ⟨54, _⟩ => ⟨S16384x32, .f32⟩
  | .hbm, ⟨55, _⟩ => ⟨S16384x32, .f32⟩
  | .hbm, ⟨56, _⟩ => ⟨S_, .f32⟩
  | .hbm, ⟨57, _⟩ => ⟨S16384x32, .f32⟩
  | .hbm, ⟨58, _⟩ => ⟨S16384x32, .f32⟩
  | .hbm, ⟨59, _⟩ => ⟨S16384x2, .f32⟩
  | .hbm, ⟨60, _⟩ => ⟨S1x2, .f32⟩
  | .hbm, ⟨61, _⟩ => ⟨S16384x2, .f32⟩
  | .hbm, ⟨62, _⟩ => ⟨S16384x2, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_cst : Ref sig .tc := ⟨.hbm, 33, rfl⟩
abbrev main_v1 : Ref sig .tc := ⟨.hbm, 34, rfl⟩
abbrev main_cst_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_call1_cst : Ref sig .tc := ⟨.hbm, 42, rfl⟩
abbrev main_call1_v0 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_call2_cst : Ref sig .tc := ⟨.hbm, 49, rfl⟩
abbrev main_call2_v0 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_call3_cst : Ref sig .tc := ⟨.hbm, 56, rfl⟩
abbrev main_call3_v0 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩

abbrev nD : Nat := 1
abbrev τ : Topo := Topo.v7x

variable {F : FTy → Type} [FloatOps F]
-- ==== Proof.Shape.lean ====
/- The vector subcore's program, written again as the kernel's source has it: the loops of statements the
   printed program has unrolled are functions of the buffer, the row and the lane here, and the printed
   program is shown to be this one. Every later module reasons about this program. -/
module

public import proofs.«01_k».proof.Proof.Gen.KernelIdeal.Skeleton

@[expose] public section

noncomputable section

namespace Cert.KernelIdeal.Bag

open Idealize.ShloMosaic Idealize.SL.Sem
open Cert.KernelIdeal.Gen

variable {F : FTy → Type} [FloatOps F] [Named F]

/-- A vector subcore's program at the coordinates `i`. -/
abbrev SP (F : FTy → Type) [FloatOps F] [Named F] (i : grid0.Coords) (α : Type) :=
  Prog (TpuEff nD τ sig (Elt F) Λ₀ (.scVector ((i 0).castLE hcore0) ((i 1).castLE hsub0))) α

/-- The reciprocal of the bag's length, as the kernel has it. -/
def invS : F .f32 := Named.named κ "inv_s" 0x3CA3D70A#32

/-- The vector the accumulators start from. -/
def zero16 : FVec F S16 .f32 := broadcast S16 (Scalar.ofBits .f32 0x00000000#32)

/-- Eight vectors of sixteen lanes: a row's accumulators. -/
abbrev Acc (F : FTy → Type) [FloatOps F] [Named F] :=
  FVec F S16 .f32 × FVec F S16 .f32 × FVec F S16 .f32 × FVec F S16 .f32 × FVec F S16 .f32 × FVec F S16 .f32
    × FVec F S16 .f32 × FVec F S16 .f32

/-- Ten trips over the bag's fifty rows, five rows a trip. -/
@[reducible] def accLoop : Scf.Loop 32 := ⟨0#32, Scalar.addi 0#32 10#32, 1#32⟩

theorem accLoop_ok : accLoop.OK := by decide

theorem accLoop_trips : accLoop.trips = 10 := by decide

/-- Row `5 k + u` of bag `b` in buffer `buf`, from column `c` on. -/
def rowOff (buf b : Nat) (k : Fin accLoop.trips) (u : BitVec 32) (c : Nat) : Fin 4 → Nat :=
  ![buf, b, (Scalar.indexCast (Scalar.addi (Scalar.muli (Scf.iv 0#32 1#32 k) 5#32) u)).toNat, c]

theorem rowOff_row (k : Fin accLoop.trips) (u : Fin 5) :
    (Scalar.indexCast (Scalar.addi (Scalar.muli (Scf.iv 0#32 1#32 k) 5#32) (BitVec.ofNat 32 u.val))).toNat = 5 * k.val + u.val := by
  revert k u; decide

theorem rowOff_inb (buf : Fin 2) (b : Fin 8) (k : Fin accLoop.trips) (u : Fin 5) (j : Fin 8) :
    ∀ a, rowOff buf.val b.val k (BitVec.ofNat 32 u.val) (16 * j.val) a + S1x1x1x16.size a ≤ S2x8x50x128.size a := by
  have hk : k.val < 10 := lt_of_lt_of_eq k.isLt accLoop_trips
  intro a
  unfold rowOff
  rw [rowOff_row k u]
  fin_cases a
  · show buf.val + 1 ≤ 2; omega
  · show b.val + 1 ≤ 8; omega
  · show 5 * k.val + u.val + 1 ≤ 50; omega
  · show 16 * j.val + 16 ≤ 128; omega

theorem outOff_inb (buf : Fin 2) (b j : Fin 8) :
    ∀ a, (![buf.val, b.val, 16 * j.val] : Fin 3 → Nat) a + S1x1x16.size a ≤ S2x8x128.size a := by
  intro a
  fin_cases a
  · show buf.val + 1 ≤ 2; omega
  · show b.val + 1 ≤ 8; omega
  · show 16 * j.val + 16 ≤ 128; omega

theorem bagRows_inb (buf : Fin 2) (b : Fin 8) :
    ∀ a, (![buf.val, b.val, 0, 0] : Fin 4 → Nat) a + S1x1x50x128.size a ≤ S2x8x50x128.size a := by
  intro a
  fin_cases a
  · show buf.val + 1 ≤ 2; omega
  · show b.val + 1 ≤ 8; omega
  · show 0 + 50 ≤ 50; omega
  · show 0 + 128 ≤ 128; omega

theorem bagIds_inb (buf : Fin 2) (b : Fin 8) :
    ∀ a, (![buf.val, b.val, 0] : Fin 3 → Nat) a + S1x1x50.size a ≤ S2x8x50.size a := by
  intro a
  fin_cases a
  · show buf.val + 1 ≤ 2; omega
  · show b.val + 1 ≤ 8; omega
  · show 0 + 50 ≤ 50; omega

theorem chunkIds_inb (buf : Fin 2) :
    ∀ a, (![buf.val, 0, 0] : Fin 3 → Nat) a + S1x8x50.size a ≤ S2x8x50.size a := by
  intro a
  fin_cases a
  · show buf.val + 1 ≤ 2; omega
  · show 0 + 8 ≤ 8; omega
  · show 0 + 50 ≤ 50; omega

theorem chunkOut_inb (buf : Fin 2) :
    ∀ a, (![buf.val, 0, 0] : Fin 3 → Nat) a + S1x8x128.size a ≤ S2x8x128.size a := by
  intro a
  fin_cases a
  · show buf.val + 1 ≤ 2; omega
  · show 0 + 8 ≤ 8; omega
  · show 0 + 128 ≤ 128; omega

section prog

variable {i : grid0.Coords}
variable (arg2 : Memref sig .scVector .hbm S16384x50 .i32) (arg3 : Memref sig .scVector .hbm S100000x128 .f32)
  (arg4 : Memref sig .scVector .hbm S16384x128 .f32) (arg5 : Memref sig .scVector .vmem S2x8x50 .i32)
  (arg6 : Memref sig .scVector .vmem S2x8x50x128 .f32) (arg7 : Memref sig .scVector .vmem S2x8x128 .f32)

/-- One lane group of one row added to its accumulator. -/
def addLane (buf : Fin 2) (b : Fin 8) (k : Fin accLoop.trips) (u : Fin 5) (j : Fin 8) (acc : FVec F S16 .f32) :
    SP F i (FVec F S16 .f32) := do
  let v : Vec F S1x1x1x16 .f32 ← Prog.lift (.load arg6 (Rect.unit (s := S2x8x50x128) (rowOff buf.val b.val k (BitVec.ofNat 32 u.val) (16 * j.val)) S1x1x1x16.size (rowOff_inb buf b k u j)).toLoadRect (View.loadsAt_vmem h_S1x1x1x16))
  pure (addf acc (shapeCast S16 v shapeCasts_S1x1x1x16_S16))

/-- One row added to the eight accumulators. -/
def addRow (buf : Fin 2) (b : Fin 8) (k : Fin accLoop.trips) (u : Fin 5) (a : Acc F) : SP F i (Acc F) := do
  let a0 ← addLane arg6 buf b k u 0 a.1
  let a1 ← addLane arg6 buf b k u 1 a.2.1
  let a2 ← addLane arg6 buf b k u 2 a.2.2.1
  let a3 ← addLane arg6 buf b k u 3 a.2.2.2.1
  let a4 ← addLane arg6 buf b k u 4 a.2.2.2.2.1
  let a5 ← addLane arg6 buf b k u 5 a.2.2.2.2.2.1
  let a6 ← addLane arg6 buf b k u 6 a.2.2.2.2.2.2.1
  let a7 ← addLane arg6 buf b k u 7 a.2.2.2.2.2.2.2
  pure (a0, a1, a2, a3, a4, a5, a6, a7)

/-- Five rows: a trip of a bag's loop. -/
def addRows (buf : Fin 2) (b : Fin 8) (k : Fin accLoop.trips) (a : Acc F) : SP F i (Acc F) := do
  let a ← addRow arg6 buf b k 0 a
  let a ← addRow arg6 buf b k 1 a
  let a ← addRow arg6 buf b k 2 a
  let a ← addRow arg6 buf b k 3 a
  addRow arg6 buf b k 4 a

/-- A lane group of a bag's mean written to the output buffer. -/
def putLane (buf : Fin 2) (b : Fin 8) (j : Fin 8) (acc : FVec F S16 .f32) : SP F i PUnit := do
  let _old : Vec F S1x1x16 .f32 ← Prog.lift (.load arg7 (Rect.unit (s := S2x8x128) ![buf.val, b.val, 16 * j.val] S1x1x16.size (outOff_inb buf b j)).toLoadRect (View.loadsAt_vmem h_S1x1x16))
  Prog.lift (.store arg7 (Rect.unit (s := S2x8x128) ![buf.val, b.val, 16 * j.val] S1x1x16.size (outOff_inb buf b j)) (shapeCast S1x1x16 (mulf acc (broadcast S16 invS)) shapeCasts_S16_S1x1x16) Finset.univ (View.stores_vmem_bits_univ h_S1x1x16 rfl) (.inl rfl))

/-- A bag's mean: its rows added, the sums scaled and written. -/
def meanRow (buf : Fin 2) (b : Fin 8) : SP F i PUnit := do
  let a ← Scf.Loop.for accLoop accLoop_ok (zero16, zero16, zero16, zero16, zero16, zero16, zero16, zero16) (addRows arg6 buf b)
  putLane arg7 buf b 0 a.1
  putLane arg7 buf b 1 a.2.1
  putLane arg7 buf b 2 a.2.2.1
  putLane arg7 buf b 3 a.2.2.2.1
  putLane arg7 buf b 4 a.2.2.2.2.1
  putLane arg7 buf b 5 a.2.2.2.2.2.1
  putLane arg7 buf b 6 a.2.2.2.2.2.2.1
  putLane arg7 buf b 7 a.2.2.2.2.2.2.2

/-- The eight bags of a chunk. -/
def meanChunk (buf : Fin 2) : SP F i PUnit := do
  meanRow arg6 arg7 buf 0
  meanRow arg6 arg7 buf 1
  meanRow arg6 arg7 buf 2
  meanRow arg6 arg7 buf 3
  meanRow arg6 arg7 buf 4
  meanRow arg6 arg7 buf 5
  meanRow arg6 arg7 buf 6
  meanRow arg6 arg7 buf 7

/-- The table, as the gathers name it. -/
abbrev tbl : Memref sig .scVector .hbm S100000x128 .f32 :=
  arg3.slice (Rect.unit (s := S100000x128) ![0, 0] S100000x128.size inb_S100000x128_S100000x128_0_0) (fun _ => rfl)

/-- Bag `b` of buffer `buf` of the gathered rows. -/
abbrev bagRows (buf : Fin 2) (b : Fin 8) : Memref sig .scVector .vmem S50x128 .f32 :=
  (arg6.slice (Rect.unit (s := S2x8x50x128) ![buf.val, b.val, 0, 0] S1x1x50x128.size (bagRows_inb buf b)) (fun _ => rfl)).squeeze S50x128 squeezes_S1x1x50x128_S50x128

/-- Bag `b`'s row numbers in buffer `buf`. -/
abbrev bagIds (buf : Fin 2) (b : Fin 8) : Memref sig .scVector .vmem S50 .i32 :=
  (arg5.slice (Rect.unit (s := S2x8x50) ![buf.val, b.val, 0] S1x1x50.size (bagIds_inb buf b)) (fun _ => rfl)).squeeze S50 squeezes_S1x1x50_S50

/-- Buffer `buf` of the row numbers. -/
abbrev chunkIds (buf : Fin 2) : Memref sig .scVector .vmem S8x50 .i32 :=
  (arg5.slice (Rect.unit (s := S2x8x50) ![buf.val, 0, 0] S1x8x50.size (chunkIds_inb buf)) (fun _ => rfl)).squeeze S8x50 squeezes_S1x8x50_S8x50

/-- Buffer `buf` of the means. -/
abbrev chunkOut (buf : Fin 2) : Memref sig .scVector .vmem S8x128 .f32 :=
  (arg7.slice (Rect.unit (s := S2x8x128) ![buf.val, 0, 0] S1x8x128.size (chunkOut_inb buf)) (fun _ => rfl)).squeeze S8x128 squeezes_S1x8x128_S8x128

/-- Eight rows of the row numbers in memory. -/
abbrev idsAt (off : Fin 2 → Nat) (h : ∀ a, off a + S8x50.size a ≤ S16384x50.size a) : Memref sig .scVector .hbm S8x50 .i32 :=
  arg2.slice (Rect.unit (s := S16384x50) off S8x50.size h) (fun _ => rfl)

/-- Eight rows of the result in memory. -/
abbrev outAt (off : Fin 2 → Nat) (h : ∀ a, off a + S8x128.size a ≤ S16384x128.size a) : Memref sig .scVector .hbm S8x128 .f32 :=
  arg4.slice (Rect.unit (s := S16384x128) off S8x128.size h) (fun _ => rfl)

/-- A chunk's row numbers on their way. -/
def idsStart (sm : DmaSems sig S_) (buf : Fin 2) (off : Fin 2 → Nat) (h : ∀ a, off a + S8x50.size a ≤ S16384x50.size a) : SP F i PUnit :=
  Prog.lift (.enqueueDma (idsAt arg2 off h) (.here (chunkIds arg5 buf)) (.dma sm.sem) (View.wordExact_bits rfl) ((View.wordExact_bits rfl).reshape _ _) ⟨Or.inl rfl, trivial⟩)

/-- The wait for them. -/
def idsWait (sm : DmaSems sig S_) (buf : Fin 2) (off : Fin 2 → Nat) (h : ∀ a, off a + S8x50.size a ≤ S16384x50.size a) : SP F i PUnit :=
  Prog.lift (.waitDma2 sm.sem (idsAt arg2 off h) (chunkIds arg5 buf) (View.wordExact_bits rfl) ((View.wordExact_bits rfl).reshape _ _))

/-- Bag `b`'s gather. -/
def fire (sm : DmaSems sig S_) (buf : Fin 2) (b : Fin 8) : SP F i PUnit :=
  SparseCore.enqueueIndirectGather rfl (tbl arg3) (bagRows arg6 buf b) gathers_S100000x128_S50x128 (bagIds arg5 buf b) rfl sm.sem (View.wordExact_bits rfl) rfl (Or.inl rfl)

/-- The eight gathers of a chunk. -/
def fireChunk (sm : DmaSems sig S_) (buf : Fin 2) : SP F i PUnit := do
  fire arg3 arg5 arg6 sm buf 0
  fire arg3 arg5 arg6 sm buf 1
  fire arg3 arg5 arg6 sm buf 2
  fire arg3 arg5 arg6 sm buf 3
  fire arg3 arg5 arg6 sm buf 4
  fire arg3 arg5 arg6 sm buf 5
  fire arg3 arg5 arg6 sm buf 6
  fire arg3 arg5 arg6 sm buf 7

/-- A wait for one bag's gather. -/
def land (sm : DmaSems sig S_) (buf : Fin 2) (b : Fin 8) : SP F i PUnit :=
  SparseCore.waitIndirectGather sm.sem (tbl arg3) (bagRows arg6 buf b) (View.wordExact_bits rfl) ((View.wordExact_bits rfl).reshape _ _)

/-- The waits for a chunk's gathers. -/
def landChunk (sm : DmaSems sig S_) (buf : Fin 2) : SP F i PUnit := do
  land arg3 arg6 sm buf 0
  land arg3 arg6 sm buf 1
  land arg3 arg6 sm buf 2
  land arg3 arg6 sm buf 3
  land arg3 arg6 sm buf 4
  land arg3 arg6 sm buf 5
  land arg3 arg6 sm buf 6
  land arg3 arg6 sm buf 7

/-- A chunk's means copied to memory, and the wait for the copy. -/
def writeChunk (sm : DmaSems sig S_) (buf : Fin 2) (off : Fin 2 → Nat) (h : ∀ a, off a + S8x128.size a ≤ S16384x128.size a) : SP F i PUnit := do
  Prog.lift (.enqueueDma (chunkOut arg7 buf) (.here (outAt arg4 off h)) (.dma sm.sem) ((View.wordExact_bits rfl).reshape _ _) (View.wordExact_bits rfl) ⟨Or.inl rfl, trivial⟩)
  Prog.lift (.waitDma2 sm.sem (chunkOut arg7 buf) (outAt arg4 off h) ((View.wordExact_bits rfl).reshape _ _) (View.wordExact_bits rfl))

variable (arg8 arg9 arg10 arg11 r0 r1 r2 r3 : DmaSems sig S_)

/-- Before the loop: the first chunk's rows in buffer 0, the second chunk's row numbers on their way. -/
def preP (i : grid0.Coords) : SP F i PUnit := do
  idsStart arg2 arg5 arg10 0 (k0_off1 i 0#32) (k0_off1_inb i 0)
  idsWait arg2 arg5 arg10 0 (k0_off1 i 0#32) (k0_off1_inb i 0)
  fireChunk arg3 arg5 arg6 arg8 0
  idsStart arg2 arg5 arg11 1 (k0_off1 i 8#32) (k0_off1_inb i 1)
  landChunk arg3 arg6 arg8 0

/-- Two chunks: a trip of the loop. -/
def tripP (i : grid0.Coords) (k : Fin k0_t1_loop.trips) : SP F i PUnit := do
  idsWait arg2 arg5 arg11 1 (k0_off2 i k 1#32) (k0_off2_inb i k 0)
  fireChunk arg3 arg5 arg6 arg9 1
  idsStart arg2 arg5 arg10 0 (k0_off2 i k 2#32) (k0_off2_inb i k 1)
  meanChunk arg6 arg7 0
  writeChunk arg4 arg7 r0 0 (k0_off67 i k) (k0_off67_inb i k)
  landChunk arg3 arg6 arg9 1
  idsWait arg2 arg5 arg10 0 (k0_off68 i k 1#32) (k0_off68_inb i k 0)
  fireChunk arg3 arg5 arg6 arg8 0
  idsStart arg2 arg5 arg11 1 (k0_off68 i k 2#32) (k0_off68_inb i k 1)
  meanChunk arg6 arg7 1
  writeChunk arg4 arg7 r1 1 (k0_off133 i k) (k0_off133_inb i k)
  landChunk arg3 arg6 arg8 0

/-- The last two chunks. -/
def postP (i : grid0.Coords) : SP F i PUnit := do
  idsWait arg2 arg5 arg11 1 (k0_off1 i 504#32) (k0_off1_inb i 2)
  fireChunk arg3 arg5 arg6 arg9 1
  meanChunk arg6 arg7 0
  writeChunk arg4 arg7 r2 0 (k0_off198 i 496#32) (k0_off198_inb i 0)
  landChunk arg3 arg6 arg9 1
  meanChunk arg6 arg7 1
  writeChunk arg4 arg7 r3 1 (k0_off198 i 504#32) (k0_off198_inb i 1)

/-- The whole of a vector subcore's program. -/
def kernP (i : grid0.Coords) : SP F i PUnit := do
  preP arg2 arg3 arg5 arg6 arg8 arg10 arg11 i
  Scf.Loop.for k0_t1_loop k0_t1_ok ⟨⟩ fun k _ => tripP arg2 arg3 arg4 arg5 arg6 arg7 arg8 arg9 arg10 arg11 r0 r1 i k
  postP arg2 arg3 arg4 arg5 arg6 arg7 arg9 arg11 r2 r3 i

end prog

end Cert.KernelIdeal.Bag

end
-- ==== Proof.Places.lean ====
/- Where a vector subcore's buffers and its slices of memory lie: the elements each slice holds, by coordinates, and
   what a read through it gives. -/
module

public import proofs.«01_k».proof.Proof.Shape
public import Idealize.ShloMosaic.Lib.ValueIdx
public import Idealize.ShloMosaic.Lib.ValueIdxCoords
public import Idealize.ShloMosaic.Lib.ValueLayout

@[expose] public section

noncomputable section

namespace Cert.KernelIdeal.Bag

open Idealize.ShloMosaic Idealize.SL.Sem Idealize.ShloMosaic.ValueIdx
open Cert.KernelIdeal.Gen

variable {Val : EltTy → Type}

/-- The row numbers, the table and the result in memory; the row numbers', the rows' and the means' buffers. -/
abbrev iV : Memref sig .scVector .hbm S16384x50 .i32 := Memref.whole main_arg0_scv
abbrev tV : Memref sig .scVector .hbm S100000x128 .f32 := Memref.whole main_arg1_scv
abbrev oV : Memref sig .scVector .hbm S16384x128 .f32 := Memref.whole main_v0_scv
abbrev sV : Memref sig .scVector .vmem S2x8x50 .i32 := Memref.whole cc0_scratch0
abbrev rV : Memref sig .scVector .vmem S2x8x50x128 .f32 := Memref.whole cc0_scratch1
abbrev uV : Memref sig .scVector .vmem S2x8x128 .f32 := Memref.whole cc0_scratch2

/-! ## The elements -/

theorem mem_bagRows (buf : Fin 2) (b : Fin 8) (x : S2x8x50x128.Idx) :
    x ∈ (bagRows rV buf b).view.set ↔ (x 0).val = buf.val ∧ (x 1).val = b.val := by
  have e : ((bagRows rV buf b).view.set : Finset S2x8x50x128.Idx) = (Rect.unit (s := S2x8x50x128) ![buf.val, b.val, 0, 0] S1x1x50x128.size (bagRows_inb buf b)).set :=
    (View.set_reshape _ _).trans (View.set_slice_whole _ _)
  rw [e]
  refine Rect.mem_set_unit.trans ⟨fun h => ?_, fun h a => ?_⟩
  · have h0 := h 0; have h1 := h 1
    change buf.val ≤ (x 0).val ∧ (x 0).val < buf.val + 1 at h0
    change b.val ≤ (x 1).val ∧ (x 1).val < b.val + 1 at h1
    omega
  · have h2 := (x 2).isLt; have h3 := (x 3).isLt
    change (x 2).val < 50 at h2; change (x 3).val < 128 at h3
    fin_cases a
    · show buf.val ≤ (x 0).val ∧ (x 0).val < buf.val + 1; omega
    · show b.val ≤ (x 1).val ∧ (x 1).val < b.val + 1; omega
    · show 0 ≤ (x 2).val ∧ (x 2).val < 0 + 50; omega
    · show 0 ≤ (x 3).val ∧ (x 3).val < 0 + 128; omega

theorem mem_bagIds (buf : Fin 2) (b : Fin 8) (x : S2x8x50.Idx) :
    x ∈ (bagIds sV buf b).view.set ↔ (x 0).val = buf.val ∧ (x 1).val = b.val := by
  have e : ((bagIds sV buf b).view.set : Finset S2x8x50.Idx) = (Rect.unit (s := S2x8x50) ![buf.val, b.val, 0] S1x1x50.size (bagIds_inb buf b)).set :=
    (View.set_reshape _ _).trans (View.set_slice_whole _ _)
  rw [e]
  refine Rect.mem_set_unit.trans ⟨fun h => ?_, fun h a => ?_⟩
  · have h0 := h 0; have h1 := h 1
    change buf.val ≤ (x 0).val ∧ (x 0).val < buf.val + 1 at h0
    change b.val ≤ (x 1).val ∧ (x 1).val < b.val + 1 at h1
    omega
  · have h2 := (x 2).isLt
    change (x 2).val < 50 at h2
    fin_cases a
    · show buf.val ≤ (x 0).val ∧ (x 0).val < buf.val + 1; omega
    · show b.val ≤ (x 1).val ∧ (x 1).val < b.val + 1; omega
    · show 0 ≤ (x 2).val ∧ (x 2).val < 0 + 50; omega

theorem mem_chunkIds (buf : Fin 2) (x : S2x8x50.Idx) :
    x ∈ (chunkIds sV buf).view.set ↔ (x 0).val = buf.val := by
  have e : ((chunkIds sV buf).view.set : Finset S2x8x50.Idx) = (Rect.unit (s := S2x8x50) ![buf.val, 0, 0] S1x8x50.size (chunkIds_inb buf)).set :=
    (View.set_reshape _ _).trans (View.set_slice_whole _ _)
  rw [e]
  refine Rect.mem_set_unit.trans ⟨fun h => ?_, fun h a => ?_⟩
  · have h0 := h 0
    change buf.val ≤ (x 0).val ∧ (x 0).val < buf.val + 1 at h0
    omega
  · have h1 := (x 1).isLt; have h2 := (x 2).isLt
    change (x 1).val < 8 at h1; change (x 2).val < 50 at h2
    fin_cases a
    · show buf.val ≤ (x 0).val ∧ (x 0).val < buf.val + 1; omega
    · show 0 ≤ (x 1).val ∧ (x 1).val < 0 + 8; omega
    · show 0 ≤ (x 2).val ∧ (x 2).val < 0 + 50; omega

theorem mem_chunkOut (buf : Fin 2) (x : S2x8x128.Idx) :
    x ∈ (chunkOut uV buf).view.set ↔ (x 0).val = buf.val := by
  have e : ((chunkOut uV buf).view.set : Finset S2x8x128.Idx) = (Rect.unit (s := S2x8x128) ![buf.val, 0, 0] S1x8x128.size (chunkOut_inb buf)).set :=
    (View.set_reshape _ _).trans (View.set_slice_whole _ _)
  rw [e]
  refine Rect.mem_set_unit.trans ⟨fun h => ?_, fun h a => ?_⟩
  · have h0 := h 0
    change buf.val ≤ (x 0).val ∧ (x 0).val < buf.val + 1 at h0
    omega
  · have h1 := (x 1).isLt; have h2 := (x 2).isLt
    change (x 1).val < 8 at h1; change (x 2).val < 128 at h2
    fin_cases a
    · show buf.val ≤ (x 0).val ∧ (x 0).val < buf.val + 1; omega
    · show 0 ≤ (x 1).val ∧ (x 1).val < 0 + 8; omega
    · show 0 ≤ (x 2).val ∧ (x 2).val < 0 + 128; omega

/-- Lane group `j` of bag `b`'s mean. -/
abbrev laneOut (buf : Fin 2) (b j : Fin 8) : Rect S2x8x128 :=
  Rect.unit (s := S2x8x128) ![buf.val, b.val, 16 * j.val] S1x1x16.size (outOff_inb buf b j)

theorem mem_laneOut (buf : Fin 2) (b j : Fin 8) (x : S2x8x128.Idx) :
    x ∈ (uV.access (laneOut buf b j)).set ↔ (x 0).val = buf.val ∧ (x 1).val = b.val ∧ 16 * j.val ≤ (x 2).val ∧ (x 2).val < 16 * j.val + 16 := by
  show x ∈ ((View.whole cc0_scratch2).slice (laneOut buf b j)).set ↔ _
  rw [View.set_slice_whole]
  refine Rect.mem_set_unit.trans ⟨fun h => ?_, fun h a => ?_⟩
  · have h0 := h 0; have h1 := h 1; have h2 := h 2
    change buf.val ≤ (x 0).val ∧ (x 0).val < buf.val + 1 at h0
    change b.val ≤ (x 1).val ∧ (x 1).val < b.val + 1 at h1
    change 16 * j.val ≤ (x 2).val ∧ (x 2).val < 16 * j.val + 16 at h2
    omega
  · fin_cases a
    · show buf.val ≤ (x 0).val ∧ (x 0).val < buf.val + 1; omega
    · show b.val ≤ (x 1).val ∧ (x 1).val < b.val + 1; omega
    · show 16 * j.val ≤ (x 2).val ∧ (x 2).val < 16 * j.val + 16; omega

/-- Lane group `j` of a row of bag `b`. -/
abbrev laneRow (buf : Fin 2) (b : Fin 8) (k : Fin accLoop.trips) (u : Fin 5) (j : Fin 8) : Rect S2x8x50x128 :=
  Rect.unit (s := S2x8x50x128) (rowOff buf.val b.val k (BitVec.ofNat 32 u.val) (16 * j.val)) S1x1x1x16.size (rowOff_inb buf b k u j)

theorem mem_laneRow (buf : Fin 2) (b : Fin 8) (k : Fin accLoop.trips) (u : Fin 5) (j : Fin 8) (x : S2x8x50x128.Idx)
    (h : x ∈ (rV.access (laneRow buf b k u j)).set) : (x 0).val = buf.val := by
  change x ∈ ((View.whole cc0_scratch1).slice (laneRow buf b k u j)).set at h
  rw [View.set_slice_whole] at h
  have h0 := (Rect.mem_set_unit.mp h) 0
  change buf.val ≤ (x 0).val ∧ (x 0).val < buf.val + 1 at h0
  omega

theorem mem_idsAt (n : Nat) (h) (x : S16384x50.Idx) :
    x ∈ (idsAt iV ![n, 0] h).view.set ↔ n ≤ (x 0).val ∧ (x 0).val < n + 8 := by
  show x ∈ ((View.whole main_arg0_scv).slice (Rect.unit (s := S16384x50) ![n, 0] S8x50.size h)).set ↔ _
  rw [View.set_slice_whole]
  refine Rect.mem_set_unit.trans ⟨fun h => ?_, fun h a => ?_⟩
  · exact h 0
  · have h1 := (x 1).isLt
    change (x 1).val < 50 at h1
    fin_cases a
    · exact h
    · show 0 ≤ (x 1).val ∧ (x 1).val < 0 + 50; omega

theorem mem_outAt (n : Nat) (h) (x : S16384x128.Idx) :
    x ∈ (outAt oV ![n, 0] h).view.set ↔ n ≤ (x 0).val ∧ (x 0).val < n + 8 := by
  show x ∈ ((View.whole main_v0_scv).slice (Rect.unit (s := S16384x128) ![n, 0] S8x128.size h)).set ↔ _
  rw [View.set_slice_whole]
  refine Rect.mem_set_unit.trans ⟨fun h => ?_, fun h a => ?_⟩
  · exact h 0
  · have h1 := (x 1).isLt
    change (x 1).val < 128 at h1
    fin_cases a
    · exact h
    · show 0 ≤ (x 1).val ∧ (x 1).val < 0 + 128; omega

/-! ## The reads -/

theorem read_bagRows (buf : Fin 2) (b : Fin 8) (f : S2x8x50x128.Idx → Val .f32) (s : Fin 50) (c : Fin 128) :
    (bagRows rV buf b).view.read Val f (ix2 s c) = f (ix4 buf b s c) := by
  show f ((Rect.unit (s := S2x8x50x128) ![buf.val, b.val, 0, 0] S1x1x50x128.size (bagRows_inb buf b)).emb (Shape.reshapeEquiv squeezes_S1x1x50x128_S50x128.numel_eq (ix2 s c))) = _
  rw [reshapeEquiv_ix2_11ab]
  congr 1; funext a; apply Fin.ext; rw [Rect.emb_apply]
  fin_cases a
  · show buf.val + 1 * 0 = buf.val; omega
  · show b.val + 1 * 0 = b.val; omega
  · show 0 + 1 * s.val = s.val; omega
  · show 0 + 1 * c.val = c.val; omega

theorem read_bagIds (buf : Fin 2) (b : Fin 8) (f : S2x8x50.Idx → Val .i32) (s : Fin 50) :
    (bagIds sV buf b).view.read Val f (ix1 s) = f (ix3 buf b s) := by
  show f ((Rect.unit (s := S2x8x50) ![buf.val, b.val, 0] S1x1x50.size (bagIds_inb buf b)).emb (Shape.reshapeEquiv squeezes_S1x1x50_S50.numel_eq (ix1 s))) = _
  rw [show Shape.reshapeEquiv squeezes_S1x1x50_S50.numel_eq (ix1 s) = ix3 (⟨0, Nat.one_pos⟩ : Fin 1) (⟨0, Nat.one_pos⟩ : Fin 1) s from
    Shape.reshapeEquiv_eq_of_rowMajor _ (by
      rw [Shape.rowMajor_val_three, Shape.rowMajor_val_one]
      show ((0 * 1 + 0) * 50 + s.val) = s.val
      omega)]
  congr 1; funext a; apply Fin.ext; rw [Rect.emb_apply]
  fin_cases a
  · show buf.val + 1 * 0 = buf.val; omega
  · show b.val + 1 * 0 = b.val; omega
  · show 0 + 1 * s.val = s.val; omega

theorem read_chunkIds (buf : Fin 2) (f : S2x8x50.Idx → Val .i32) (b : Fin 8) (s : Fin 50) :
    (chunkIds sV buf).view.read Val f (ix2 b s) = f (ix3 buf b s) := by
  show f ((Rect.unit (s := S2x8x50) ![buf.val, 0, 0] S1x8x50.size (chunkIds_inb buf)).emb (Shape.reshapeEquiv squeezes_S1x8x50_S8x50.numel_eq (ix2 b s))) = _
  rw [reshapeEquiv_ix2_1ab]
  congr 1; funext a; apply Fin.ext; rw [Rect.emb_apply]
  fin_cases a
  · show buf.val + 1 * 0 = buf.val; omega
  · show 0 + 1 * b.val = b.val; omega
  · show 0 + 1 * s.val = s.val; omega

theorem read_chunkOut (buf : Fin 2) (f : S2x8x128.Idx → Val .f32) (b : Fin 8) (c : Fin 128) :
    (chunkOut uV buf).view.read Val f (ix2 b c) = f (ix3 buf b c) := by
  show f ((Rect.unit (s := S2x8x128) ![buf.val, 0, 0] S1x8x128.size (chunkOut_inb buf)).emb (Shape.reshapeEquiv squeezes_S1x8x128_S8x128.numel_eq (ix2 b c))) = _
  rw [reshapeEquiv_ix2_1ab]
  congr 1; funext a; apply Fin.ext; rw [Rect.emb_apply]
  fin_cases a
  · show buf.val + 1 * 0 = buf.val; omega
  · show 0 + 1 * b.val = b.val; omega
  · show 0 + 1 * c.val = c.val; omega

theorem read_idsAt (n : Nat) (h) (f : S16384x50.Idx → Val .i32) (b : Fin 8) (s : Fin 50) (hn : n + b.val < 16384) :
    (idsAt iV ![n, 0] h).view.read Val f (ix2 b s) = f (ix2 ⟨n + b.val, hn⟩ s) := by
  show f ((Rect.unit (s := S16384x50) ![n, 0] S8x50.size h).emb (ix2 b s)) = _
  congr 1; funext a; apply Fin.ext; rw [Rect.emb_apply]
  fin_cases a
  · show n + 1 * b.val = n + b.val; omega
  · show 0 + 1 * s.val = s.val; omega

theorem read_outAt (n : Nat) (h) (f : S16384x128.Idx → Val .f32) (b : Fin 8) (c : Fin 128) (hn : n + b.val < 16384) :
    (outAt oV ![n, 0] h).view.read Val f (ix2 b c) = f (ix2 ⟨n + b.val, hn⟩ c) := by
  show f ((Rect.unit (s := S16384x128) ![n, 0] S8x128.size h).emb (ix2 b c)) = _
  congr 1; funext a; apply Fin.ext; rw [Rect.emb_apply]
  fin_cases a
  · show n + 1 * b.val = n + b.val; omega
  · show 0 + 1 * c.val = c.val; omega

theorem read_tbl (f : S100000x128.Idx → Val .f32) : (tbl tV).view.read Val f = f := by
  funext x
  show f ((Rect.unit (s := S100000x128) ![0, 0] S100000x128.size inb_S100000x128_S100000x128_0_0).emb x) = _
  congr 1; funext a; apply Fin.ext; rw [Rect.emb_apply]
  fin_cases a
  · show 0 + 1 * (x 0).val = (x 0).val; omega
  · show 0 + 1 * (x 1).val = (x 1).val; omega

theorem read_laneOut (buf : Fin 2) (b j : Fin 8) (f : S2x8x128.Idx → Val .f32) (c : Fin 16) (hc : 16 * j.val + c.val < 128) :
    (uV.access (laneOut buf b j)).read Val f (ix3 0 0 c) = f (ix3 buf b ⟨16 * j.val + c.val, hc⟩) := by
  show f ((laneOut buf b j).emb (ix3 0 0 c)) = _
  congr 1; funext a; apply Fin.ext; rw [Rect.emb_apply]
  fin_cases a
  · show buf.val + 1 * 0 = buf.val; omega
  · show b.val + 1 * 0 = b.val; omega
  · show 16 * j.val + 1 * c.val = 16 * j.val + c.val; omega

theorem read_laneRow (buf : Fin 2) (b : Fin 8) (k : Fin accLoop.trips) (u : Fin 5) (j : Fin 8) (f : S2x8x50x128.Idx → Val .f32) (c : Fin 16)
    (hr : 5 * k.val + u.val < 50) (hc : 16 * j.val + c.val < 128) :
    (rV.access (laneRow buf b k u j)).read Val f (ix4 0 0 0 c) = f (ix4 buf b ⟨5 * k.val + u.val, hr⟩ ⟨16 * j.val + c.val, hc⟩) := by
  show f ((laneRow buf b k u j).emb (ix4 0 0 0 c)) = _
  congr 1; funext a; apply Fin.ext; rw [Rect.emb_apply]
  fin_cases a
  · show buf.val + 1 * 0 = buf.val; omega
  · show b.val + 1 * 0 = b.val; omega
  · show (Scalar.indexCast (Scalar.addi (Scalar.muli (Scf.iv 0#32 1#32 k) 5#32) (BitVec.ofNat 32 u.val))).toNat + 1 * 0 = 5 * k.val + u.val
    rw [rowOff_row]; omega
  · show 16 * j.val + 1 * c.val = 16 * j.val + c.val; omega

end Cert.KernelIdeal.Bag

end
-- ==== Proof.Setup.lean ====
/- The launch as the library's theorems see it, and the memory a vector subcore names. -/
module

public import proofs.«01_k».proof.Proof.Places
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.KernelIdeal.Bag

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the rounds of the handshakes and of the blocks' staging, and the transfers' counters. -/
abbrev UH : Type := URounds (GSem nD τ sig) ℕ
abbrev UP : Type := URounds (GSem nD τ sig) Unit
abbrev UU : Type := UH × (UP × Counters)

/-- The assertions' model. -/
abbrev MM (F : FTy → Type) := MT nD τ sig (HIx 1) (Elt F) ℕ UU ℕ
abbrev EH : Emb UH (MM F) := embL
abbrev EP : Emb UP (MM F) := (Emb.inl : Emb UP (UP × Counters)).trans embR
abbrev EC : UEmb Counters (MM F) := countersEmb

abbrev cV (L : grid0.Coords) : Fin τ.nSC := (L 0).castLE hcore0
abbrev jV (L : grid0.Coords) : Fin τ.nSub := (L 1).castLE hsub0
/-- The vector subcore at coordinates `L` of device `d`. -/
abbrev thr (d : Dev nD) (L : grid0.Coords) : Thread nD τ := V d (cV L) (jV L)

/-- The weakest precondition of a vector subcore's program. -/
abbrev WP [FloatOps F] [Named F] (d : Dev nD) (L : grid0.Coords) {α : Type} (x : SP F L α) (Q : α → sProp (MM F)) : sProp (MM F) :=
  wp frame (wpE (defs₀ (F := F)) 𝒱₀ (thr d L) none) Set.univ x Q

section

variable [FloatOps F] [Named F] {d : Dev nD} {L : grid0.Coords} {α β : Type}

/-- One program after another. -/
theorem wp_then {P : sProp (MM F)} {x : SP F L α} {f : α → SP F L β} (R : α → sProp (MM F)) {Q : β → sProp (MM F)}
    (hx : P ⊢ WP d L x R) (hf : ∀ a, R a ⊢ WP d L (f a) Q) : P ⊢ WP d L (x >>= f) Q := by
  unfold WP; rw [wp_bind]
  exact hx.trans (wp_mono frame _ _ hf)

/-- A program run beside what it leaves alone. -/
theorem wp_beside {P R : sProp (MM F)} {x : SP F L α} {Q : α → sProp (MM F)} (hx : P ⊢ WP d L x Q) :
    iprop(P ∗ R) ⊢ WP d L x (fun a => iprop(Q a ∗ R)) :=
  (sep_mono_left hx).trans (wp_frame_r _ _ _)

/-- A program that returns `v` and leaves `R` as it was. -/
def Gives (d : Dev nD) (L : grid0.Coords) (R : sProp (MM F)) (x : SP F L α) (v : α) : Prop := R ⊢ WP d L x (fun w => iprop(⌜w = v⌝ ∗ R))

theorem Gives.bind {R : sProp (MM F)} {x : SP F L α} {v : α} {f : α → SP F L β} {w : β} (hx : Gives d L R x v) (hf : Gives d L R (f v) w) :
    Gives d L R (x >>= f) w := by
  refine wp_then _ hx fun a => ?_
  iintro ⟨%h, HR⟩
  subst h
  have hf' : R ⊢ WP d L (f a) (fun w' => iprop(⌜w' = w⌝ ∗ R)) := hf
  iapply hf' $$ HR

theorem Gives.pure {R : sProp (MM F)} (v : α) : Gives d L R (Pure.pure v) v := by
  have h : R ⊢ iprop(⌜v = v⌝ ∗ R) := by
    iintro HR
    isplitr; · ipureintro; rfl
    iexact HR
  exact h.trans (le_wp_ret frame (wpE (defs₀ (F := F)) 𝒱₀ (thr d L) none) Set.univ v fun w => iprop(⌜w = v⌝ ∗ R))

end

end Cert.KernelIdeal.Bag

end
-- ==== Proof.Mean.lean ====
/- A bag's mean: fifty rows of a buffer added lane by lane, the sums scaled and written. -/
module

public import proofs.«01_k».proof.Proof.Setup

@[expose] public section

noncomputable section

namespace Cert.KernelIdeal.Bag

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## Values -/

/-- The first `n` of a column's entries added in order, from the kernel's zero. -/
def colSum (g : ℕ → F .f32) : ℕ → F .f32
  | 0 => Scalar.ofBits .f32 0x00000000#32
  | n + 1 => FloatOps.addf (colSum g n) (g n)

/-- A column's mean as the kernel takes it. -/
def colMean (g : ℕ → F .f32) : F .f32 := FloatOps.mulf (colSum g 50) invS

/-- Entry `s` of column `c` of bag `b` in a buffer of rows. -/
def rowsAt (f : S2x8x50x128.Idx → F .f32) (buf : Fin 2) (b : Fin 8) (c : Fin 128) (s : ℕ) : F .f32 :=
  f (ix4 buf b (Fin.ofNat 50 s) c)

/-- Lane `x` of lane group `j`, as a column. -/
def lane (j : Fin 8) (x : S16.Idx) : Fin 128 := ⟨16 * j.val + (x 0).val, by have h : (x 0).val < 16 := (x 0).isLt; omega⟩

/-- Lane group `j`'s accumulator after `n` rows. -/
def sumVec (f : S2x8x50x128.Idx → F .f32) (buf : Fin 2) (b : Fin 8) (n : ℕ) (j : Fin 8) : FVec F S16 .f32 :=
  fun x => colSum (rowsAt f buf b (lane j x)) n

/-- The eight accumulators after `n` rows. -/
def sums (f : S2x8x50x128.Idx → F .f32) (buf : Fin 2) (b : Fin 8) (n : ℕ) : Acc F :=
  (sumVec f buf b n 0, sumVec f buf b n 1, sumVec f buf b n 2, sumVec f buf b n 3, sumVec f buf b n 4, sumVec f buf b n 5,
    sumVec f buf b n 6, sumVec f buf b n 7)

/-- The means of buffer `buf`'s bags, in the means' buffer. -/
def means (f : S2x8x50x128.Idx → F .f32) (x : S2x8x128.Idx) : F .f32 := colMean (rowsAt f (x 0) (x 1) (x 2))

/-! ## Resources -/

variable (d : Dev nD) (L : grid0.Coords)

/-- Half of the rows' buffer, of the row numbers' and of the means'. -/
def halfR (buf : Fin 2) : Finset S2x8x50x128.Idx := Finset.univ.filter fun x => (x 0).val = buf.val
def halfS (buf : Fin 2) : Finset S2x8x50.Idx := Finset.univ.filter fun x => (x 0).val = buf.val
def halfU (buf : Fin 2) : Finset S2x8x128.Idx := Finset.univ.filter fun x => (x 0).val = buf.val

abbrev rLoc : Loc nD τ sig := (thr d L).loc cc0_scratch1
abbrev sLoc : Loc nD τ sig := (thr d L).loc cc0_scratch0
abbrev uLoc : Loc nD τ sig := (thr d L).loc cc0_scratch2

def RH (buf : Fin 2) (f : S2x8x50x128.Idx → F .f32) : sProp (MM F) := rLoc d L ↦[halfR buf]{fullShare} f
def SH (buf : Fin 2) (f : S2x8x50.Idx → BitVec 32) : sProp (MM F) := sLoc d L ↦[halfS buf]{fullShare} f
def UH' (buf : Fin 2) (f : S2x8x128.Idx → F .f32) : sProp (MM F) := uLoc d L ↦[halfU buf]{fullShare} f

/-- The means' half, its first `n` words those of `g`. -/
def UN (buf : Fin 2) (g : S2x8x128.Idx → F .f32) (n : ℕ) : sProp (MM F) :=
  iprop(∃ f : S2x8x128.Idx → F .f32, ⌜∀ x ∈ halfU buf, (x 1).val * 128 + (x 2).val < n → f x = g x⌝ ∗ UH' d L buf f)

/-! ## The loop -/

variable {d L}

theorem laneRow_sub (buf : Fin 2) (b : Fin 8) (k : Fin accLoop.trips) (u : Fin 5) (j : Fin 8) :
    (rV.access (laneRow buf b k u j)).set ⊆ halfR buf := fun x hx => by
  unfold halfR
  rw [Finset.mem_filter]
  exact ⟨Finset.mem_univ _, mem_laneRow buf b k u j x hx⟩

theorem gives_addLane (buf : Fin 2) (b : Fin 8) (k : Fin accLoop.trips) (u : Fin 5) (j : Fin 8) (f : S2x8x50x128.Idx → F .f32) :
    Gives d L (RH d L buf f) (addLane rV buf b k u j (sumVec f buf b (5 * k.val + u.val) j)) (sumVec f buf b (5 * k.val + u.val + 1) j) := by
  have hk : k.val < 10 := lt_of_lt_of_eq k.isLt accLoop_trips
  have hv : addf (sumVec f buf b (5 * k.val + u.val) j)
        (shapeCast S16 ((rV.access (laneRow buf b k u j)).read (Elt F) f) shapeCasts_S1x1x1x16_S16) = sumVec f buf b (5 * k.val + u.val + 1) j := by
    funext x
    obtain ⟨y, rfl⟩ : ∃ y : Fin 16, x = ix1 y := ⟨x 0, eq_ix1 x⟩
    have hc : 16 * j.val + y.val < 128 := by omega
    have hs : shapeCast S16 ((rV.access (laneRow buf b k u j)).read (Elt F) f) shapeCasts_S1x1x1x16_S16 (ix1 y)
        = (rV.access (laneRow buf b k u j)).read (Elt F) f (ix4 0 0 0 y) :=
      shapeCast_apply (s := S1x1x1x16) (t := S16) _ shapeCasts_S1x1x1x16_S16 (ix1 y) (ix4 0 0 0 y) (by
        rw [Shape.rowMajor_val_four, Shape.rowMajor_val_one]
        show ((0 * 1 + 0) * 1 + 0) * 16 + y.val = y.val
        omega)
    rw [read_laneRow (Val := Elt F) buf b k u j f y (by omega) hc] at hs
    show FloatOps.addf _ (shapeCast S16 _ _ (ix1 y)) = FloatOps.addf _ (rowsAt f buf b (lane j (ix1 y)) (5 * k.val + u.val))
    rw [hs]
    congr 1
    unfold rowsAt
    congr 2
    exact Fin.ext (by show 5 * k.val + u.val = (5 * k.val + u.val) % 50; omega)
  unfold Gives addLane WP
  rw [wp_bind]; unfold Prog.lift
  unfold RH
  iintro H
  iapply (wp_load_rect 𝒱₀ (thr d L) none Set.univ (m := rV) (r := laneRow buf b k u j) (S := halfR buf) (f := f) (laneRow_sub buf b k u j)) $$ H
  iintro H
  iapply (le_wp_ret _ _ _ _ _)
  iapply (le_wp_ret _ _ _ _ _)
  isplitr; · ipureintro; exact hv
  iexact H

theorem gives_addRow (buf : Fin 2) (b : Fin 8) (k : Fin accLoop.trips) (u : Fin 5) (f : S2x8x50x128.Idx → F .f32) :
    Gives d L (RH d L buf f) (addRow rV buf b k u (sums f buf b (5 * k.val + u.val))) (sums f buf b (5 * k.val + u.val + 1)) := by
  unfold addRow sums
  refine (gives_addLane buf b k u 0 f).bind ?_
  refine (gives_addLane buf b k u 1 f).bind ?_
  refine (gives_addLane buf b k u 2 f).bind ?_
  refine (gives_addLane buf b k u 3 f).bind ?_
  refine (gives_addLane buf b k u 4 f).bind ?_
  refine (gives_addLane buf b k u 5 f).bind ?_
  refine (gives_addLane buf b k u 6 f).bind ?_
  refine (gives_addLane buf b k u 7 f).bind ?_
  exact Gives.pure _

theorem gives_addRows (buf : Fin 2) (b : Fin 8) (k : Fin accLoop.trips) (f : S2x8x50x128.Idx → F .f32) :
    Gives d L (RH d L buf f) (addRows rV buf b k (sums f buf b (5 * k.val))) (sums f buf b (5 * (k.val + 1))) := by
  unfold addRows
  refine (gives_addRow buf b k 0 f).bind ?_
  refine (gives_addRow buf b k 1 f).bind ?_
  refine (gives_addRow buf b k 2 f).bind ?_
  refine (gives_addRow buf b k 3 f).bind ?_
  exact gives_addRow buf b k 4 f

theorem gives_sums (buf : Fin 2) (b : Fin 8) (f : S2x8x50x128.Idx → F .f32) :
    Gives d L (RH d L buf f) (Scf.Loop.for (σ := Acc F) accLoop accLoop_ok (zero16, zero16, zero16, zero16, zero16, zero16, zero16, zero16) (addRows rV buf b)) (sums f buf b 50) := by
  unfold Gives
  iintro H
  iapply (Scf.wp_for _ _ _ _ _ _ accLoop_ok _ _ (fun k acc => iprop(⌜acc = sums f buf b (5 * k)⌝ ∗ RH d L buf f)) ?_)
  · intro k acc
    iintro ⟨%h, H⟩
    subst h
    have hg : RH d L buf f ⊢ WP d L (addRows rV buf b k (sums f buf b (5 * k.val))) (fun w => iprop(⌜w = sums f buf b (5 * (k.val + 1))⌝ ∗ RH d L buf f)) := gives_addRows buf b k f
    iapply hg $$ H
  · isplitl [H]
    · isplitr; · ipureintro; rfl
      iexact H
    · iintro %acc H
      rw [show Scf.trips accLoop.lb accLoop.ub accLoop.st = 10 from accLoop_trips]
      iexact H

/-! ## The means written -/

theorem laneOut_sub (buf : Fin 2) (b j : Fin 8) : (uV.access (laneOut buf b j)).set ⊆ halfU buf := fun x hx => by
  unfold halfU
  rw [Finset.mem_filter]
  exact ⟨Finset.mem_univ _, ((mem_laneOut buf b j x).mp hx).1⟩

theorem wp_putLane (buf : Fin 2) (b j : Fin 8) (f : S2x8x50x128.Idx → F .f32) :
    UN d L buf (means f) (128 * b.val + 16 * j.val) ⊢ WP d L (putLane uV buf b j (sumVec f buf b 50 j)) (fun _ => UN d L buf (means f) (128 * b.val + 16 * j.val + 16)) := by
  unfold UN UH'
  unfold putLane WP
  rw [wp_bind]; unfold Prog.lift
  iintro ⟨%g, %hg, H⟩
  iapply (wp_load_rect 𝒱₀ (thr d L) none Set.univ (m := uV) (r := laneOut buf b j) (S := halfU buf) (f := g) (laneOut_sub buf b j)) $$ H
  iintro H
  iapply (le_wp_ret _ _ _ _ _)
  iapply (wp_store 𝒱₀ (thr d L) none Set.univ (m := uV) (r := laneOut buf b j) (S := halfU buf) (f := g) (laneOut_sub buf b j)) $$ H
  iintro H
  iapply (le_wp_ret _ _ _ _ _)
  iexists _
  isplitr
  swap; · iexact H
  ipureintro
  intro x hx hlt
  have hx0 : (x 0).val = buf.val := (Finset.mem_filter.mp hx).2
  by_cases hm : x ∈ (uV.access (laneOut buf b j)).set
  · obtain ⟨h0, h1, h2, h3⟩ := (mem_laneOut buf b j x).mp hm
    obtain ⟨c, hc⟩ : ∃ c : Fin 16, (x 2).val = 16 * j.val + c.val := ⟨⟨(x 2).val - 16 * j.val, by omega⟩, by show _ = 16 * j.val + ((x 2).val - 16 * j.val); omega⟩
    have hlt2 : 16 * j.val + c.val < 128 := by omega
    have hxe : x = ix3 buf b ⟨16 * j.val + c.val, hlt2⟩ := by
      rw [eq_ix3 x]; congr 1
      · exact Fin.ext h0
      · exact Fin.ext h1
      · exact Fin.ext hc
    rw [hxe]
    refine (read_laneOut (Val := Elt F) buf b j _ c hlt2).symm.trans ((View.read_write_of_mem _ _ (Finset.mem_univ _)).trans ?_)
    rw [shapeCast_apply (s := S16) (t := S1x1x16) _ shapeCasts_S16_S1x1x16 (ix3 0 0 c) (ix1 c) (by
      rw [Shape.rowMajor_val_three, Shape.rowMajor_val_one]
      show c.val = (0 * 1 + 0) * 16 + c.val
      omega)]
    rfl
  · refine (View.write_of_not_mem _ _ _ hm).trans (hg x hx ?_)
    · by_contra hn
      refine hm ((mem_laneOut buf b j x).mpr ?_)
      have h2 : (x 2).val < 128 := (x 2).isLt
      omega

theorem wp_meanRow (buf : Fin 2) (b : Fin 8) (f : S2x8x50x128.Idx → F .f32) :
    iprop(RH d L buf f ∗ UN d L buf (means f) (128 * b.val)) ⊢ WP d L (meanRow rV uV buf b) (fun _ => iprop(RH d L buf f ∗ UN d L buf (means f) (128 * (b.val + 1)))) := by
  unfold meanRow
  refine wp_then (fun a => iprop((⌜a = sums f buf b 50⌝ ∗ RH d L buf f) ∗ UN d L buf (means f) (128 * b.val))) (wp_beside (gives_sums buf b f)) fun a => ?_
  iintro ⟨⟨%h, HR⟩, HU⟩
  subst h
  have hput : UN d L buf (means f) (128 * b.val) ⊢ WP d L (do
        putLane uV buf b 0 (sums f buf b 50).1
        putLane uV buf b 1 (sums f buf b 50).2.1
        putLane uV buf b 2 (sums f buf b 50).2.2.1
        putLane uV buf b 3 (sums f buf b 50).2.2.2.1
        putLane uV buf b 4 (sums f buf b 50).2.2.2.2.1
        putLane uV buf b 5 (sums f buf b 50).2.2.2.2.2.1
        putLane uV buf b 6 (sums f buf b 50).2.2.2.2.2.2.1
        putLane uV buf b 7 (sums f buf b 50).2.2.2.2.2.2.2) (fun _ => UN d L buf (means f) (128 * (b.val + 1))) := by
    refine wp_then _ (wp_putLane buf b 0 f) fun _ => ?_
    refine wp_then _ (wp_putLane buf b 1 f) fun _ => ?_
    refine wp_then _ (wp_putLane buf b 2 f) fun _ => ?_
    refine wp_then _ (wp_putLane buf b 3 f) fun _ => ?_
    refine wp_then _ (wp_putLane buf b 4 f) fun _ => ?_
    refine wp_then _ (wp_putLane buf b 5 f) fun _ => ?_
    refine wp_then _ (wp_putLane buf b 6 f) fun _ => ?_
    exact wp_putLane buf b 7 f
  have hput' := (BI.Laws.sep_comm (P := RH d L buf f) (Q := UN d L buf (means f) (128 * b.val))).1.trans ((wp_beside (R := RH d L buf f) hput).trans (wp_mono frame _ _ fun _ => BI.Laws.sep_comm.1))
  iapply hput'
  isplitl [HR]; · iexact HR
  iexact HU

theorem UN_all (buf : Fin 2) (g : S2x8x128.Idx → F .f32) : UN d L buf g 1024 ⊢ UH' d L buf g := by
  unfold UN
  iintro ⟨%f, %hf, H⟩
  unfold UH'
  iapply (Entails.of_eq (pointsTo_congr fun x hx => hf x hx (by
    have h1 : (x 1).val < 8 := (x 1).isLt
    have h2 : (x 2).val < 128 := (x 2).isLt
    omega))) $$ H

/-- A chunk's means, from its rows. -/
theorem wp_meanChunk (buf : Fin 2) (f : S2x8x50x128.Idx → F .f32) (g : S2x8x128.Idx → F .f32) :
    iprop(RH d L buf f ∗ UH' d L buf g) ⊢ WP d L (meanChunk rV uV buf) (fun _ => iprop(RH d L buf f ∗ UH' d L buf (means f))) := by
  have h0 : UH' d L buf g ⊢ UN d L buf (means f) (128 * (0 : Fin 8).val) := by
    unfold UN
    iintro H
    iexists g
    isplitr
    · ipureintro; intro x _ h; exact absurd h (Nat.not_lt_zero _)
    · iexact H
  unfold meanChunk
  refine (sep_mono_right h0).trans ?_
  refine wp_then _ (wp_meanRow buf 0 f) fun _ => ?_
  refine wp_then _ (wp_meanRow buf 1 f) fun _ => ?_
  refine wp_then _ (wp_meanRow buf 2 f) fun _ => ?_
  refine wp_then _ (wp_meanRow buf 3 f) fun _ => ?_
  refine wp_then _ (wp_meanRow buf 4 f) fun _ => ?_
  refine wp_then _ (wp_meanRow buf 5 f) fun _ => ?_
  refine wp_then _ (wp_meanRow buf 6 f) fun _ => ?_
  exact (wp_meanRow buf 7 f).trans (wp_mono frame _ _ fun _ => sep_mono_right (UN_all buf _))

end Cert.KernelIdeal.Bag

end
-- ==== Proof.Copies.lean ====
/- The plain copies of a vector subcore: a chunk's row numbers fetched, a chunk's means written out. -/
module

public import proofs.«01_k».proof.Proof.Mean

@[expose] public section

noncomputable section

namespace Cert.KernelIdeal.Bag

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

/-- A view's elements written with what the view reads of `g` are the elements at `g`. -/
theorem pts_written {nD : Nat} {τ : Topo} {sig : RefSig} {Ix : Type} [DecidableEq Ix] {Val : EltTy → Type} {Name : Type} [DecidableEq Name]
    {U : Type} [URA U] {Lvl : Type} [Preorder Lvl] (c : Thread nD τ) {sp : Space} {s : Shape} {e : EltTy} (v : View sig c.2.kind sp s e)
    (q : PosShare TreeShare) (f g : Buf Val (v.loc c)) (w : s.Idx → Val e) (h : ∀ x, v.read Val g x = w x) :
    (v.loc c ↦[v.set]{q} v.write Val f w Finset.univ : sProp (MT nD τ sig Ix Val Name U Lvl)) = (v.loc c ↦[v.set]{q} g) := by
  refine pointsTo_congr fun i hi => ?_
  obtain ⟨x, -, rfl⟩ := Finset.mem_map.mp hi
  refine (View.write_emb_of_mem _ _ (Finset.mem_univ x)).trans ?_
  rw [← h x, View.read_apply, cast_cast, cast_eq]

/-- The first row of chunk `n` of the vector subcore at `L`. -/
def rowBase (L : grid0.Coords) (n : ℕ) : ℕ := 8192 * (L 0).val + 512 * (L 1).val + 8 * n

theorem rowBase_lt (L : grid0.Coords) {n : ℕ} (hn : n < 64) (b : Fin 8) : rowBase L n + b.val < 16384 := by
  have h0 : (L 0).val < 2 := (L 0).isLt
  have h1 : (L 1).val < 16 := (L 1).isLt
  unfold rowBase; omega

/-- Row `b` of chunk `n`. -/
def rowG (L : grid0.Coords) (n : ℕ) (b : ℕ) : Fin 16384 := Fin.ofNat 16384 (rowBase L n + b)

theorem rowG_eq (L : grid0.Coords) {n : ℕ} (hn : n < 64) (b : Fin 8) : rowG L n b.val = ⟨rowBase L n + b.val, rowBase_lt L hn b⟩ :=
  Fin.ext (Nat.mod_eq_of_lt (rowBase_lt L hn b))

variable [FloatOps F] [Named F]
variable (d : Dev nD) (L : grid0.Coords)

abbrev iLoc : Loc nD τ sig := (thr d L).loc main_arg0_scv
abbrev tLoc : Loc nD τ sig := (thr d L).loc main_arg1_scv
abbrev oLoc : Loc nD τ sig := (thr d L).loc main_v0_scv

/-- The rows of a chunk in the row numbers' buffer. -/
def rowsI (n : ℕ) : Finset S16384x50.Idx := Finset.univ.filter fun x => rowBase L n ≤ (x 0).val ∧ (x 0).val < rowBase L n + 8

/-- Chunk `n`'s row numbers as the scratch buffer holds them. -/
def idsC (ids : S16384x50.Idx → BitVec 32) (n : ℕ) (x : S2x8x50.Idx) : BitVec 32 := ids (ix2 (rowG L n (x 1).val) (x 2))

/-- What a vector subcore owes, beside its right to wait. -/
def OW (O : CellTallies nD τ sig (HIx 1)) (W : Waits sig (HIx 1)) : sProp (MM F) :=
  iprop(Transfers.MayWaits (thr d L) (default : HIx 1) O ∗ ∃ W' : Waits sig (HIx 1), ⌜∀ p ∈ W', p ∈ W ∨ p.2 = none⌝ ∗ owes (thr d L) O W')

/-- A semaphore of the subcore at zero. -/
def Z (sm : DmaSems sig S_) : sProp (MM F) := semVal ((thr d L, SemLoc.dma sm.sem) : GSem nD τ sig) 0

/-- The row numbers in memory, at a share. -/
def IW (q : PosShare TreeShare) (ids : S16384x50.Idx → BitVec 32) : sProp (MM F) := iLoc d L ↦{q} ids

/-- The credit of a chunk's row numbers, and of a chunk's means. -/
def creditI (buf : Fin 2) : ℕ := (chunkIds sV buf).view.dmaCredit

/-- Chunk `n`'s row numbers on their way to half `buf` of the scratch buffer. -/
def Fly (q : PosShare TreeShare) (ids : S16384x50.Idx → BitVec 32) (sm : DmaSems sig S_) (buf : Fin 2) (n : ℕ) : sProp (MM F) :=
  iprop(Transfers.Flight EC (thr d L) (.dma sm.sem) (default : HIx 1) (creditI buf)
      iprop(SH d L buf (idsC L ids n) ∗ (iLoc d L ↦[rowsI L n]{q} ids)) ∗ (iLoc d L ↦[Finset.univ \ rowsI L n]{q} ids))

variable {d L}

theorem wp_idsStart (q : PosShare TreeShare) (ids : S16384x50.Idx → BitVec 32) (sm : DmaSems sig S_) (buf : Fin 2) (n : ℕ) (hn : n < 64)
    (off : Fin 2 → Nat) (h) (hoff : off = ![rowBase L n, 0]) (f : S2x8x50.Idx → BitVec 32) :
    iprop(IW d L q ids ∗ SH d L buf f ∗ Z d L sm) ⊢ WP d L (idsStart (F := F) (i := L) iV sV sm buf off h) (fun _ => Fly d L q ids sm buf n) := by
  subst hoff
  have hset : ((idsAt iV ![rowBase L n, 0] h).view.set : Finset S16384x50.Idx) = rowsI L n := by
    ext x; unfold rowsI; rw [Finset.mem_filter, mem_idsAt]; simp
  have hdst : ((chunkIds sV buf).view.set : Finset S2x8x50.Idx) = halfS buf := by
    ext x; unfold halfS; rw [Finset.mem_filter, mem_chunkIds]; simp
  have hw := pts_written (Ix := HIx 1) (Name := ℕ) (U := UU) (Lvl := ℕ) (Val := Elt F) (thr d L) (chunkIds sV buf).view fullShare f (idsC L ids n)
    ((idsAt iV ![rowBase L n, 0] h).view.read (Elt F) ids) (fun x => by
      obtain ⟨b, s, rfl⟩ : ∃ (b : Fin 8) (s : Fin 50), x = ix2 b s := ⟨x 0, x 1, eq_ix2 x⟩
      rw [read_chunkIds (Val := Elt F), read_idsAt (Val := Elt F) _ h ids b s (rowBase_lt L hn b)]
      show ids (ix2 (rowG L n b.val) s) = _
      rw [rowG_eq L hn b])
  rw [hdst] at hw
  have hfl : (Transfers.Flight EC (thr d L) (.dma sm.sem) (default : HIx 1) (creditI buf)
      iprop((sLoc d L ↦[halfS buf]{fullShare} (chunkIds sV buf).view.write (Elt F) f ((idsAt iV ![rowBase L n, 0] h).view.read (Elt F) ids) Finset.univ)
        ∗ (iLoc d L ↦[(idsAt iV ![rowBase L n, 0] h).view.set]{q} ids)) : sProp (MM F))
      ⊢ Transfers.Flight EC (thr d L) (.dma sm.sem) (default : HIx 1) (creditI buf) iprop(SH d L buf (idsC L ids n) ∗ (iLoc d L ↦[rowsI L n]{q} ids)) :=
    Transfers.Flight_mono EC (thr d L) (by unfold SH; rw [hset]; exact sep_mono_left (Entails.of_eq hw))
  have hspl : (IW d L q ids : sProp (MM F)) ⊢ iprop((iLoc d L ↦[(idsAt iV ![rowBase L n, 0] h).view.set]{q} ids) ∗ (iLoc d L ↦[Finset.univ \ rowsI L n]{q} ids)) := by
    unfold IW; rw [hset]
    exact (pointsTo_split_subset (Finset.subset_univ _)).1
  unfold idsStart WP Prog.lift Fly Z
  unfold SH at *
  iintro ⟨HI, HS, HZ⟩
  ihave HI' := hspl $$ HI
  icases HI' with ⟨HI, HR⟩
  iapply (Transfers.wp_dmaLocal EC 𝒱₀ (thr d L) none (src := idsAt iV ![rowBase L n, 0] h) (dst := chunkIds sV buf) (default : HIx 1) (creditI buf) (rfl : (chunkIds sV buf).view.amount (.dma sm.sem) = _)
    (View.dmaCredit_pos _ (by decide)) (Sd := halfS buf) (fd := f) hdst.subset) $$ [HI HS HZ]
  · isplitl [HI]; · iexact HI
    isplitl [HS]; · iexact HS
    iexact HZ
  iintro HF
  iapply (le_wp_ret _ _ _ _ _)
  isplitl [HF]
  · iapply hfl $$ HF
  · iexact HR

/-- The list of waits after one more. -/
theorem OW_more (O : CellTallies nD τ sig (HIx 1)) (W W' : Waits sig (HIx 1)) (sm : SemLoc sig) (hW : ∀ p ∈ W', p ∈ W ∨ p.2 = none) :
    ∀ p ∈ insert (sm, (default : HIx 1)) W', p ∈ W ∨ p.2 = none := fun p hp => by
  rcases Finset.mem_insert.mp hp with rfl | hp
  · exact Or.inr rfl
  · exact hW p hp

theorem wp_idsWait (q : PosShare TreeShare) (ids : S16384x50.Idx → BitVec 32) (sm : DmaSems sig S_) (buf : Fin 2) (n : ℕ)
    (off : Fin 2 → Nat) (h) (O : CellTallies nD τ sig (HIx 1)) (W : Waits sig (HIx 1)) :
    iprop(Fly d L q ids sm buf n ∗ OW d L O W) ⊢ WP d L (idsWait (F := F) (i := L) iV sV sm buf off h)
      (fun _ => iprop((IW d L q ids ∗ SH d L buf (idsC L ids n) ∗ Z d L sm) ∗ OW d L O W)) := by
  have hjn : iprop((iLoc d L ↦[rowsI L n]{q} ids) ∗ (iLoc d L ↦[Finset.univ \ rowsI L n]{q} ids)) ⊢ (IW d L q ids : sProp (MM F)) := by
    unfold IW
    exact (pointsTo_split_subset (Finset.subset_univ _)).2
  unfold idsWait WP Prog.lift Fly Z OW
  iintro ⟨⟨HF, HR⟩, #Hmw, %W', %hW, HO⟩
  iapply (Transfers.wp_waitLocalO EC 𝒱₀ (thr d L) none (default : HIx 1) (rfl : (chunkIds sV buf).view.dmaCredit = creditI buf)) $$ [HF HO]
  · isplitl [HF]; · iexact HF
    isplitl [HO]; · iexact HO
    iapply (Transfers.MayWaits.elim (SemLoc.dma sm.sem)) $$ Hmw
  iintro ⟨⟨HS, HI⟩, HZ, HO⟩
  iapply (le_wp_ret _ _ _ _ _)
  isplitl [HS HI HR HZ]
  · isplitl [HI HR]
    · iapply hjn
      isplitl [HI]; · iexact HI
      iexact HR
    isplitl [HS]; · iexact HS
    iexact HZ
  isplitr; · iexact Hmw
  iexists _
  isplitr
  swap; · iexact HO
  ipureintro
  exact OW_more O W W' _ hW

/-! ## The means written out -/

variable (d L)

/-- The subcore's rows of the result. -/
def rowsO : Finset S16384x128.Idx := Finset.univ.filter fun x => rowBase L 0 ≤ (x 0).val ∧ (x 0).val < rowBase L 64

/-- The subcore's rows of the result, the first `n` chunks those of `g`. -/
def ON (g : S16384x128.Idx → F .f32) (n : ℕ) : sProp (MM F) :=
  iprop(∃ f : S16384x128.Idx → F .f32, ⌜∀ x ∈ rowsO L, (x 0).val < rowBase L n → f x = g x⌝ ∗ (oLoc d L ↦[rowsO L]{fullShare} f))

variable {d L}

theorem wp_writeChunk (g : S16384x128.Idx → F .f32) (m : S2x8x128.Idx → F .f32) (sm : DmaSems sig S_) (buf : Fin 2) (n : ℕ) (hn : n < 64)
    (off : Fin 2 → Nat) (h) (hoff : off = ![rowBase L n, 0]) (hm : ∀ (b : Fin 8) (c : Fin 128), m (ix3 buf b c) = g (ix2 (rowG L n b.val) c))
    (O : CellTallies nD τ sig (HIx 1)) (W : Waits sig (HIx 1)) :
    iprop((UH' d L buf m ∗ ON d L g n ∗ Z d L sm) ∗ OW d L O W) ⊢ WP d L (writeChunk (i := L) oV uV sm buf off h)
      (fun _ => iprop((UH' d L buf m ∗ ON d L g (n + 1) ∗ Z d L sm) ∗ OW d L O W)) := by
  subst hoff
  have hb : rowBase L 0 ≤ rowBase L n ∧ rowBase L n + 8 ≤ rowBase L 64 ∧ rowBase L (n + 1) = rowBase L n + 8 := by unfold rowBase; omega
  have hsrc : ((chunkOut uV buf).view.set : Finset S2x8x128.Idx) = halfU buf := by
    ext x; unfold halfU; rw [Finset.mem_filter, mem_chunkOut]; simp
  have hdst : ((outAt oV ![rowBase L n, 0] h).view.set : Finset S16384x128.Idx) ⊆ rowsO L := by
    intro x hx
    have h1 := (mem_outAt _ h x).mp hx
    unfold rowsO; rw [Finset.mem_filter]
    exact ⟨Finset.mem_univ _, by omega, by omega⟩
  unfold writeChunk WP ON Z OW UH'
  rw [wp_bind]; unfold Prog.lift
  rw [← hsrc]
  iintro ⟨⟨HU, ⟨%f, %hf, HO⟩, HZ⟩, #Hmw, %W', %hW, HW⟩
  iapply (Transfers.wp_dmaLocal EC 𝒱₀ (thr d L) none (src := chunkOut uV buf) (dst := outAt oV ![rowBase L n, 0] h) (default : HIx 1) _ (rfl : (outAt oV ![rowBase L n, 0] h).view.amount (.dma sm.sem) = _)
    (View.dmaCredit_pos _ (by decide)) (Sd := rowsO L) (fd := f) hdst) $$ [HU HO HZ]
  · isplitl [HU]; · iexact HU
    isplitl [HO]; · iexact HO
    iexact HZ
  iintro HF
  iapply (le_wp_ret _ _ _ _ _)
  iapply (Transfers.wp_waitLocalO EC 𝒱₀ (thr d L) none (default : HIx 1) (rfl : (outAt oV ![rowBase L n, 0] h).view.dmaCredit = _)) $$ [HF HW]
  · isplitl [HF]; · iexact HF
    isplitl [HW]; · iexact HW
    iapply (Transfers.MayWaits.elim (SemLoc.dma sm.sem)) $$ Hmw
  iintro ⟨⟨HO, HU⟩, HZ, HW⟩
  iapply (le_wp_ret _ _ _ _ _)
  isplitl [HU HO HZ]
  · isplitl [HU]; · iexact HU
    isplitl [HO]
    · iexists _
      isplitr
      swap; · iexact HO
      ipureintro
      intro x hx hlt
      by_cases hxm : x ∈ (outAt oV ![rowBase L n, 0] h).view.set
      · have h1 := (mem_outAt _ h x).mp hxm
        obtain ⟨b, hb'⟩ : ∃ b : Fin 8, (x 0).val = rowBase L n + b.val := ⟨⟨(x 0).val - rowBase L n, by omega⟩, by show _ = _ + ((x 0).val - rowBase L n); omega⟩
        have hxe : x = ix2 ⟨rowBase L n + b.val, rowBase_lt L hn b⟩ (x 1) := by
          rw [eq_ix2 x]; congr 1
          exact Fin.ext hb'
        rw [hxe]
        refine (read_outAt (Val := Elt F) _ h _ b (x 1) (rowBase_lt L hn b)).symm.trans ((View.read_write_of_mem _ _ (Finset.mem_univ _)).trans ?_)
        refine (read_chunkOut (Val := Elt F) buf m b (x 1)).trans ?_
        exact (hm b (x 1)).trans (by rw [rowG_eq L hn b]; rfl)
      · refine (View.write_of_not_mem _ _ _ hxm).trans (hf x hx ?_)
        by_contra hc
        exact hxm ((mem_outAt _ h x).mpr ⟨by omega, by omega⟩)
    iexact HZ
  isplitr; · iexact Hmw
  iexists _
  isplitr
  swap; · iexact HW
  ipureintro
  exact OW_more O W W' _ hW

end Cert.KernelIdeal.Bag

end
-- ==== Proof.Gathers.lean ====
/- Several indirect gathers on one DMA semaphore. Each gather of `o` rows is `o` transfers of a row's credit, and all
   the rows of all the gathers are one batch on the semaphore: a gather's issue puts its rows on it, waits of whole
   gathers take units off it, and the last wait hands every row back. A gather's rows together are its
   destination written, its share of the table and its list. -/
module

public import Idealize.ShloMosaic.Lib.SparseCore.Stream
public import Idealize.ShloMosaic.Lib.Batch

@[expose] public section

noncomputable section

namespace Bags

open Idealize.ShloMosaic Idealize.ShloMosaic.SparseCore Idealize.ShloMosaic.Transfers
open Idealize.SL Idealize.SL.RA Idealize.SL.BI Idealize.SL.Sem Idealize.SL.ProofMode
open scoped Idealize.SL.BI
open Idealize.SL.BI.BIBase Idealize.SL.BI.Laws

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)

local notation "𝕄" => MT nD τ sig Ix (Elt F) Name U Lvl

/-! ## A window of a batch's issue rights -/

section Window

variable {n o : ℕ}

/-- Transfer `j` of the window from `k`. -/
def at' (k : ℕ) (h : k + o ≤ n) (j : Fin o) : Fin n := ⟨k + j.val, by omega⟩

/-- The rights from `k` on are the window's and those after it. -/
theorem pending_window (Φ : Fin n → sProp 𝕄) (k : ℕ) (h : k + o ≤ n) :
    bigSep (pending k) Φ = iprop(bigSep Finset.univ (fun j : Fin o => Φ (at' k h j)) ∗ bigSep (pending (k + o)) Φ) := by
  classical
  have hinj : Function.Injective (at' (n := n) k h) := fun a b hab => Fin.ext (by
    have := congrArg Fin.val hab; simp only [at'] at this; omega)
  have hset : (pending k : Finset (Fin n)) = (Finset.univ.map ⟨at' k h, hinj⟩) ∪ pending (k + o) := by
    ext t
    simp only [pending, Finset.mem_filter, Finset.mem_univ, true_and, Finset.mem_union, Finset.mem_map, Function.Embedding.coeFn_mk]
    constructor
    · intro ht
      by_cases hlt : t.val < k + o
      · exact Or.inl ⟨⟨t.val - k, by omega⟩, Fin.ext (by simp only [at']; omega)⟩
      · exact Or.inr (by omega)
    · rintro (⟨j, rfl⟩ | ht)
      · simp only [at']; omega
      · omega
  have hdis : Disjoint (Finset.univ.map ⟨at' k h, hinj⟩) (pending (k + o) : Finset (Fin n)) := by
    refine Finset.disjoint_left.mpr ?_
    intro t ht ht'
    simp only [Finset.mem_map, Finset.mem_univ, true_and, Function.Embedding.coeFn_mk] at ht
    obtain ⟨j, rfl⟩ := ht
    simp only [pending, Finset.mem_filter, Finset.mem_univ, true_and, at'] at ht'
    have := j.isLt; omega
  rw [hset, bigSep_union hdis, bigSep_map]; rfl

end Window

/-! ## A gather's rows -/

section Rows

variable {sp : Space} {s₀ s si : Shape} {e : EltTy} {a : Nat} {α : Type}
variable (src : Memref sig c.2.kind sp s₀ e) (dst : Memref sig c.2.kind .vmem s e) (hg : s₀.Gathers a s)
variable (offs : Memref sig c.2.kind .vmem si .i32) (hn : si.numel = s.size hg.axis')

/-- The list's entry that row `j` is read by. -/
def entryAt (j : Fin (s.size hg.axis')) : si.Idx := si.rowMajor.symm (j.cast hn.symm)

omit [DecidableEq Ix] [DecidableEq Name] [URA U] [Preorder Lvl] in
theorem entryAt_bijective : Function.Bijective (entryAt (s₀ := s₀) (s := s) (a := a) hg hn) :=
  si.rowMajor.symm.bijective.comp (finCongr hn.symm).bijective

/-- What row `j`'s transfer delivers: the destination's row written with the table's row, the list's entry back, and
    its piece of the table back. -/
def rowBack (q : PosShare TreeShare) (ho : 0 < s.size hg.axis') (fs : Buf (Elt F) (src.view.loc c)) (fd : Buf (Elt F) (dst.view.loc c))
    (fo : Buf (Elt F) (offs.view.loc c)) (r : Fin (s.size hg.axis') → Fin (s₀.size hg.axis)) (j : Fin (s.size hg.axis')) : sProp 𝕄 :=
  iprop(((dst.view.loc c ↦[(dst.view.slice (s.rowRect hg.axis' j)).set]{fullShare}
            ((dst.view.slice (s.rowRect hg.axis' j)).write (Elt F) fd (fun i => src.view.read (Elt F) fs (hg.rowIdx (r j) i)) Finset.univ))
        ∗ (offs.view.loc c ↦[{offs.view.emb (entryAt hg hn j)}]{fullShare} fo))
      ∗ (src.view.loc c ↦[src.view.set]{pieceOf q _ ho j} fs))

/-- The rows together: the destination written with the gathered rows, the table's share and the list. -/
theorem rowsBack (q : PosShare TreeShare) (ho : 0 < s.size hg.axis') (fs : Buf (Elt F) (src.view.loc c)) (fd : Buf (Elt F) (dst.view.loc c))
    (fo : Buf (Elt F) (offs.view.loc c)) (r : Fin (s.size hg.axis') → Fin (s₀.size hg.axis)) :
    bigSep Finset.univ (rowBack (Ix := Ix) (Name := Name) (U := U) (Lvl := Lvl) c src dst hg offs hn q ho fs fd fo r)
      ⊢ (iprop((dst.view.loc c ↦[dst.view.set]{fullShare} (dst.view.write (Elt F) fd (gatherPayload hg (src.view.read (Elt F) fs) r) Finset.univ))
          ∗ (src.view.loc c ↦[src.view.set]{q} fs) ∗ (offs.view.loc c ↦[offs.view.set]{fullShare} fo)) : sProp 𝕄) := by
  have hW : ∀ j i, src.view.read (Elt F) fs (hg.rowIdx (r j) i) = gatherPayload hg (src.view.read (Elt F) fs) r ((s.rowRect hg.axis' j).emb i) := fun j i => by
    unfold gatherPayload; rw [Shape.Gathers.idx_rowRect_emb]
  have hwr : bigSep Finset.univ (fun j => (dst.view.loc c ↦[(dst.view.slice (s.rowRect hg.axis' j)).set]{fullShare}
        ((dst.view.slice (s.rowRect hg.axis' j)).write (Elt F) fd (fun i => src.view.read (Elt F) fs (hg.rowIdx (r j) i)) Finset.univ) : sProp 𝕄))
      ⊢ (dst.view.loc c ↦[dst.view.set]{fullShare} (dst.view.write (Elt F) fd (gatherPayload hg (src.view.read (Elt F) fs) r) Finset.univ) : sProp 𝕄) :=
    pointsTo_rows_write c dst.view hg.axis' fd _ _ hW
  unfold rowBack
  iintro H
  ihave H1 := bigSep_sep_out _ _ _ $$ H
  icases H1 with ⟨H2, Hs⟩
  ihave H3 := bigSep_sep_out _ _ _ $$ H2
  icases H3 with ⟨Hd, Ho⟩
  isplitl [Hd]; · iapply hwr $$ Hd
  isplitl [Hs]; · iapply (Entails.of_eq (pointsTo_piecesOf (src.view.set) fs ho q).symm) $$ Hs
  iapply (Entails.of_eq (pointsTo_entries c offs.view (entryAt hg hn) (entryAt_bijective hg hn) fullShare fo).symm) $$ Ho

/-- Four families of resources as one. -/
theorem seps_in {nD : Nat} {τ : Topo} {sig : RefSig} {Ix : Type} [DecidableEq Ix] {F : FTy → Type} {Name : Type} [DecidableEq Name] {U : Type} [URA U]
    {Lvl : Type} [Preorder Lvl] {o : ℕ} (A B C G : Fin o → sProp (MT nD τ sig Ix (Elt F) Name U Lvl)) :
    iprop(bigSep Finset.univ A ∗ bigSep Finset.univ B ∗ bigSep Finset.univ C ∗ bigSep Finset.univ G)
      ⊢ bigSep Finset.univ (fun j => iprop(((A j ∗ B j) ∗ C j) ∗ G j)) := by
  iintro ⟨HA, HB, HC, HG⟩
  iapply bigSep_sep_in Finset.univ (fun j => iprop((A j ∗ B j) ∗ C j)) G
  isplitr [HG]
  · iapply bigSep_sep_in Finset.univ (fun j => iprop(A j ∗ B j)) C
    isplitr [HC]
    · iapply bigSep_sep_in Finset.univ A B
      isplitl [HA]; · iexact HA
      iexact HB
    · iexact HC
  · iexact HG

/-- A gather's issue within a batch, `k` of whose transfers are issued: its rows are the next `o` of them. -/
theorem wp_gatherBatch [Infinite Name] [EC.LandsIn (upEmb : UEmb _ 𝕄)] {sem : DmaSem sig} {n k u : ℕ}
    {hp : c.2.kind = .scVector} {hsrc : src.view.WordExact} {he : e.bits = 32} {hsp : sp = .hbm ∨ sp = .shared} {hr : s₀.StreamRows a}
    {kk : PUnit → Prog (TpuEff nD τ sig (Elt F) Λ c.2) α}
    {q : PosShare TreeShare} {fs : Buf (Elt F) (src.view.loc c)} {fd : Buf (Elt F) (dst.view.loc c)} {fo : Buf (Elt F) (offs.view.loc c)}
    {Q : α → sProp 𝕄} (ι : Ix) (N : ℕ) (hN : ∀ j, (dst.slice (s.rowRect hg.axis' j) (s.stride_rowRect hg.axis' j)).view.dmaCredit = N)
    (ho : 0 < s.size hg.axis') (hin : ∀ x, (offs.view.read (Elt F) fo x).toNat < s₀.size hg.axis)
    (D : Fin n → sProp 𝕄) (hk : k + s.size hg.axis' ≤ n) (hu : u ≤ k * N)
    (hD : ∀ j, rowBack c src dst hg offs hn q ho fs fd fo (rows (offs.view.read (Elt F) fo) hn hin) j ⊢ D (at' k hk j)) :
    iprop((src.view.loc c ↦[src.view.set]{q} fs) ∗ (dst.view.loc c ↦[dst.view.set]{fullShare} fd)
        ∗ (offs.view.loc c ↦[offs.view.set]{fullShare} fo) ∗ Batch EC c (.dma sem) ι N D k u)
      ⊢ iprop((Batch EC c (.dma sem) ι N D (k + s.size hg.axis') u -∗ wp frame (wpE defs 𝒱 c bd) Set.univ (kk ⟨⟩) Q)
          -∗ wp frame (wpE defs 𝒱 c bd) Set.univ (enqueueIndirectGather hp src dst hg offs hn sem hsrc he hsp hr >>= kk) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsum : ∑ j, (rd j).dst.view.dmaCredit = s.size hg.axis' * N := by
    rw [Finset.sum_congr rfl fun j _ => hN j, Finset.sum_const, Finset.card_univ, Fintype.card_fin, smul_eq_mul]
  have hin3 := seps_in (Ix := Ix) (F := F) (Name := Name) (U := U) (Lvl := Lvl) (nD := nD) (τ := τ) (sig := sig)
    (fun j => (dst.view.loc c ↦[(dst.view.slice (s.rowRect hg.axis' j)).set]{fullShare} fd))
    (fun j => (offs.view.loc c ↦[{offs.view.emb (entryAt hg hn j)}]{fullShare} fo))
    (fun j => (src.view.loc c ↦[src.view.set]{pieceOf q _ ho j} fs))
  unfold Batch
  iintro ⟨Hs, Hd, Ho, ⟨%γ, %γ₀, %κ, #Hinv, HI, H0, Hcred⟩⟩ Hk
  ihave HI' := (Entails.of_eq (pending_window (o := s.size hg.axis') (fun t : Fin n => (count EC (γ t) 0 : sProp 𝕄)) k hk)) $$ HI
  icases HI' with ⟨Hγ, HI⟩
  ihave Hd' := (Entails.of_eq (pointsTo_rows c dst.view hg.axis' fullShare fd)) $$ Hd
  ihave Ho' := (Entails.of_eq (pointsTo_entries c offs.view (entryAt hg hn) (entryAt_bijective hg hn) fullShare fo)) $$ Ho
  ihave Hs' := (Entails.of_eq (pointsTo_piecesOf (src.view.set) fs ho q)) $$ Hs
  iapply (wp_enqueueIndirectDma 𝒱 c bd Set.univ (qo := fullShare) (fo := fo) (rd := rd) ι (s.size hg.axis' * N) hA hrd hsum) $$ [Hd' Ho' Hs' Hγ]
  · -- an entry's share, then its row's resources with the entry back in the delivery
    have hrow : ∀ j, iprop(inv κ (batchBody EC (c, SemLoc.dma sem) N D γ γ₀)
          ∗ ((((dst.view.loc c ↦[(dst.view.slice (s.rowRect hg.axis' j)).set]{fullShare} fd) ∗ (offs.view.loc c ↦[{offs.view.emb (entryAt hg hn j)}]{fullShare} fo))
          ∗ (src.view.loc c ↦[src.view.set]{pieceOf q _ ho j} fs)) ∗ count EC (γ (at' k hk j)) 0))
        ⊢ iprop(S.heldEntry fullShare fo j ∗ (S.heldEntry fullShare fo j -∗ rowRes c (rd j))) := fun j => by
      iintro ⟨#Hinv, ⟨⟨Hr, He⟩, Hsq⟩, Hγj⟩
      isplitl [He]; · iexact He
      iintro He
      unfold rowRes
      iexists pieceOf q _ ho j, fs, iprop((dst.view.loc c ↦[(dst.view.slice (s.rowRect hg.axis' j)).set]{fullShare}
        ((dst.view.slice (s.rowRect hg.axis' j)).write (Elt F) fd (fun i => src.view.read (Elt F) fs (hg.rowIdx (r j) i)) Finset.univ)) ∗ S.heldEntry fullShare fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have hcu := batch_creditUpdate EC (N := N) (D := D) (γ₀ := γ₀) (γ := γ) (g := (c, SemLoc.dma sem)) (ι := κ) (at' k hk j) (hD j)
        rw [show (rd j).dst.view.amount (SemLoc.dma sem) = N from hN j]
        iapply hcu
        isplitr; · iexact Hinv
        iexact Hγj
    unfold Stream.res
    ihave H3 := hin3 (fun j => count EC (γ (at' k hk j)) 0) $$ [Hd' Ho' Hs' Hγ]
    · isplitl [Hd']; · iexact Hd'
      isplitl [Ho']; · iexact Ho'
      isplitl [Hs']; · iexact Hs'
      iexact Hγ
    iapply (bigSep_mono_pers Finset.univ _ _ _ fun j _ => hrow j)
    isplitr; · iexact Hinv
    iexact H3
  iintro Hcred'
  iapply Hk
  iexists γ, γ₀, κ
  isplitr; · iexact Hinv
  isplitl [HI]; · iexact HI
  isplitl [H0]; · iexact H0
  rw [show (k + s.size hg.axis') * N - u = (k * N - u) + s.size hg.axis' * N by rw [Nat.add_mul]; omega, ← tallyAt_add]
  icombine Hcred Hcred' as H
  iexact H

end Rows

end Bags

end
-- ==== Proof.Chunk.lean ====
/- A chunk's eight gathers: issued together on one semaphore, waited for together, the table's rows back in place. -/
module

public import proofs.«01_k».proof.Proof.Copies
public import proofs.«01_k».proof.Proof.Gathers

@[expose] public section

noncomputable section

namespace Cert.KernelIdeal.Bag

open Cert.KernelIdeal Cert.KernelIdeal.Gen
open Idealize.ShloMosaic Idealize.ShloMosaic.ValueIdx
open Idealize.ShloMosaic.SparseCore (S V T gatherPayload rows)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The table's rows that a chunk's row numbers name. -/
def gath (T : S100000x128.Idx → F .f32) (s : S2x8x50.Idx → BitVec 32) (x : S2x8x50x128.Idx) : F .f32 :=
  T (ix2 (Fin.ofNat 100000 (s (ix3 (x 0) (x 1) (x 2))).toNat) (x 3))

/-- Every row number names a row of the table. -/
abbrev InTable (s : S2x8x50.Idx → BitVec 32) : Prop := ∀ x, (s x).toNat < 100000

theorem inTable_bag {s : S2x8x50.Idx → BitVec 32} (hs : InTable s) (buf : Fin 2) (b : Fin 8) :
    ∀ x, ((bagIds sV buf b).view.read (Elt F) s x).toNat < S100000x128.size gathers_S100000x128_S50x128.axis := fun x => by
  obtain ⟨y, rfl⟩ : ∃ y : Fin 50, x = ix1 y := ⟨x 0, eq_ix1 x⟩
  rw [read_bagIds (Val := Elt F)]
  exact hs _

theorem set_tbl : ((tbl tV).view.set : Finset S100000x128.Idx) = Finset.univ := by
  refine (View.set_slice_whole _ _).trans (Finset.eq_univ_iff_forall.mpr fun x => Rect.mem_set_unit.mpr fun a => ?_)
  have h := (x a).isLt
  fin_cases a
  · exact ⟨Nat.zero_le _, by show (x 0).val < 0 + 100000; have h0 : (x 0).val < 100000 := h; omega⟩
  · exact ⟨Nat.zero_le _, by show (x 1).val < 0 + 128; have h0 : (x 1).val < 128 := h; omega⟩

variable (d : Dev nD) (L : grid0.Coords)

/-- The table in memory, at a share. -/
def TW (q : PosShare TreeShare) (T : S100000x128.Idx → F .f32) : sProp (MM F) := tLoc d L ↦{q} T

/-- Bag `b`'s piece of a share. -/
abbrev eighth (q : PosShare TreeShare) (b : Fin 8) : PosShare TreeShare := Idealize.ShloMosaic.pieceOf q 8 (Nat.succ_pos 7) b

/-- A row's credit. -/
def creditR : ℕ := (rV.slice (Rect.unit (s := S2x8x50x128) ![0, 0, 0, 0] ![1, 1, 1, 128] (by decide)) (fun _ => rfl)).view.dmaCredit

theorem creditR_pos : 0 < creditR := View.dmaCredit_pos _ (by decide)

section

variable (q : PosShare TreeShare) (T : S100000x128.Idx → F .f32) (s : S2x8x50.Idx → BitVec 32) (hs : InTable s) (f : S2x8x50x128.Idx → F .f32) (buf : Fin 2)

/-- What bag `b`'s gather takes. -/
def bagIn (b : Fin 8) : sProp (MM F) :=
  iprop((tLoc d L ↦[(tbl tV).view.set]{eighth q b} T) ∗ (rLoc d L ↦[(bagRows rV buf b).view.set]{fullShare} f)
    ∗ (sLoc d L ↦[(bagIds sV buf b).view.set]{fullShare} s))

/-- What row `j` of bag `b` gives back. -/
def rowOut (b : Fin 8) (j : Fin 50) : sProp (MM F) :=
  Bags.rowBack (thr d L) (tbl tV) (bagRows rV buf b) gathers_S100000x128_S50x128 (bagIds sV buf b) rfl (eighth q b) (by decide) T f s
    (rows ((bagIds sV buf b).view.read (Elt F) s) rfl (inTable_bag hs buf b)) j

/-- The rows of the eight bags in one line. -/
def chunkOuts (t : Fin (8 * 50)) : sProp (MM F) :=
  rowOut d L q T s hs f buf (finProdFinEquiv.symm t).1 (finProdFinEquiv.symm t).2

instance (t : Fin (8 * 50)) : Storable (upEmb : UEmb _ (MM F)) (chunkOuts d L q T s hs f buf t) := by
  unfold chunkOuts rowOut Bags.rowBack; infer_instance

/-- The chunk's gathers in flight, `k` rows of them issued and `u` units waited for. -/
def Gath (sm : DmaSems sig S_) (k u : ℕ) : sProp (MM F) :=
  Transfers.Batch EC (thr d L) (.dma sm.sem) (default : HIx 1) creditR (chunkOuts d L q T s hs f buf) k u

end

variable {d L}

section

variable (q : PosShare TreeShare) (T : S100000x128.Idx → F .f32) (s : S2x8x50.Idx → BitVec 32) (hs : InTable s) (f : S2x8x50x128.Idx → F .f32) (buf : Fin 2)
variable (sm : DmaSems sig S_)

theorem chunkOuts_at (b : Fin 8) (j : Fin 50) : chunkOuts d L q T s hs f buf (finProdFinEquiv (b, j)) = rowOut d L q T s hs f buf b j := by
  unfold chunkOuts
  rw [Equiv.symm_apply_apply]

theorem wp_fire (b : Fin 8) (n : ℕ) (hn : n = b.val) (R : sProp (MM F)) :
    iprop((bagIn d L q T s f buf b ∗ R) ∗ Gath d L q T s hs f buf sm (50 * n) 0) ⊢ WP d L (fire (F := F) (i := L) tV sV rV sm buf b)
      (fun _ => iprop(R ∗ Gath d L q T s hs f buf sm (50 * (n + 1)) 0)) := by
  subst hn
  have e : (fire (F := F) (i := L) tV sV rV sm buf b) = (fire (F := F) (i := L) tV sV rV sm buf b >>= fun _ => Prog.ret ⟨⟩) := rfl
  have hk : 50 * b.val + S50x128.size gathers_S100000x128_S50x128.axis' ≤ 8 * 50 := by show 50 * b.val + 50 ≤ 8 * 50; omega
  have hD : ∀ j : Fin 50, rowOut d L q T s hs f buf b j ⊢ chunkOuts d L q T s hs f buf (Bags.at' (n := 8 * 50) (50 * b.val) hk j) := fun j => by
    have hj : Bags.at' (n := 8 * 50) (50 * b.val) hk j = finProdFinEquiv (b, j) := Fin.ext (by
      show 50 * b.val + j.val = j.val + 50 * b.val
      omega)
    rw [hj, chunkOuts_at]
  rw [e]
  unfold fire WP bagIn Gath
  iintro ⟨⟨⟨HT, HR, HS⟩, HX⟩, HB⟩
  iapply (Bags.wp_gatherBatch EC 𝒱₀ (thr d L) none (tbl tV) (bagRows rV buf b) gathers_S100000x128_S50x128 (bagIds sV buf b) rfl
    (q := eighth q b) (fs := T) (fd := f) (fo := s) (default : HIx 1) creditR (fun _ => rfl) (by decide) (inTable_bag hs buf b)
    (chunkOuts d L q T s hs f buf) hk (Nat.zero_le _) hD) $$ [HT HR HS HB]
  · isplitl [HT]; · iexact HT
    isplitl [HR]; · iexact HR
    isplitl [HS]; · iexact HS
    iexact HB
  iintro HB
  iapply (le_wp_ret _ _ _ _ _)
  isplitl [HX]; · iexact HX
  iexact HB

theorem wp_land (b : Fin 8) (n : ℕ) (hn : n < 8) (O : CellTallies nD τ sig (HIx 1)) (W : Waits sig (HIx 1)) :
    iprop(Gath d L q T s hs f buf sm (8 * 50) (n * 50 * creditR) ∗ OW d L O W) ⊢ WP d L (land (F := F) (i := L) tV rV sm buf b)
      (fun _ => iprop(Gath d L q T s hs f buf sm (8 * 50) ((n + 1) * 50 * creditR) ∗ OW d L O W)) := by
  unfold land SparseCore.waitIndirectGather WP Gath OW
  rw [show (n + 1) * 50 * creditR = n * 50 * creditR + 50 * creditR by rw [Nat.add_mul, Nat.add_mul, Nat.one_mul]]
  iintro ⟨HB, #Hmw, %W', %hW, HO⟩
  iapply (Transfers.wp_waitBatchMulO EC 𝒱₀ (thr d L) none (default : HIx 1) 50 (show (bagRows rV buf b).view.dmaCredit = 50 * creditR by rfl)
    (by have h2 : n * 50 + 50 ≤ 8 * 50 := by omega
        calc n * 50 * creditR + 50 * creditR = (n * 50 + 50) * creditR := (Nat.add_mul _ _ _).symm
          _ ≤ 8 * 50 * creditR := Nat.mul_le_mul_right _ h2
          _ = creditR * (8 * 50) := Nat.mul_comm _ _)) $$ [HB HO]
  · isplitl [HB]; · iexact HB
    isplitl [HO]; · iexact HO
    iapply (Transfers.MayWaits.elim (SemLoc.dma sm.sem)) $$ Hmw
  iintro ⟨HB, HO⟩
  iapply (le_wp_ret _ _ _ _ _)
  isplitl [HB]; · iexact HB
  isplitr; · iexact Hmw
  iexists _
  isplitr
  swap; · iexact HO
  ipureintro
  exact OW_more O W W' _ hW

theorem wp_landLast (b : Fin 8) (O : CellTallies nD τ sig (HIx 1)) (W : Waits sig (HIx 1)) :
    iprop(Gath d L q T s hs f buf sm (8 * 50) (7 * 50 * creditR) ∗ OW d L O W) ⊢ WP d L (land (F := F) (i := L) tV rV sm buf b)
      (fun _ => iprop((bigSep Finset.univ (chunkOuts d L q T s hs f buf) ∗ Z d L sm) ∗ OW d L O W)) := by
  unfold land SparseCore.waitIndirectGather WP Gath OW Z
  iintro ⟨HB, #Hmw, %W', %hW, HO⟩
  iapply (Transfers.wp_waitBatchAllO EC 𝒱₀ (thr d L) none (default : HIx 1) (show (bagRows rV buf b).view.dmaCredit = 50 * creditR by rfl) creditR_pos
    (by show 7 * 50 * creditR + 50 * creditR = creditR * (8 * 50); omega)) $$ [HB HO]
  · isplitl [HB]; · iexact HB
    isplitl [HO]; · iexact HO
    iapply (Transfers.MayWaits.elim (SemLoc.dma sm.sem)) $$ Hmw
  iintro ⟨HB, HZ, HO⟩
  iapply (le_wp_ret _ _ _ _ _)
  isplitl [HB HZ]
  · isplitl [HB]; · iexact HB
    iexact HZ
  isplitr; · iexact Hmw
  iexists _
  isplitr
  swap; · iexact HO
  ipureintro
  exact OW_more O W W' _ hW

/-! ## A half by bags -/

theorem halfR_bags : (halfR buf) = Finset.univ.biUnion fun b : Fin 8 => ((bagRows rV buf b).view.set : Finset S2x8x50x128.Idx) := by
  ext x
  unfold halfR
  rw [Finset.mem_filter, Finset.mem_biUnion]
  constructor
  · rintro ⟨-, h⟩
    exact ⟨x 1, Finset.mem_univ _, (mem_bagRows buf (x 1) x).mpr ⟨h, rfl⟩⟩
  · rintro ⟨b, -, h⟩
    exact ⟨Finset.mem_univ _, ((mem_bagRows buf b x).mp h).1⟩

theorem halfS_bags : (halfS buf) = Finset.univ.biUnion fun b : Fin 8 => ((bagIds sV buf b).view.set : Finset S2x8x50.Idx) := by
  ext x
  unfold halfS
  rw [Finset.mem_filter, Finset.mem_biUnion]
  constructor
  · rintro ⟨-, h⟩
    exact ⟨x 1, Finset.mem_univ _, (mem_bagIds buf (x 1) x).mpr ⟨h, rfl⟩⟩
  · rintro ⟨b, -, h⟩
    exact ⟨Finset.mem_univ _, ((mem_bagIds buf b x).mp h).1⟩

theorem RH_bags : (RH d L buf f : sProp (MM F)) = bigSep Finset.univ fun b : Fin 8 => rLoc d L ↦[(bagRows rV buf b).view.set]{fullShare} f := by
  unfold RH
  rw [halfR_bags]
  refine pointsTo_biUnion (ℓ := rLoc d L) Finset.univ (fun b : Fin 8 => (bagRows rV buf b).view.set) fun b _ b' _ hne => Finset.disjoint_left.mpr fun x hx hx' => hne (Fin.ext ?_)
  exact ((mem_bagRows buf b x).mp hx).2.symm.trans ((mem_bagRows buf b' x).mp hx').2

theorem SH_bags : (SH d L buf s : sProp (MM F)) = bigSep Finset.univ fun b : Fin 8 => sLoc d L ↦[(bagIds sV buf b).view.set]{fullShare} s := by
  unfold SH
  rw [halfS_bags]
  refine pointsTo_biUnion (ℓ := sLoc d L) Finset.univ (fun b : Fin 8 => (bagIds sV buf b).view.set) fun b _ b' _ hne => Finset.disjoint_left.mpr fun x hx hx' => hne (Fin.ext ?_)
  exact ((mem_bagIds buf b x).mp hx).2.symm.trans ((mem_bagIds buf b' x).mp hx').2

theorem TW_bags : (TW d L q T : sProp (MM F)) = bigSep Finset.univ fun b : Fin 8 => tLoc d L ↦[(tbl tV).view.set]{eighth q b} T := by
  have hset : ((tbl tV).view.set : Finset (Idx (tLoc d L))) = Finset.univ :=
    Finset.eq_univ_iff_forall.mpr fun x => (Finset.ext_iff.mp set_tbl x).mpr (Finset.mem_univ _)
  have h : ∀ S : Finset (Idx (tLoc d L)), (tLoc d L ↦[S]{q} T : sProp (MM F)) = bigSep Finset.univ fun b : Fin 8 => tLoc d L ↦[S]{eighth q b} T :=
    fun S => pointsTo_piecesOf (Ix := HIx 1) (Name := ℕ) (U := UU) (Lvl := ℕ) (Val := Elt F) (ℓ := tLoc d L) S T (Nat.succ_pos 7) q
  unfold TW
  rw [← hset]
  exact h _

/-- The chunk's resources, bag by bag. -/
theorem chunk_bags : iprop(TW d L q T ∗ RH d L buf f ∗ SH d L buf s) ⊢ bigSep Finset.univ (bagIn d L q T s f buf) := by
  rw [TW_bags, RH_bags, SH_bags]
  unfold bagIn
  iintro ⟨HT, HR, HS⟩
  iapply Transfers.bigSep_sep_in Finset.univ (fun b : Fin 8 => (tLoc d L ↦[(tbl tV).view.set]{eighth q b} T : sProp (MM F)))
    (fun b => iprop((rLoc d L ↦[(bagRows rV buf b).view.set]{fullShare} f) ∗ (sLoc d L ↦[(bagIds sV buf b).view.set]{fullShare} s)))
  isplitl [HT]; · iexact HT
  iapply Transfers.bigSep_sep_in Finset.univ (fun b : Fin 8 => (rLoc d L ↦[(bagRows rV buf b).view.set]{fullShare} f : sProp (MM F)))
    (fun b => (sLoc d L ↦[(bagIds sV buf b).view.set]{fullShare} s))
  isplitl [HR]; · iexact HR
  iexact HS

theorem bags_chunk : bigSep Finset.univ (bagIn d L q T s f buf) ⊢ iprop(TW d L q T ∗ RH d L buf f ∗ SH d L buf s) := by
  rw [TW_bags, RH_bags, SH_bags]
  unfold bagIn
  iintro H
  ihave H1 := Transfers.bigSep_sep_out _ _ _ $$ H
  icases H1 with ⟨HT, H2⟩
  ihave H3 := Transfers.bigSep_sep_out _ _ _ $$ H2
  icases H3 with ⟨HR, HS⟩
  isplitl [HT]; · iexact HT
  isplitl [HR]; · iexact HR
  iexact HS

/-- A bag's rows together: the bag at the table's rows. -/
theorem rowOut_bag (b : Fin 8) : bigSep Finset.univ (rowOut d L q T s hs f buf b) ⊢ bagIn d L q T s (gath T s) buf b := by
  have hw := pts_written (Ix := HIx 1) (Name := ℕ) (U := UU) (Lvl := ℕ) (Val := Elt F) (thr d L) (bagRows rV buf b).view fullShare f (gath T s)
    (gatherPayload gathers_S100000x128_S50x128 ((tbl tV).view.read (Elt F) T) (rows ((bagIds sV buf b).view.read (Elt F) s) rfl (inTable_bag hs buf b)))
    (fun x => by
      obtain ⟨r, c, rfl⟩ : ∃ (r : Fin 50) (c : Fin 128), x = ix2 r c := ⟨x 0, x 1, eq_ix2 x⟩
      rw [read_bagRows (Val := Elt F), read_tbl (Val := Elt F)]
      unfold gatherPayload gath
      refine congrArg T ?_
      refine Eq.trans ?_ (eq_ix2 _).symm
      refine congrArg₂ ix2 (Fin.ext ?_) rfl
      have hi : ix1 r = S50.rowMajor.symm (Fin.cast rfl r) := ((Equiv.symm_apply_eq _).mpr (Fin.ext (by rw [Shape.rowMajor_val_one]; rfl))).symm
      show (s (ix3 buf b r)).toNat % 100000 = ((bagIds sV buf b).view.read (Elt F) s (S50.rowMajor.symm (Fin.cast rfl r))).toNat
      exact (Nat.mod_eq_of_lt (hs _)).trans (congrArg BitVec.toNat ((read_bagIds (Val := Elt F) buf b s r).symm.trans (congrArg ((bagIds sV buf b).view.read (Elt F) s) hi))))
  have hb : bigSep Finset.univ (rowOut d L q T s hs f buf b) ⊢ _ := Bags.rowsBack (thr d L) (tbl tV) (bagRows rV buf b) gathers_S100000x128_S50x128 (bagIds sV buf b) rfl (eighth q b) (by decide) T f s
    (rows ((bagIds sV buf b).view.read (Elt F) s) rfl (inTable_bag hs buf b))
  unfold bagIn
  iintro H
  ihave H' := hb $$ H
  icases H' with ⟨HR, HT, HS⟩
  isplitl [HT]; · iexact HT
  isplitl [HR]; · iapply (Entails.of_eq hw) $$ HR
  iexact HS

theorem chunkOuts_bags : bigSep Finset.univ (chunkOuts d L q T s hs f buf) ⊢ iprop(TW d L q T ∗ RH d L buf (gath T s) ∗ SH d L buf s) := by
  have h1 : bigSep Finset.univ (chunkOuts d L q T s hs f buf) = bigSep Finset.univ fun p : Fin 8 × Fin 50 => rowOut d L q T s hs f buf p.1 p.2 :=
    (bigSep_univ_equiv (finProdFinEquiv (m := 8) (n := 50)) (chunkOuts d L q T s hs f buf)).trans
      (congrArg (bigSep Finset.univ) (funext fun p => chunkOuts_at q T s hs f buf p.1 p.2))
  rw [h1, bigSep_univ_prod]
  exact (bigSep_mono fun b _ => rowOut_bag q T s hs f buf b).trans (bags_chunk q T s (gath T s) buf)

theorem bigSep_eight {M : Type} [URA M] (Φ : Fin 8 → sProp M) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A chunk's gathers issued. -/
theorem wp_fireChunk : iprop(TW d L q T ∗ RH d L buf f ∗ SH d L buf s ∗ Z d L sm) ⊢ WP d L (fireChunk (F := F) (i := L) tV sV rV sm buf)
    (fun _ => Gath d L q T s hs f buf sm (8 * 50) 0) := by
  have h := chunk_bags (d := d) (L := L) q T s f buf
  rw [bigSep_eight] at h
  have hrun : iprop((bagIn d L q T s f buf 0 ∗ bagIn d L q T s f buf 1 ∗ bagIn d L q T s f buf 2 ∗ bagIn d L q T s f buf 3 ∗ bagIn d L q T s f buf 4
      ∗ bagIn d L q T s f buf 5 ∗ bagIn d L q T s f buf 6 ∗ bagIn d L q T s f buf 7 ∗ emp) ∗ Gath d L q T s hs f buf sm (50 * 0) 0)
      ⊢ WP d L (fireChunk (F := F) (i := L) tV sV rV sm buf) (fun _ => iprop(emp ∗ Gath d L q T s hs f buf sm (50 * 8) 0)) := by
    unfold fireChunk
    refine wp_then _ (wp_fire q T s hs f buf sm 0 0 rfl _) fun _ => ?_
    refine wp_then _ (wp_fire q T s hs f buf sm 1 1 rfl _) fun _ => ?_
    refine wp_then _ (wp_fire q T s hs f buf sm 2 2 rfl _) fun _ => ?_
    refine wp_then _ (wp_fire q T s hs f buf sm 3 3 rfl _) fun _ => ?_
    refine wp_then _ (wp_fire q T s hs f buf sm 4 4 rfl _) fun _ => ?_
    refine wp_then _ (wp_fire q T s hs f buf sm 5 5 rfl _) fun _ => ?_
    refine wp_then _ (wp_fire q T s hs f buf sm 6 6 rfl _) fun _ => ?_
    exact wp_fire q T s hs f buf sm 7 7 rfl _
  have hpost : ∀ a : PUnit, iprop(emp ∗ Gath d L q T s hs f buf sm (50 * 8) 0) ⊢ (Gath d L q T s hs f buf sm (8 * 50) 0) := fun _ => by
    iintro ⟨-, H⟩; iexact H
  have hrun' := hrun.trans (wp_mono frame _ _ hpost)
  iintro ⟨HT, HR, HS, HZ⟩
  ihave HB := h $$ [HT HR HS]
  · isplitl [HT]; · iexact HT
    isplitl [HR]; · iexact HR
    iexact HS
  icases HB with ⟨H0, H1, H2, H3, H4, H5, H6, H7⟩
  unfold Z
  imod (Transfers.batch_alloc' EC (thr d L) (sm := .dma sm.sem) (default : HIx 1) creditR (chunkOuts d L q T s hs f buf)) $$ HZ with HG
  iapply hrun'
  isplitr [HG]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iempintro
  · unfold Gath
    iexact HG

/-- A chunk's gathers landed. -/
theorem wp_landChunk (O : CellTallies nD τ sig (HIx 1)) (W : Waits sig (HIx 1)) :
    iprop(Gath d L q T s hs f buf sm (8 * 50) 0 ∗ OW d L O W) ⊢ WP d L (landChunk (F := F) (i := L) tV rV sm buf)
      (fun _ => iprop(((TW d L q T ∗ RH d L buf (gath T s) ∗ SH d L buf s) ∗ Z d L sm) ∗ OW d L O W)) := by
  have h0 : iprop(Gath d L q T s hs f buf sm (8 * 50) 0 ∗ OW d L O W) ⊢ iprop(Gath d L q T s hs f buf sm (8 * 50) (0 * 50 * creditR) ∗ OW d L O W) :=
    Entails.of_eq (by rw [show 0 * 50 * creditR = 0 from Nat.zero_mul _])
  refine h0.trans ?_
  unfold landChunk
  refine wp_then _ (wp_land q T s hs f buf sm 0 0 (by decide) O W) fun _ => ?_
  refine wp_then _ (wp_land q T s hs f buf sm 1 1 (by decide) O W) fun _ => ?_
  refine wp_then _ (wp_land q T s hs f buf sm 2 2 (by decide) O W) fun _ => ?_
  refine wp_then _ (wp_land q T s hs f buf sm 3 3 (by decide) O W) fun _ => ?_
  refine wp_then _ (wp_land q T s hs f buf sm 4 4 (by decide) O W) fun _ => ?_
  refine wp_then _ (wp_land q T s hs f buf sm 5 5 (by decide) O W) fun _ => ?_
  refine wp_then _ (wp_land q T s hs f buf sm 6 6 (by decide) O W) fun _ => ?_
  exact (wp_landLast q T s hs f buf sm 7 O W).trans (wp_mono frame _ _ fun _ => sep_mono_left (sep_mono_left (chunkOuts_bags q T s hs f buf)))

end

end Cert.KernelIdeal.Bag

end
-- ==== Proof.Tile.lean ====
/- A vector subcore's whole run: sixty-four chunks of eight bags, the next chunk's rows gathered while this one's are added. -/
module

public import proofs.«01_k».proof.Proof.Chunk

@[expose] public section

noncomputable section

namespace Cert.KernelIdeal.Bag

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The pooled rows: each bag's mean over the table's rows its numbers name. -/
def pooled (ids : S16384x50.Idx → BitVec 32) (T : S100000x128.Idx → F .f32) (x : S16384x128.Idx) : F .f32 :=
  colMean fun s => T (ix2 (Fin.ofNat 100000 (ids (ix2 (x 0) (Fin.ofNat 50 s))).toNat) (x 1))

variable {d : Dev nD} {L : grid0.Coords}

/-- One program after another, what comes after to be shown. -/
theorem wp_seq {α β : Type} {P : sProp (MM F)} {x : SP F L α} {f : α → SP F L β} {R : α → sProp (MM F)} {Q : β → sProp (MM F)}
    (hx : P ⊢ WP d L x R) : P ⊢ iprop((∀ a, R a -∗ WP d L (f a) Q) -∗ WP d L (x >>= f) Q) := by
  have h : iprop(P ∗ (∀ a, R a -∗ WP d L (f a) Q)) ⊢ WP d L (x >>= f) Q :=
    wp_then (fun a => iprop(R a ∗ (∀ a, R a -∗ WP d L (f a) Q))) (wp_beside hx) fun a => by
      iintro ⟨HR, HK⟩
      iapply HK $$ HR
  iintro HP HK
  iapply h
  isplitl [HP]; · iexact HP
  iexact HK

/-- The end of a program, its result's use to be shown. -/
theorem wp_wand' {α : Type} {P : sProp (MM F)} {x : SP F L α} {R Q : α → sProp (MM F)}
    (hx : P ⊢ WP d L x R) : P ⊢ iprop((∀ a, R a -∗ Q a) -∗ WP d L x Q) := by
  have h : iprop(P ∗ (∀ a, R a -∗ Q a)) ⊢ WP d L x Q :=
    (wp_beside hx).trans (wp_mono frame _ _ fun a => by
      iintro ⟨HR, HK⟩
      iapply HK $$ HR)
  iintro HP HK
  iapply h
  isplitl [HP]; · iexact HP
  iexact HK

section

variable (qi qt : PosShare TreeShare) (ids : S16384x50.Idx → BitVec 32) (T : S100000x128.Idx → F .f32)

theorem means_pooled (n : ℕ) (buf b) (c : Fin 128) :
    means (gath T (idsC L ids n)) (ix3 buf b c) = pooled ids T (ix2 (rowG L n b.val) c) := rfl

/-- Chunk `n`'s rows in a half of the rows' buffer. -/
def RC (d : Dev nD) (L : grid0.Coords) (ids : S16384x50.Idx → BitVec 32) (T : S100000x128.Idx → F .f32) (buf : Fin 2) (n : ℕ) : sProp (MM F) := RH d L buf (gath T (idsC L ids n))

/-- A half of each buffer at some contents. -/
def RA (d : Dev nD) (L : grid0.Coords) (buf : Fin 2) : sProp (MM F) := iprop(∃ f, RH d L buf f)
def SA (d : Dev nD) (L : grid0.Coords) (buf : Fin 2) : sProp (MM F) := iprop(∃ f, SH d L buf f)
def UA (d : Dev nD) (L : grid0.Coords) (buf : Fin 2) : sProp (MM F) := iprop(∃ f, UH' d L buf f)

/-- A chunk's step: the next chunk's gathers issued, the row numbers of the one after requested, this chunk's means
    taken and written, the next chunk's rows awaited. -/
def stepP (gB iB iA r : DmaSems sig S_) (A B : Fin 2) (o1 o2 o3 : Fin 2 → ℕ) (h1 : ∀ a, o1 a + S8x50.size a ≤ S16384x50.size a)
    (h2 : ∀ a, o2 a + S8x50.size a ≤ S16384x50.size a) (h3 : ∀ a, o3 a + S8x128.size a ≤ S16384x128.size a) : SP F L PUnit := do
  idsWait (i := L) iV sV iB B o1 h1
  fireChunk (i := L) tV sV rV gB B
  idsStart (i := L) iV sV iA A o2 h2
  meanChunk (i := L) rV uV A
  writeChunk (i := L) oV uV r A o3 h3
  landChunk (i := L) tV rV gB B

/-- What a chunk's step starts from. -/
def Pre (d : Dev nD) (L : grid0.Coords) (O : CellTallies nD τ sig (HIx 1)) (W : Waits sig (HIx 1)) (gB iB iA r : DmaSems sig S_) (A B : Fin 2) (n : ℕ) : sProp (MM F) :=
  iprop(TW d L qt T ∗ RC d L ids T A n ∗ RA d L B ∗ SA d L A ∗ Fly d L qi ids iB B (n + 1) ∗ UA d L A ∗ ON d L (pooled ids T) n
    ∗ Z d L gB ∗ Z d L iA ∗ Z d L r ∗ OW d L O W)

variable (hids : ∀ x, (ids x).toNat < 100000)

include hids

theorem inTable_chunk (n : ℕ) : InTable (idsC L ids n) := fun x => hids _

theorem wp_step (O : CellTallies nD τ sig (HIx 1)) (W : Waits sig (HIx 1)) (gB iB iA r : DmaSems sig S_) (A B : Fin 2) (n : ℕ) (hn : n + 2 < 64)
    (o1 o2 o3 : Fin 2 → ℕ) (h1) (h2) (h3) (e2 : o2 = ![rowBase L (n + 2), 0]) (e3 : o3 = ![rowBase L n, 0]) :
    Pre qi qt ids T d L O W gB iB iA r A B n ⊢ WP d L (stepP (F := F) gB iB iA r A B o1 o2 o3 h1 h2 h3)
      (fun _ => iprop(TW d L qt T ∗ RC d L ids T B (n + 1) ∗ RA d L A ∗ SA d L B ∗ Fly d L qi ids iA A (n + 2) ∗ UA d L A
        ∗ ON d L (pooled ids T) (n + 1) ∗ Z d L gB ∗ Z d L iB ∗ Z d L r ∗ OW d L O W)) := by
  unfold Pre stepP RC RA SA UA
  iintro ⟨HT, HR, ⟨%fr, HRB⟩, ⟨%fs, HSA⟩, HF, ⟨%fu, HU⟩, HO, HgB, HiA, Hr, HW⟩
  iapply (wp_seq (wp_idsWait qi ids iB B (n + 1) o1 h1 O W)) $$ [HF HW]
  · isplitl [HF]; · iexact HF
    iexact HW
  iintro %_ ⟨⟨HI, HSB, HiB⟩, HW⟩
  iapply (wp_seq (wp_fireChunk qt T (idsC L ids (n + 1)) (inTable_chunk ids hids (n + 1)) fr B gB)) $$ [HT HRB HSB HgB]
  · isplitl [HT]; · iexact HT
    isplitl [HRB]; · iexact HRB
    isplitl [HSB]; · iexact HSB
    iexact HgB
  iintro %_ HG
  iapply (wp_seq (wp_idsStart qi ids iA A (n + 2) hn o2 h2 e2 fs)) $$ [HI HSA HiA]
  · isplitl [HI]; · iexact HI
    isplitl [HSA]; · iexact HSA
    iexact HiA
  iintro %_ HF
  iapply (wp_seq (wp_meanChunk A (gath T (idsC L ids n)) fu)) $$ [HR HU]
  · isplitl [HR]; · iexact HR
    iexact HU
  iintro %_ ⟨HR, HU⟩
  iapply (wp_seq (wp_writeChunk (pooled ids T) _ r A n (by omega) o3 h3 e3 (means_pooled ids T n A) O W)) $$ [HU HO Hr HW]
  · isplitl [HU HO Hr]
    · isplitl [HU]; · iexact HU
      isplitl [HO]; · iexact HO
      iexact Hr
    iexact HW
  iintro %_ ⟨⟨HU, HO, Hr⟩, HW⟩
  have hl := (wp_landChunk (d := d) (L := L) qt T (idsC L ids (n + 1)) (inTable_chunk ids hids (n + 1)) fr B gB O W)
  iapply (wp_wand' hl) $$ [HG HW]
  · isplitl [HG]; · iexact HG
    iexact HW
  iintro %_ ⟨⟨⟨HT, HRB, HSB⟩, HgB⟩, HW⟩
  isplitl [HT]; · iexact HT
  isplitl [HRB]; · iexact HRB
  isplitl [HR]; · iexists _; iexact HR
  isplitl [HSB]; · iexists _; iexact HSB
  isplitl [HF]; · iexact HF
  isplitl [HU]; · iexists _; iexact HU
  isplitl [HO]; · iexact HO
  isplitl [HgB]; · iexact HgB
  isplitl [HiB]; · iexact HiB
  isplitl [Hr]; · iexact Hr
  iexact HW

omit hids in
theorem at_row {a b : ℕ} (h : a = b) : (![a, 0] : Fin 2 → ℕ) = ![b, 0] := by rw [h]

omit hids in
theorem off1_0 : k0_off1 L 0#32 = ![rowBase L 0, 0] := (by decide +kernel : ∀ i : grid0.Coords, k0_off1 i 0#32 = ![8192 * (i 0).val + 512 * (i 1).val + 8 * 0, 0]) L
omit hids in
theorem off1_8 : k0_off1 L 8#32 = ![rowBase L 1, 0] := (by decide +kernel : ∀ i : grid0.Coords, k0_off1 i 8#32 = ![8192 * (i 0).val + 512 * (i 1).val + 8 * 1, 0]) L
omit hids in
theorem off198_496 : k0_off198 L 496#32 = ![rowBase L 62, 0] := (by decide +kernel : ∀ i : grid0.Coords, k0_off198 i 496#32 = ![8192 * (i 0).val + 512 * (i 1).val + 8 * 62, 0]) L
omit hids in
theorem off198_504 : k0_off198 L 504#32 = ![rowBase L 63, 0] := (by decide +kernel : ∀ i : grid0.Coords, k0_off198 i 504#32 = ![8192 * (i 0).val + 512 * (i 1).val + 8 * 63, 0]) L

omit hids in
theorem trips_31 : k0_t1_loop.trips = 31 := by decide +kernel

/-- Between trips: two chunks more each. -/
def Inv (d : Dev nD) (L : grid0.Coords) (O : CellTallies nD τ sig (HIx 1)) (W : Waits sig (HIx 1)) (k : ℕ) : sProp (MM F) :=
  iprop(Pre qi qt ids T d L O W cc0_scratch4 cc0_scratch6 cc0_scratch5 cc0_scoped0 0 1 (2 * k) ∗ Z d L cc0_scratch3 ∗ Z d L cc0_scoped1 ∗ UA d L 1)

theorem wp_trip (O : CellTallies nD τ sig (HIx 1)) (W : Waits sig (HIx 1)) (k : Fin k0_t1_loop.trips) :
    Inv qi qt ids T d L O W k.val ⊢ WP d L (tripP (F := F) iV tV oV sV rV uV cc0_scratch3 cc0_scratch4 cc0_scratch5 cc0_scratch6 cc0_scoped0 cc0_scoped1 L k)
      (fun _ => Inv qi qt ids T d L O W (k.val + 1)) := by
  have hk : k.val < 31 := lt_of_lt_of_eq k.isLt trips_31
  have e : tripP (F := F) iV tV oV sV rV uV cc0_scratch3 cc0_scratch4 cc0_scratch5 cc0_scratch6 cc0_scoped0 cc0_scoped1 L k
      = stepP (L := L) cc0_scratch4 cc0_scratch6 cc0_scratch5 cc0_scoped0 0 1 (k0_off2 L k 1#32) (k0_off2 L k 2#32) (k0_off67 L k) (k0_off2_inb L k 0) (k0_off2_inb L k 1) (k0_off67_inb L k)
        >>= fun _ => stepP (L := L) cc0_scratch3 cc0_scratch5 cc0_scratch6 cc0_scoped1 1 0 (k0_off68 L k 1#32) (k0_off68 L k 2#32) (k0_off133 L k) (k0_off68_inb L k 0) (k0_off68_inb L k 1) (k0_off133_inb L k) := by
    unfold tripP stepP; simp only [bind_assoc]
  rw [e]
  have s1 := wp_step (d := d) (L := L) qi qt ids T hids O W cc0_scratch4 cc0_scratch6 cc0_scratch5 cc0_scoped0 0 1 (2 * k.val) (by omega)
    (k0_off2 L k 1#32) (k0_off2 L k 2#32) (k0_off67 L k) (k0_off2_inb L k 0) (k0_off2_inb L k 1) (k0_off67_inb L k)
    ((k0_off2_eq L k 1).trans (at_row (by show _ + 8 * 1 + 8 = _; unfold rowBase; omega))) ((k0_off67_eq L k).trans (at_row (by unfold rowBase; omega)))
  have s2 := wp_step (d := d) (L := L) qi qt ids T hids O W cc0_scratch3 cc0_scratch5 cc0_scratch6 cc0_scoped1 1 0 (2 * k.val + 1) (by omega)
    (k0_off68 L k 1#32) (k0_off68 L k 2#32) (k0_off133 L k) (k0_off68_inb L k 0) (k0_off68_inb L k 1) (k0_off133_inb L k)
    ((k0_off68_eq L k 1).trans (at_row (by show _ + 8 * 1 + 16 = _; unfold rowBase; omega))) ((k0_off133_eq L k).trans (at_row (by unfold rowBase; omega)))
  unfold Inv
  rw [show 2 * (k.val + 1) = 2 * k.val + 1 + 1 by omega]
  iintro ⟨HP, H3, Hs1, HU1⟩
  iapply (wp_seq s1) $$ HP
  iintro %_ ⟨HT, HR, HRA, HSA, HF, HU0, HO, H4, H6, Hs0, HW⟩
  iapply (wp_wand' s2) $$ [HT HR HRA HSA HF HU1 HO H3 H6 Hs1 HW]
  · unfold Pre
    isplitl [HT]; · iexact HT
    isplitl [HR]; · iexact HR
    isplitl [HRA]; · iexact HRA
    isplitl [HSA]; · iexact HSA
    isplitl [HF]; · iexact HF
    isplitl [HU1]; · iexact HU1
    isplitl [HO]; · iexact HO
    isplitl [H3]; · iexact H3
    isplitl [H6]; · iexact H6
    isplitl [Hs1]; · iexact Hs1
    iexact HW
  iintro %_ ⟨HT, HR, HRA, HSA, HF, HU1, HO, H3, H5, Hs1, HW⟩
  unfold Pre
  isplitl [HT HR HRA HSA HF HU0 HO H4 H5 Hs0 HW]
  · isplitl [HT]; · iexact HT
    isplitl [HR]; · iexact HR
    isplitl [HRA]; · iexact HRA
    isplitl [HSA]; · iexact HSA
    isplitl [HF]; · iexact HF
    isplitl [HU0]; · iexact HU0
    isplitl [HO]; · iexact HO
    isplitl [H4]; · iexact H4
    isplitl [H5]; · iexact H5
    isplitl [Hs0]; · iexact Hs0
    iexact HW
  isplitl [H3]; · iexact H3
  isplitl [Hs1]; · iexact Hs1
  iexact HU1

/-- Before the loop. -/
theorem wp_pre (O : CellTallies nD τ sig (HIx 1)) (W : Waits sig (HIx 1)) :
    iprop(IW d L qi ids ∗ TW d L qt T ∗ RA d L 0 ∗ SA d L 0 ∗ SA d L 1 ∗ Z d L cc0_scratch3 ∗ Z d L cc0_scratch5 ∗ Z d L cc0_scratch6 ∗ OW d L O W)
      ⊢ WP d L (preP (F := F) iV tV sV rV cc0_scratch3 cc0_scratch5 cc0_scratch6 L)
        (fun _ => iprop(TW d L qt T ∗ RC d L ids T 0 0 ∗ SA d L 0 ∗ Fly d L qi ids cc0_scratch6 1 1 ∗ Z d L cc0_scratch3 ∗ Z d L cc0_scratch5 ∗ OW d L O W)) := by
  unfold preP RC RA SA
  iintro ⟨HI, HT, ⟨%fr, HR⟩, ⟨%fs, HS0⟩, ⟨%fs1, HS1⟩, H3, H5, H6, HW⟩
  iapply (wp_seq (wp_idsStart qi ids cc0_scratch5 0 0 (by decide) _ _ off1_0 fs)) $$ [HI HS0 H5]
  · isplitl [HI]; · iexact HI
    isplitl [HS0]; · iexact HS0
    iexact H5
  iintro %_ HF
  iapply (wp_seq (wp_idsWait qi ids cc0_scratch5 0 0 _ _ O W)) $$ [HF HW]
  · isplitl [HF]; · iexact HF
    iexact HW
  iintro %_ ⟨⟨HI, HS0, H5⟩, HW⟩
  iapply (wp_seq (wp_fireChunk qt T (idsC L ids 0) (inTable_chunk ids hids 0) fr 0 cc0_scratch3)) $$ [HT HR HS0 H3]
  · isplitl [HT]; · iexact HT
    isplitl [HR]; · iexact HR
    isplitl [HS0]; · iexact HS0
    iexact H3
  iintro %_ HG
  iapply (wp_seq (wp_idsStart qi ids cc0_scratch6 1 1 (by decide) _ _ off1_8 fs1)) $$ [HI HS1 H6]
  · isplitl [HI]; · iexact HI
    isplitl [HS1]; · iexact HS1
    iexact H6
  iintro %_ HF
  iapply (wp_wand' (wp_landChunk (d := d) (L := L) qt T (idsC L ids 0) (inTable_chunk ids hids 0) fr 0 cc0_scratch3 O W)) $$ [HG HW]
  · isplitl [HG]; · iexact HG
    iexact HW
  iintro %_ ⟨⟨⟨HT, HR, HS0⟩, H3⟩, HW⟩
  isplitl [HT]; · iexact HT
  isplitl [HR]; · iexact HR
  isplitl [HS0]; · iexists _; iexact HS0
  isplitl [HF]; · iexact HF
  isplitl [H3]; · iexact H3
  isplitl [H5]; · iexact H5
  iexact HW

/-- What a subcore holds beside its rows of the result, between runs. -/
def Own (d : Dev nD) (L : grid0.Coords) : sProp (MM F) :=
  iprop((RA d L 0 ∗ RA d L 1) ∗ (SA d L 0 ∗ SA d L 1) ∗ (UA d L 0 ∗ UA d L 1) ∗ Z d L cc0_scratch3 ∗ Z d L cc0_scratch4 ∗ Z d L cc0_scratch5 ∗ Z d L cc0_scratch6
    ∗ Z d L cc0_scoped0 ∗ Z d L cc0_scoped1 ∗ Z d L cc0_scoped2 ∗ Z d L cc0_scoped3)

/-- The last two chunks. -/
theorem wp_post (O : CellTallies nD τ sig (HIx 1)) (W : Waits sig (HIx 1)) :
    iprop(Inv qi qt ids T d L O W 31 ∗ Z d L cc0_scoped2 ∗ Z d L cc0_scoped3)
      ⊢ WP d L (postP (F := F) iV tV oV sV rV uV cc0_scratch4 cc0_scratch6 cc0_scoped2 cc0_scoped3 L)
        (fun _ => iprop((IW d L qi ids ∗ TW d L qt T ∗ ON d L (pooled ids T) 64) ∗ Own d L ∗ OW d L O W)) := by
  unfold Inv Pre postP Own RC RA SA UA
  iintro ⟨⟨⟨HT, HR, ⟨%fr, HRB⟩, ⟨%fs, HSA⟩, HF, ⟨%fu, HU⟩, HO, HgB, HiA, Hr, HW⟩, H3, Hs1, ⟨%fu1, HU1⟩⟩, Hs2, Hs3⟩
  iapply (wp_seq (wp_idsWait qi ids cc0_scratch6 1 63 _ _ O W)) $$ [HF HW]
  · isplitl [HF]; · iexact HF
    iexact HW
  iintro %_ ⟨⟨HI, HSB, HiB⟩, HW⟩
  iapply (wp_seq (wp_fireChunk qt T (idsC L ids 63) (inTable_chunk ids hids 63) fr 1 cc0_scratch4)) $$ [HT HRB HSB HgB]
  · isplitl [HT]; · iexact HT
    isplitl [HRB]; · iexact HRB
    isplitl [HSB]; · iexact HSB
    iexact HgB
  iintro %_ HG
  iapply (wp_seq (wp_meanChunk 0 (gath T (idsC L ids 62)) fu)) $$ [HR HU]
  · isplitl [HR]; · iexact HR
    iexact HU
  iintro %_ ⟨HR, HU⟩
  iapply (wp_seq (wp_writeChunk (pooled ids T) _ cc0_scoped2 0 62 (by decide) _ _ off198_496 (means_pooled ids T 62 0) O W)) $$ [HU HO Hs2 HW]
  · isplitl [HU HO Hs2]
    · isplitl [HU]; · iexact HU
      isplitl [HO]; · iexact HO
      iexact Hs2
    iexact HW
  iintro %_ ⟨⟨HU, HO, Hs2⟩, HW⟩
  iapply (wp_seq (wp_landChunk (d := d) (L := L) qt T (idsC L ids 63) (inTable_chunk ids hids 63) fr 1 cc0_scratch4 O W)) $$ [HG HW]
  · isplitl [HG]; · iexact HG
    iexact HW
  iintro %_ ⟨⟨⟨HT, HRB, HSB⟩, HgB⟩, HW⟩
  iapply (wp_seq (wp_meanChunk 1 (gath T (idsC L ids 63)) fu1)) $$ [HRB HU1]
  · isplitl [HRB]; · iexact HRB
    iexact HU1
  iintro %_ ⟨HRB, HU1⟩
  iapply (wp_wand' (wp_writeChunk (pooled ids T) _ cc0_scoped3 1 63 (by decide) _ _ off198_504 (means_pooled ids T 63 1) O W)) $$ [HU1 HO Hs3 HW]
  · isplitl [HU1 HO Hs3]
    · isplitl [HU1]; · iexact HU1
      isplitl [HO]; · iexact HO
      iexact Hs3
    iexact HW
  iintro %_ ⟨⟨HU1, HO, Hs3⟩, HW⟩
  isplitl [HI HT HO]
  · isplitl [HI]; · iexact HI
    isplitl [HT]; · iexact HT
    iexact HO
  isplitr [HW]
  swap; · iexact HW
  isplitl [HR HRB]
  · isplitl [HR]
    · iexists _; iexact HR
    · iexists _; iexact HRB
  isplitl [HSA HSB]
  · isplitl [HSA]
    · iexists _; iexact HSA
    · iexists _; iexact HSB
  isplitl [HU HU1]
  · isplitl [HU]
    · iexists _; iexact HU
    · iexists _; iexact HU1
  isplitl [H3]; · iexact H3
  isplitl [HgB]; · iexact HgB
  isplitl [HiA]; · iexact HiA
  isplitl [HiB]; · iexact HiB
  isplitl [Hr]; · iexact Hr
  isplitl [Hs1]; · iexact Hs1
  isplitl [Hs2]; · iexact Hs2
  iexact Hs3

/-- A vector subcore's run: its rows of the result end at the pooled rows. -/
theorem wp_kernP (O : CellTallies nD τ sig (HIx 1)) (W : Waits sig (HIx 1)) :
    iprop((IW d L qi ids ∗ TW d L qt T ∗ ON d L (pooled ids T) 0) ∗ Own d L ∗ OW d L O W)
      ⊢ WP d L (kernP (F := F) iV tV oV sV rV uV cc0_scratch3 cc0_scratch4 cc0_scratch5 cc0_scratch6 cc0_scoped0 cc0_scoped1 cc0_scoped2 cc0_scoped3 L)
        (fun _ => iprop((IW d L qi ids ∗ TW d L qt T ∗ ON d L (pooled ids T) 64) ∗ Own d L ∗ OW d L O W)) := by
  have hloop : Inv qi qt ids T d L O W 0 ⊢ WP d L (Scf.Loop.for (σ := PUnit) k0_t1_loop k0_t1_ok ⟨⟩ fun k _ =>
      tripP (F := F) iV tV oV sV rV uV cc0_scratch3 cc0_scratch4 cc0_scratch5 cc0_scratch6 cc0_scoped0 cc0_scoped1 L k)
      (fun _ => Inv qi qt ids T d L O W 31) := by
    iintro H
    iapply (Scf.wp_for _ _ _ _ _ _ k0_t1_ok _ _ (fun k (_ : PUnit) => Inv qi qt ids T d L O W k) ?_)
    · intro k acc
      exact wp_trip qi qt ids T hids O W k
    · isplitl [H]; · iexact H
      iintro %acc H
      rw [show Scf.trips k0_t1_loop.lb k0_t1_loop.ub k0_t1_loop.st = 31 from trips_31]
      iexact H
  unfold kernP Own
  iintro ⟨⟨HI, HT, HO⟩, ⟨⟨HR0, HR1⟩, ⟨HS0, HS1⟩, ⟨HU0, HU1⟩, H3, H4, H5, H6, Hs0, Hs1, Hs2, Hs3⟩, HW⟩
  iapply (wp_seq (wp_pre qi qt ids T hids O W)) $$ [HI HT HR0 HS0 HS1 H3 H5 H6 HW]
  · isplitl [HI]; · iexact HI
    isplitl [HT]; · iexact HT
    isplitl [HR0]; · iexact HR0
    isplitl [HS0]; · iexact HS0
    isplitl [HS1]; · iexact HS1
    isplitl [H3]; · iexact H3
    isplitl [H5]; · iexact H5
    isplitl [H6]; · iexact H6
    iexact HW
  iintro %_ ⟨HT, HR0, HS0, HF, H3, H5, HW⟩
  iapply (wp_seq hloop) $$ [HT HR0 HR1 HS0 HF HU0 HO H4 H5 Hs0 HW H3 Hs1 HU1]
  · unfold Inv Pre
    isplitl [HT HR0 HR1 HS0 HF HU0 HO H4 H5 Hs0 HW]
    · isplitl [HT]; · iexact HT
      isplitl [HR0]; · iexact HR0
      isplitl [HR1]; · iexact HR1
      isplitl [HS0]; · iexact HS0
      isplitl [HF]; · iexact HF
      isplitl [HU0]; · iexact HU0
      isplitl [HO]; · iexact HO
      isplitl [H4]; · iexact H4
      isplitl [H5]; · iexact H5
      isplitl [Hs0]; · iexact Hs0
      iexact HW
    isplitl [H3]; · iexact H3
    isplitl [Hs1]; · iexact Hs1
    iexact HU1
  iintro %_ H
  have hp := wp_post (d := d) (L := L) qi qt ids T hids O W
  unfold Own at hp
  iapply hp
  isplitl [H]; · iexact H
  isplitl [Hs2]; · iexact Hs2
  iexact Hs3

end

end Cert.KernelIdeal.Bag

end
-- ==== Proof.ShapeEq.lean ====
/- The printed program of a vector subcore is the one of `Shape`: its windows of statements are put end to end,
   and the loops over a bag's rows are `addRows` at the bag's buffer and number. -/
module

public import proofs.«01_k».proof.Proof.Shape

@[expose] public section

noncomputable section

namespace Cert.KernelIdeal.Bag

open Idealize.ShloMosaic Idealize.SL.Sem
open Cert.KernelIdeal.Gen

variable {F : FTy → Type} [FloatOps F] [Named F]

set_option maxRecDepth 65536 in
set_option maxHeartbeats 4000000 in
theorem trip_eq (i : grid0.Coords) (arg2 : Memref sig .scVector .hbm S16384x50 .i32) (harg2 : arg2.IsWhole) (arg3 : Memref sig .scVector .hbm S100000x128 .f32) (harg3 : arg3.IsWhole) (arg4 : Memref sig .scVector .hbm S16384x128 .f32) (harg4 : arg4.IsWhole) (arg5 : Memref sig .scVector .vmem S2x8x50 .i32) (harg5 : arg5.IsWhole) (arg6 : Memref sig .scVector .vmem S2x8x50x128 .f32) (harg6 : arg6.IsWhole) (arg7 : Memref sig .scVector .vmem S2x8x128 .f32) (harg7 : arg7.IsWhole) (arg8 : DmaSems sig S_) (arg9 : DmaSems sig S_) (arg10 : DmaSems sig S_) (arg11 : DmaSems sig S_) (v2509_r0 : DmaSems sig S_) (v2509_r1 : DmaSems sig S_) (v1250_r2 : DmaSems sig S_) (v1250_r3 : DmaSems sig S_) (v2 : BitVec 32) :
    k0_t1_body (F := F) i arg2 harg2 arg3 harg3 arg4 harg4 arg5 harg5 arg6 harg6 arg7 harg7 arg8 arg9 arg10 arg11 v2509_r0 v2509_r1 v1250_r2 v1250_r3 v2
      = fun k _ => tripP arg2 arg3 arg4 arg5 arg6 arg7 arg8 arg9 arg10 arg11 v2509_r0 v2509_r1 i k := by
  funext k _
  simp only [k0_t1_body, k0_part170_eq_skeleton, k0_part170_skel,
    k0_part129_eq_skeleton, k0_part129_skel,
    k0_part130_eq_skeleton, k0_part130_skel,
    k0_part131_eq_skeleton, k0_part131_skel,
    k0_part132_eq_skeleton, k0_part132_skel,
    k0_part133_eq_skeleton, k0_part133_skel,
    k0_part134_eq_skeleton, k0_part134_skel,
    k0_part135_eq_skeleton, k0_part135_skel,
    k0_part136_eq_skeleton, k0_part136_skel,
    k0_part137_eq_skeleton, k0_part137_skel,
    k0_part138_eq_skeleton, k0_part138_skel,
    k0_part139_eq_skeleton, k0_part139_skel,
    k0_part140_eq_skeleton, k0_part140_skel,
    k0_part141_eq_skeleton, k0_part141_skel,
    k0_part142_eq_skeleton, k0_part142_skel,
    k0_part143_eq_skeleton, k0_part143_skel,
    k0_part144_eq_skeleton, k0_part144_skel,
    k0_part145_eq_skeleton, k0_part145_skel,
    k0_part146_eq_skeleton, k0_part146_skel,
    k0_part147_eq_skeleton, k0_part147_skel,
    k0_part148_eq_skeleton, k0_part148_skel,
    k0_part149_eq_skeleton, k0_part149_skel,
    k0_part150_eq_skeleton, k0_part150_skel,
    k0_part151_eq_skeleton, k0_part151_skel,
    k0_part152_eq_skeleton, k0_part152_skel,
    k0_part153_eq_skeleton, k0_part153_skel,
    k0_part154_eq_skeleton, k0_part154_skel,
    k0_part155_eq_skeleton, k0_part155_skel,
    k0_part156_eq_skeleton, k0_part156_skel,
    k0_part157_eq_skeleton, k0_part157_skel,
    k0_part158_eq_skeleton, k0_part158_skel,
    k0_part159_eq_skeleton, k0_part159_skel,
    k0_part160_eq_skeleton, k0_part160_skel,
    k0_part161_eq_skeleton, k0_part161_skel,
    k0_part162_eq_skeleton, k0_part162_skel,
    k0_part163_eq_skeleton, k0_part163_skel,
    k0_part164_eq_skeleton, k0_part164_skel,
    k0_part165_eq_skeleton, k0_part165_skel,
    k0_part166_eq_skeleton, k0_part166_skel,
    k0_part167_eq_skeleton, k0_part167_skel,
    k0_part168_eq_skeleton, k0_part168_skel,
    k0_part169_eq_skeleton, k0_part169_skel,
    tripP, idsStart, idsWait, fireChunk, landChunk, meanChunk, meanRow, writeChunk, putLane, bind_assoc, pure_bind]
  rfl

set_option maxRecDepth 65536 in
set_option maxHeartbeats 4000000 in
theorem kern_eq (i : grid0.Coords) (arg2 : Memref sig .scVector .hbm S16384x50 .i32) (harg2 : arg2.IsWhole) (arg3 : Memref sig .scVector .hbm S100000x128 .f32) (harg3 : arg3.IsWhole) (arg4 : Memref sig .scVector .hbm S16384x128 .f32) (harg4 : arg4.IsWhole) (arg5 : Memref sig .scVector .vmem S2x8x50 .i32) (harg5 : arg5.IsWhole) (arg6 : Memref sig .scVector .vmem S2x8x50x128 .f32) (harg6 : arg6.IsWhole) (arg7 : Memref sig .scVector .vmem S2x8x128 .f32) (harg7 : arg7.IsWhole) (arg8 : DmaSems sig S_) (arg9 : DmaSems sig S_) (arg10 : DmaSems sig S_) (arg11 : DmaSems sig S_) (v2509_r0 : DmaSems sig S_) (v2509_r1 : DmaSems sig S_) (v1250_r2 : DmaSems sig S_) (v1250_r3 : DmaSems sig S_) :
    cc0_kern (F := F) i arg2 harg2 arg3 harg3 arg4 harg4 arg5 harg5 arg6 harg6 arg7 harg7 arg8 arg9 arg10 arg11 v2509_r0 v2509_r1 v1250_r2 v1250_r3
      = kernP arg2 arg3 arg4 arg5 arg6 arg7 arg8 arg9 arg10 arg11 v2509_r0 v2509_r1 v1250_r2 v1250_r3 i := by
  simp only [trip_eq, cc0_kern_eq_skeleton, cc0_kern_skel, k0_part340_eq_skeleton, k0_part340_skel,
    k0_part299_eq_skeleton, k0_part299_skel,
    k0_part300_eq_skeleton, k0_part300_skel,
    k0_part301_eq_skeleton, k0_part301_skel,
    k0_part302_eq_skeleton, k0_part302_skel,
    k0_part303_eq_skeleton, k0_part303_skel,
    k0_part304_eq_skeleton, k0_part304_skel,
    k0_part305_eq_skeleton, k0_part305_skel,
    k0_part306_eq_skeleton, k0_part306_skel,
    k0_part307_eq_skeleton, k0_part307_skel,
    k0_part308_eq_skeleton, k0_part308_skel,
    k0_part309_eq_skeleton, k0_part309_skel,
    k0_part310_eq_skeleton, k0_part310_skel,
    k0_part311_eq_skeleton, k0_part311_skel,
    k0_part312_eq_skeleton, k0_part312_skel,
    k0_part313_eq_skeleton, k0_part313_skel,
    k0_part314_eq_skeleton, k0_part314_skel,
    k0_part315_eq_skeleton, k0_part315_skel,
    k0_part316_eq_skeleton, k0_part316_skel,
    k0_part317_eq_skeleton, k0_part317_skel,
    k0_part318_eq_skeleton, k0_part318_skel,
    k0_part319_eq_skeleton, k0_part319_skel,
    k0_part320_eq_skeleton, k0_part320_skel,
    k0_part321_eq_skeleton, k0_part321_skel,
    k0_part322_eq_skeleton, k0_part322_skel,
    k0_part323_eq_skeleton, k0_part323_skel,
    k0_part324_eq_skeleton, k0_part324_skel,
    k0_part325_eq_skeleton, k0_part325_skel,
    k0_part326_eq_skeleton, k0_part326_skel,
    k0_part327_eq_skeleton, k0_part327_skel,
    k0_part328_eq_skeleton, k0_part328_skel,
    k0_part329_eq_skeleton, k0_part329_skel,
    k0_part330_eq_skeleton, k0_part330_skel,
    k0_part331_eq_skeleton, k0_part331_skel,
    k0_part332_eq_skeleton, k0_part332_skel,
    k0_part333_eq_skeleton, k0_part333_skel,
    k0_part334_eq_skeleton, k0_part334_skel,
    k0_part335_eq_skeleton, k0_part335_skel,
    k0_part336_eq_skeleton, k0_part336_skel,
    k0_part337_eq_skeleton, k0_part337_skel,
    k0_part338_eq_skeleton, k0_part338_skel,
    k0_part339_eq_skeleton, k0_part339_skel,
    kernP, preP, postP, idsStart, idsWait, fireChunk, landChunk, meanChunk, meanRow, writeChunk, putLane, bind_assoc, pure_bind]
  rfl

end Cert.KernelIdeal.Bag

end
-- ==== Proof.Task.lean ====
/- A vector subcore's task, from the memory and the semaphores the launch hands it to what it hands back. -/
module

public import proofs.«01_k».proof.Proof.Tile
public import proofs.«01_k».proof.Proof.ShapeEq

@[expose] public section

noncomputable section

namespace Cert.KernelIdeal.Bag

open Cert.KernelIdeal Cert.KernelIdeal.Gen
open Idealize.ShloMosaic Idealize.ShloMosaic.ValueIdx
open Idealize.ShloMosaic.SparseCore (S V T)
open Idealize.ShloMosaic.SparseCore.Cfg (HIx Pay ownSems0 ownBufs ownCells ownRefs)
open Idealize.SL Idealize.SL.RA Idealize.SL.BI
open scoped Idealize.SL.BI
open Idealize.SL.BI.BIBase Idealize.SL.BI.Laws Idealize.SL.ProofMode Idealize.SL.Sem

variable {F : FTy → Type}

/-! ## A buffer in two halves -/

theorem halves {ℓ : Loc nD τ sig} {I J : Finset (Idx ℓ)} (hd : Disjoint I J) (hc : I ∪ J = Finset.univ) :
    (iprop(∃ f : Buf (Elt F) ℓ, ℓ ↦{fullShare} f) : sProp (MM F)) ⊢ iprop((∃ f : Buf (Elt F) ℓ, ℓ ↦[I]{fullShare} f) ∗ ∃ f : Buf (Elt F) ℓ, ℓ ↦[J]{fullShare} f) := by
  iintro ⟨%f, H⟩
  rw [← hc]
  ihave H := (show (ℓ ↦[I ∪ J]{fullShare} f : sProp (MM F)) ⊢ _ from (pointsTo_union hd).1) $$ H
  icases H with ⟨H1, H2⟩
  isplitl [H1]
  · iexists f; iexact H1
  · iexists f; iexact H2

theorem whole_of_halves {ℓ : Loc nD τ sig} {I J : Finset (Idx ℓ)} (hd : Disjoint I J) (hc : I ∪ J = Finset.univ) :
    iprop((∃ f : Buf (Elt F) ℓ, ℓ ↦[I]{fullShare} f) ∗ ∃ f : Buf (Elt F) ℓ, ℓ ↦[J]{fullShare} f) ⊢ (iprop(∃ f : Buf (Elt F) ℓ, ℓ ↦{fullShare} f) : sProp (MM F)) := by
  iintro ⟨⟨%f, H1⟩, %g, H2⟩
  iexists J.piecewise g f
  rw [← hc]
  iapply (pointsTo_join hd)
  isplitl [H1]; · iexact H1
  iexact H2

theorem halfR_disj : Disjoint (halfR 0) (halfR 1) := Finset.disjoint_filter.mpr fun x _ h h' => by rw [h] at h'; exact absurd h' (by decide)
theorem halfS_disj : Disjoint (halfS 0) (halfS 1) := Finset.disjoint_filter.mpr fun x _ h h' => by rw [h] at h'; exact absurd h' (by decide)
theorem halfU_disj : Disjoint (halfU 0) (halfU 1) := Finset.disjoint_filter.mpr fun x _ h h' => by rw [h] at h'; exact absurd h' (by decide)
theorem fin2_val (i : ℕ) (h : i < 2) : i = (0 : Fin 2).val ∨ i = (1 : Fin 2).val := by
  show i = 0 ∨ i = 1; omega
theorem halfR_cover : halfR 0 ∪ halfR 1 = Finset.univ := by
  ext x; simp only [halfR, Finset.mem_union, Finset.mem_filter, Finset.mem_univ, true_and, iff_true]; exact fin2_val _ (x 0).isLt
theorem halfS_cover : halfS 0 ∪ halfS 1 = Finset.univ := by
  ext x; simp only [halfS, Finset.mem_union, Finset.mem_filter, Finset.mem_univ, true_and, iff_true]; exact fin2_val _ (x 0).isLt
theorem halfU_cover : halfU 0 ∪ halfU 1 = Finset.univ := by
  ext x; simp only [halfU, Finset.mem_union, Finset.mem_filter, Finset.mem_univ, true_and, iff_true]; exact fin2_val _ (x 0).isLt

/-! ## What is the subcore's own -/

section

variable (d : Dev nD) (L : grid0.Coords)

/-- The semaphores the task uses. -/
def taskSems : Finset (SemLoc sig) :=
  {.dma cc0_scratch3.sem, .dma cc0_scratch4.sem, .dma cc0_scratch5.sem, .dma cc0_scratch6.sem, .dma cc0_scoped0.sem, .dma cc0_scoped1.sem, .dma cc0_scoped2.sem, .dma cc0_scoped3.sem}

def allSems : Finset (SemLoc sig) := Finset.univ.filter fun sm : SemLoc sig => sm.isScoped .scVector

theorem taskSems_sub : taskSems ⊆ allSems := fun sm h =>
  Finset.mem_filter.mpr ⟨Finset.mem_univ _, (by decide : ∀ sm ∈ taskSems, sm.isScoped .scVector = true) sm h⟩

/-- The semaphores it does not. -/
def restSems : sProp (MM F) := bigSep (allSems \ taskSems) fun sm => semVal ((thr d L, sm) : GSem nD τ sig) 0

theorem sems_V :
    (ownSems0 (thr d L) : sProp (MM F)) = iprop((Z d L cc0_scratch3 ∗ Z d L cc0_scratch4 ∗ Z d L cc0_scratch5 ∗ Z d L cc0_scratch6
      ∗ Z d L cc0_scoped0 ∗ Z d L cc0_scoped1 ∗ Z d L cc0_scoped2 ∗ Z d L cc0_scoped3) ∗ restSems d L) := by
  rw [SparseCore.Cfg.ownSems0_eq]
  refine (SparseCore.bigSep_sdiff_split' taskSems_sub).trans ?_
  unfold restSems
  congr 1
  unfold taskSems Z
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

abbrev refOf (b : Ref sig .scVector) : DevRef τ sig := (Proc.scVector (cV L) (jV L)).devRef b

/-- The buffers the task does not use. -/
def restBufs : sProp (MM F) :=
  bigSep ((((ownRefs (τ := τ) (.scVector (cV L) (jV L))).erase (refOf L cc0_scratch0)).erase (refOf L cc0_scratch1)).erase (refOf L cc0_scratch2))
    fun b => iprop(∃ f, ((d, b) : Loc nD τ sig) ↦{fullShare} f)

theorem bufs_V :
    (ownBufs (thr d L) : sProp (MM F)) = iprop((∃ f, sLoc d L ↦{fullShare} f) ∗ (∃ f, rLoc d L ↦{fullShare} f) ∗ (∃ f, uLoc d L ↦{fullShare} f) ∗ restBufs d L) := by
  unfold SparseCore.Cfg.ownBufs restBufs
  have mem : ∀ b : Ref sig .scVector, (refOf L b).owner = .proc (.scVector (cV L) (jV L)) → refOf L b ∈ ownRefs (τ := τ) (.scVector (cV L) (jV L)) :=
    fun b h => SparseCore.Cfg.mem_ownRefs_of_owner h
  have ne : ∀ b b' : Ref sig .scVector, b ≠ b' → refOf L b ≠ refOf L b' := fun b b' h e => h (Proc.devRef_injective _ e)
  refine (SparseCore.bigSep_erase' (mem cc0_scratch0 rfl)).trans ?_
  rw [SparseCore.bigSep_erase' (Finset.mem_erase.mpr ⟨ne cc0_scratch1 cc0_scratch0 (by decide), mem cc0_scratch1 rfl⟩),
    SparseCore.bigSep_erase' (Finset.mem_erase.mpr ⟨ne cc0_scratch2 cc0_scratch1 (by decide), Finset.mem_erase.mpr ⟨ne cc0_scratch2 cc0_scratch0 (by decide), mem cc0_scratch2 rfl⟩⟩)]

theorem own_split : iprop(ownBufs (thr d L) ∗ ownSems0 (thr d L)) ⊢ iprop(Own (F := F) d L ∗ restBufs d L ∗ restSems d L) := by
  rw [bufs_V, sems_V]; unfold Own RA SA UA RH SH UH'
  iintro ⟨⟨Hs, Hr, Hu, Hb⟩, ⟨HZ, Hz⟩⟩
  ihave Hs := (halves (F := F) (ℓ := sLoc d L) halfS_disj halfS_cover) $$ Hs
  ihave Hr := (halves (F := F) (ℓ := rLoc d L) halfR_disj halfR_cover) $$ Hr
  ihave Hu := (halves (F := F) (ℓ := uLoc d L) halfU_disj halfU_cover) $$ Hu
  isplitl [Hs Hr Hu HZ]
  · isplitl [Hr]; · iexact Hr
    isplitl [Hs]; · iexact Hs
    isplitl [Hu]; · iexact Hu
    iexact HZ
  isplitl [Hb]; · iexact Hb
  iexact Hz

theorem own_join : iprop(Own (F := F) d L ∗ restBufs d L ∗ restSems d L) ⊢ iprop(ownBufs (thr d L) ∗ ownSems0 (thr d L)) := by
  rw [bufs_V, sems_V]; unfold Own RA SA UA RH SH UH'
  iintro ⟨⟨Hr, Hs, Hu, HZ⟩, Hb, Hz⟩
  ihave Hs := (whole_of_halves (F := F) (ℓ := sLoc d L) halfS_disj halfS_cover) $$ Hs
  ihave Hr := (whole_of_halves (F := F) (ℓ := rLoc d L) halfR_disj halfR_cover) $$ Hr
  ihave Hu := (whole_of_halves (F := F) (ℓ := uLoc d L) halfU_disj halfU_cover) $$ Hu
  isplitl [Hs Hr Hu Hb]
  · isplitl [Hs]; · iexact Hs
    isplitl [Hr]; · iexact Hr
    isplitl [Hu]; · iexact Hu
    iexact Hb
  isplitl [HZ]; · iexact HZ
  iexact Hz

/-- The subcore's rows of the result. -/
def OR (g : S16384x128.Idx → F .f32) : sProp (MM F) := oLoc d L ↦[rowsO L]{fullShare} g

theorem ON_start (f g : S16384x128.Idx → F .f32) : OR d L f ⊢ ON d L g 0 := by
  unfold OR ON
  iintro H
  iexists f
  isplitr
  · ipureintro; intro x hx hlt
    exact absurd (Finset.mem_filter.mp hx).2.1 (not_le.mpr hlt)
  · iexact H

theorem ON_done (g : S16384x128.Idx → F .f32) : ON d L g 64 ⊢ OR d L g := by
  unfold OR ON
  iintro ⟨%f, %h, H⟩
  iapply (show (oLoc d L ↦[rowsO L]{fullShare} f : sProp (MM F)) ⊢ oLoc d L ↦[rowsO L]{fullShare} g from
    (by rw [pointsTo_congr (fun x hx => h x hx (Finset.mem_filter.mp hx).2.2)]))
  iexact H

end

/-! ## The task -/

section

variable [FloatOps F] [Named F] (d : Dev nD) (L : grid0.Coords)
variable (qi qt : PosShare TreeShare) (ids : S16384x50.Idx → BitVec 32) (T : S100000x128.Idx → F .f32)

theorem wp_task (hids : ∀ x, (ids x).toNat < 100000) (o : S16384x128.Idx → F .f32) (O : CellTallies nD τ sig (HIx 1)) (W : Waits sig (HIx 1)) (hO : ∀ g, O g none = 0) :
    iprop(levAts (K (F := F)).L (K (F := F)).lev ∗ emp ∗ (IW d L qi ids ∗ TW d L qt T ∗ OR d L o)
        ∗ scopedBufs (thr d L) ∗ scopedSems0 (thr d L) ∗ owes (thr d L) O W)
      ⊢ WP d L (cc0_kern (F := F) L iV (Memref.isWhole_whole _) tV (Memref.isWhole_whole _) oV (Memref.isWhole_whole _) sV (Memref.isWhole_whole _)
          rV (Memref.isWhole_whole _) uV (Memref.isWhole_whole _) cc0_scratch3 cc0_scratch4 cc0_scratch5 cc0_scratch6 cc0_scoped0 cc0_scoped1 cc0_scoped2 cc0_scoped3)
          fun _ => iprop((IW d L qi ids ∗ TW d L qt T ∗ OR d L (pooled ids T)) ∗ scopedBufs (thr d L) ∗ scopedSems0 (thr d L)
            ∗ ∃ W', ⌜∀ p ∈ W', p ∈ W ∨ p.2 = none⌝ ∗ owes (thr d L) O W') := by
  rw [kern_eq, (K (F := F)).scopedBufs_V facts d (cV L) (jV L), SparseCore.Cfg.scopedSems0_V (Val := Elt F) d (cV L) (jV L)]
  iintro ⟨#Hlv, -, ⟨HI, HT, HO⟩, Hbufs, Hsems, Hw⟩
  ihave Hmw := (show levAts (K (F := F)).L (K (F := F)).lev ⊢ Transfers.MayWaits (thr d L) (default : HIx 1) O from
    (K (F := F)).mayWaits_none (thr := thr d L) hO) $$ Hlv
  ihave Hown := (own_split d L) $$ [Hbufs Hsems]
  · isplitl [Hbufs]; · iexact Hbufs
    iexact Hsems
  icases Hown with ⟨Hown, Hrb, Hrs⟩
  ihave HO := (ON_start d L o (pooled ids T)) $$ HO
  iapply (wp_wand' (wp_kernP (d := d) (L := L) qi qt ids T hids O W)) $$ [HI HT HO Hown Hmw Hw]
  · isplitl [HI HT HO]
    · isplitl [HI]; · iexact HI
      isplitl [HT]; · iexact HT
      iexact HO
    isplitl [Hown]; · iexact Hown
    unfold OW
    isplitl [Hmw]; · iexact Hmw
    iexists W
    isplitr
    · ipureintro; exact fun p hp => .inl hp
    · iexact Hw
  iintro %_ ⟨⟨HI, HT, HO⟩, Hown, HW⟩
  ihave HO := (ON_done d L (pooled ids T)) $$ HO
  ihave Hb := (own_join d L) $$ [Hown Hrb Hrs]
  · isplitl [Hown]; · iexact Hown
    isplitl [Hrb]; · iexact Hrb
    iexact Hrs
  icases Hb with ⟨Hb, Hs⟩
  isplitl [HI HT HO]
  · isplitl [HI]; · iexact HI
    isplitl [HT]; · iexact HT
    iexact HO
  isplitl [Hb]; · iexact Hb
  isplitl [Hs]; · iexact Hs
  unfold OW
  icases HW with ⟨-, HW⟩
  iexact HW

end

end Cert.KernelIdeal.Bag

end
-- ==== Proof.Deal.lean ====
/- What the call hands its two cores and their sixteen subcores each, and what they hand back. -/
module

public import proofs.«01_k».proof.Proof.Task

@[expose] public section

noncomputable section

namespace Cert.KernelIdeal.Bag

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

abbrev iL (d : Dev nD) : Loc nD τ sig := (SparseCore.T d).loc main_arg0
abbrev tL (d : Dev nD) : Loc nD τ sig := (SparseCore.T d).loc main_arg1
abbrev oL (d : Dev nD) : Loc nD τ sig := (SparseCore.T d).loc main_v0

theorem nCore_pos : 0 < (K (F := F)).nCore 0 := (by decide : 0 < 2)
theorem nSub_pos : 0 < (K (F := F)).nSub 0 := (by decide : 0 < 16)

def coordsV (c : Fin (grid0.bound 0)) (s : Fin (grid0.bound 1)) : grid0.Coords :=
  fun | 0 => c | 1 => s | ⟨_ + 2, h⟩ => absurd h (Nat.not_lt.2 (Nat.le_add_left _ _))

/-- The coordinates of core `c`'s subcore `i`. -/
abbrev Lc (c : Fin ((K (F := F)).nCore 0)) (i : Fin ((K (F := F)).nSub 0)) : grid0.Coords :=
  coordsV ⟨((K (F := F)).core 0 c).val, c.isLt⟩ ⟨((K (F := F)).sub 0 i).val, i.isLt⟩

/-- A core's share of what all read, and a subcore's share of it. -/
abbrev qC (c : Fin ((K (F := F)).nCore 0)) : PosShare TreeShare := Idealize.ShloMosaic.pieceOf fullShare _ (nCore_pos (F := F)) c
abbrev qS (c : Fin ((K (F := F)).nCore 0)) (i : Fin ((K (F := F)).nSub 0)) : PosShare TreeShare := Idealize.ShloMosaic.pieceOf (qC c) _ (nSub_pos (F := F)) i

/-! ## The rows -/

theorem mem_rowsO {c : Fin ((K (F := F)).nCore 0)} {i : Fin ((K (F := F)).nSub 0)} {x : S16384x128.Idx} :
    x ∈ rowsO (Lc c i) ↔ 8192 * c.val + 512 * i.val ≤ (x 0).val ∧ (x 0).val < 8192 * c.val + 512 * i.val + 512 := by
  show x ∈ Finset.univ.filter _ ↔ _
  rw [Finset.mem_filter]
  exact and_iff_right (Finset.mem_univ _)

theorem core_lt (c : Fin ((K (F := F)).nCore 0)) : c.val < 2 := c.isLt
theorem sub_lt (i : Fin ((K (F := F)).nSub 0)) : i.val < 16 := i.isLt

theorem rowsO_disjoint (c : Fin ((K (F := F)).nCore 0)) :
    ∀ i ∈ (Finset.univ : Finset (Fin ((K (F := F)).nSub 0))), ∀ j ∈ (Finset.univ : Finset (Fin ((K (F := F)).nSub 0))), i ≠ j → Disjoint (rowsO (Lc c i)) (rowsO (Lc c j)) :=
  fun i _ j _ h => Finset.disjoint_left.mpr fun x hi hj => h (Fin.ext (by
    rw [mem_rowsO] at hi hj; omega))

/-- A core's rows of the result. -/
def rowsC (c : Fin ((K (F := F)).nCore 0)) : Finset S16384x128.Idx := Finset.univ.biUnion fun i => rowsO (Lc c i)

theorem mem_rowsC {c : Fin ((K (F := F)).nCore 0)} {x : S16384x128.Idx} :
    x ∈ rowsC c ↔ 8192 * c.val ≤ (x 0).val ∧ (x 0).val < 8192 * c.val + 8192 := by
  unfold rowsC
  simp only [Finset.mem_biUnion, Finset.mem_univ, true_and, mem_rowsO]
  constructor
  · rintro ⟨i, h⟩; have := sub_lt (F := F) i; omega
  · intro h
    refine ⟨(⟨((x 0).val - 8192 * c.val) / 512, show _ < 16 by omega⟩ : Fin ((K (F := F)).nSub 0)), ?_⟩
    show 8192 * c.val + 512 * (((x 0).val - 8192 * c.val) / 512) ≤ _ ∧ _ < 8192 * c.val + 512 * (((x 0).val - 8192 * c.val) / 512) + 512
    omega

theorem rowsC_disjoint :
    ∀ c ∈ (Finset.univ : Finset (Fin ((K (F := F)).nCore 0))), ∀ c' ∈ (Finset.univ : Finset (Fin ((K (F := F)).nCore 0))), c ≠ c' → Disjoint (rowsC c) (rowsC c') :=
  fun i _ j _ h => Finset.disjoint_left.mpr fun x hi hj => h (Fin.ext (by
    rw [mem_rowsC] at hi hj; omega))

theorem rowsC_cover : (Finset.univ : Finset (Fin ((K (F := F)).nCore 0))).biUnion rowsC = Finset.univ := by
  ext x
  simp only [Finset.mem_biUnion, Finset.mem_univ, true_and, iff_true, mem_rowsC]
  have hx : (x 0).val < 16384 := (x 0).isLt
  refine ⟨(⟨(x 0).val / 8192, show _ < 2 by omega⟩ : Fin ((K (F := F)).nCore 0)), ?_⟩
  show 8192 * ((x 0).val / 8192) ≤ _ ∧ _ < 8192 * ((x 0).val / 8192) + 8192
  omega

/-! ## What is handed out -/

variable (m : (ℓ : Loc nD τ sig) → Buf (Elt F) ℓ)

/-- Every index of the bags is a row of the table. -/
def InVocab : Prop := ∀ (d : Dev nD) (x : S16384x50.Idx), (m (iL d) x).toNat < 100000

section

variable [FloatOps F] [Named F]

/-- The table's rows meant over each bag: what the call computes. -/
def bags (d : Dev nD) : S16384x128.Idx → F .f32 := pooled (m (iL d)) (m (tL d))

/-- A core's share of the indices and of the table, and its rows of the result, at `f`. -/
def CoreHas (d : Dev nD) (c : Fin ((K (F := F)).nCore 0)) (f : S16384x128.Idx → F .f32) : sProp (MM F) :=
  iprop((iL d ↦{qC c} m (iL d)) ∗ (tL d ↦{qC c} m (tL d)) ∗ oL d ↦[rowsC c]{fullShare} f)

/-- A subcore's. -/
def TileHas (d : Dev nD) (c : Fin ((K (F := F)).nCore 0)) (i : Fin ((K (F := F)).nSub 0)) (f : S16384x128.Idx → F .f32) : sProp (MM F) :=
  iprop((iL d ↦{qS c i} m (iL d)) ∗ (tL d ↦{qS c i} m (tL d)) ∗ oL d ↦[rowsO (Lc c i)]{fullShare} f)

def P : (K (F := F)).Pay (nD := nD) (Val := Elt F) (Name := ℕ) (U := UU) where
  st := fun q d c => match q with | 0 => CoreHas m d c (m (oL d))
  dn := fun q d c => match q with | 0 => CoreHas m d c (bags m d)
  go := fun q d c i => match q with | 0 => TileHas m d c i (m (oL d))
  td := fun q d c i => match q with | 0 => TileHas m d c i (bags m d)
  x := fun _ _ => iprop(emp)

instance CoreHas_storable (d : Dev nD) (c : Fin ((K (F := F)).nCore 0)) (f : S16384x128.Idx → F .f32) :
    BI.Storable (upEmb : UEmb _ (MM F)) (CoreHas m d c f) := by unfold CoreHas; infer_instance
instance TileHas_storable (d : Dev nD) (c : Fin ((K (F := F)).nCore 0)) (i : Fin ((K (F := F)).nSub 0)) (f : S16384x128.Idx → F .f32) :
    BI.Storable (upEmb : UEmb _ (MM F)) (TileHas m d c i f) := by unfold TileHas; infer_instance

instance P_storable : (P m).IsStorable where
  st q d c := match q with | 0 => CoreHas_storable m d c _
  dn q d c := match q with | 0 => CoreHas_storable m d c _
  go q d c i := match q with | 0 => TileHas_storable m d c i _
  td q d c i := match q with | 0 => TileHas_storable m d c i _

/-! ## The rows and the shares, dealt and gathered -/

theorem core_tiles (d : Dev nD) (c : Fin ((K (F := F)).nCore 0)) (f : S16384x128.Idx → F .f32) :
    CoreHas m d c f = bigSep Finset.univ fun i => TileHas m d c i f := by
  unfold CoreHas TileHas
  rw [bigSep_sep', bigSep_sep',
    ← pointsTo_piecesOf (Ix := HIx 1) (Name := ℕ) (U := UU) (Lvl := ℕ) (Val := Elt F) (ℓ := iL d) Finset.univ (m (iL d)) (nSub_pos (F := F)) (qC c),
    ← pointsTo_piecesOf (Ix := HIx 1) (Name := ℕ) (U := UU) (Lvl := ℕ) (Val := Elt F) (ℓ := tL d) Finset.univ (m (tL d)) (nSub_pos (F := F)) (qC c),
    ← pointsTo_biUnion Finset.univ (ℓ := oL d) (fun i => rowsO (Lc c i)) (rowsO_disjoint c)]
  rfl

theorem call_cores (d : Dev nD) (f : S16384x128.Idx → F .f32) :
    (iprop((iL d ↦{fullShare} m (iL d)) ∗ (tL d ↦{fullShare} m (tL d)) ∗ oL d ↦{fullShare} f) : sProp (MM F)) = bigSep Finset.univ fun c => CoreHas m d c f := by
  unfold CoreHas
  rw [bigSep_sep', bigSep_sep',
    ← pointsTo_piecesOf (Ix := HIx 1) (Name := ℕ) (U := UU) (Lvl := ℕ) (Val := Elt F) (ℓ := iL d) Finset.univ (m (iL d)) (nCore_pos (F := F)) fullShare,
    ← pointsTo_piecesOf (Ix := HIx 1) (Name := ℕ) (U := UU) (Lvl := ℕ) (Val := Elt F) (ℓ := tL d) Finset.univ (m (tL d)) (nCore_pos (F := F)) fullShare,
    ← pointsTo_biUnion Finset.univ (ℓ := oL d) rowsC rowsC_disjoint, rowsC_cover]

theorem st0_eq (d : Dev nD) : (bigSep Finset.univ fun c : Fin ((K (F := F)).nCore 0) => (P m).st 0 d c)
    = iprop((iL d ↦{fullShare} m (iL d)) ∗ (tL d ↦{fullShare} m (tL d)) ∗ oL d ↦{fullShare} m (oL d)) := (call_cores m d _).symm
theorem dn0_eq (d : Dev nD) : (bigSep Finset.univ fun c : Fin ((K (F := F)).nCore 0) => (P m).dn 0 d c)
    = iprop((iL d ↦{fullShare} m (iL d)) ∗ (tL d ↦{fullShare} m (tL d)) ∗ oL d ↦{fullShare} bags m d) := (call_cores m d _).symm

theorem vecSplit : (K (F := F)).VecSplit' (P m) 0 := by
  intro d c
  show CoreHas m d c (m (oL d)) ⊢ |={Set.univ}=> iprop((bigSep Finset.univ fun i => TileHas m d c i (m (oL d)))
      ∗ ((bigSep Finset.univ fun i => TileHas m d c i (bags m d)) -∗ CoreHas m d c (bags m d)))
  rw [core_tiles, core_tiles]
  iintro H; imodintro
  isplitl [H]; · iexact H
  iintro H; iexact H

/-! ## The task's obligation -/

theorem defs₀_vector (c : Fin τ.nSC) (s : Fin τ.nSub) :
    defs₀ (F := F) (.scVector c s) 0 ()
      = SparseCore.onTile hcore0 hsub0 (fun c s => cc0_kern (coordsV c s)
          iV (Memref.isWhole_whole _) tV (Memref.isWhole_whole _) oV (Memref.isWhole_whole _) sV (Memref.isWhole_whole _)
          rV (Memref.isWhole_whole _) uV (Memref.isWhole_whole _) cc0_scratch3 cc0_scratch4 cc0_scratch5 cc0_scratch6 cc0_scoped0 cc0_scoped1 cc0_scoped2 cc0_scoped3) ⟨⟩ c s := rfl

theorem obl_post {t : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hv : InVocab m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K).core 0 c) ((K).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (wp_task d (Lc c i) (qS c i) (qS c i) (m (iL d)) (m (tL d)) (hv d) (m (oL d)) O W hO).trans (wp_mono frame _ _ fun _ => obl_post)

end

end Cert.KernelIdeal.Bag

end
-- ==== Proof.Mlp.lean ====
/- The four layers on a block of rows: what the blocks' kernel computes, and that it does. -/
module

public import proofs.«01_k».proof.Proof.Setup
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value

@[expose] public section

noncomputable section

namespace Cert.KernelIdeal.Bag

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

/-! ## A whole block loaded, a whole block stored -/

section

variable [FloatOps F] [Named F] (d : Dev nD) {s : Shape} {e : EltTy}

/-- The weakest precondition of a block's kernel. -/
abbrev WT {α : Type} (x : Prog (TpuEff nD τ sig (Elt F) Λ₀ .tc) α) (Q : α → sProp (MM F)) : sProp (MM F) :=
  wp frame (wpE (defs₀ (F := F)) 𝒱₀ (d : Thread nD τ) none) Set.univ x Q

/-- A block's buffer, held at `X`. -/
abbrev OB (M : Memref sig .tc .vmem s e) (X : s.Idx → Elt F e) : sProp (MM F) := owns (d : Thread nD τ) M fullShare X

theorem load_block {α : Type} {M : Memref sig .tc .vmem s e} {X : s.Idx → Elt F e} {off : Fin s.rank → ℕ} (hz : off = fun _ => 0) {h : ∀ a, off a + s.size a ≤ s.size a}
    {ha : M.view.LoadsAt (Rect.unit off s.size h).toLoadRect} {k : (s.Idx → Elt F e) → Prog (TpuEff nD τ sig (Elt F) Λ₀ .tc) α} {Q : α → sProp (MM F)} :
    OB d M X ⊢ iprop((OB d M X -∗ WT d (k X) Q) -∗ WT d (Prog.lift (.load M (Rect.unit off s.size h).toLoadRect ha) >>= k) Q) := by
  unfold OB owns
  iintro ⟨%f, %hf, H⟩ Hk
  have hr : M.view.readAt (Elt F) (Rect.unit off s.size h).toLoadRect f = X := by
    rw [View.readAt_eq_ld, hf, View.ld_unit_zero hz]
  iapply (wp_load 𝒱₀ (d : Thread nD τ) none Set.univ (m := M) (r := (Rect.unit off s.size h).toLoadRect) (hl := ha)
    (k := k) (q := fullShare) (f := f) (S := M.view.set) (View.setOn_subset_set _ _)) $$ H
  rw [hr]
  iintro H
  iapply Hk
  iexists f
  isplitr; · ipureintro; exact hf
  iexact H

theorem store_block [∀ e, Nonempty (Elt F e)] {α : Type} {M : Memref sig .tc .vmem s e} {X w : s.Idx → Elt F e} {off : Fin s.rank → ℕ} (hz : off = fun _ => 0) {h : ∀ a, off a + s.size a ≤ s.size a}
    {hx : (M.access (Rect.unit off s.size h)).Stores Finset.univ} {hm : Finset.univ = Finset.univ ∨ ∀ a, (Rect.unit off s.size h).stride a = 1}
    {k : PUnit → Prog (TpuEff nD τ sig (Elt F) Λ₀ .tc) α} {Q : α → sProp (MM F)} :
    OB d M X ⊢ iprop((OB d M w -∗ WT d (k ⟨⟩) Q) -∗ WT d (Prog.lift (.store M (Rect.unit off s.size h) w Finset.univ hx hm) >>= k) Q) := by
  unfold OB owns
  iintro ⟨%f, %hf, H⟩ Hk
  iapply (wp_store 𝒱₀ (d : Thread nD τ) none Set.univ (m := M) (r := Rect.unit off s.size h) (w := w) (Mk := Finset.univ) (hx := hx) (hm := hm)
    (k := k) (f := f) (S := M.view.set) (by
      show ((M.view.slice (Rect.unit off s.size h)).setOn Finset.univ) ⊆ _
      rw [View.setOn_univ, View.set_slice]; exact View.setOn_subset_set _ _)) $$ H
  iintro H
  iapply Hk
  iexists _
  isplitr
  swap; · iexact H
  ipureintro
  show M.view.read (Elt F) (M.view.writes (Elt F) f [⟨Rect.unit off s.size h, w⟩]) = w
  rw [View.read_writes_eq_canon _ _ _ (fun y => ⟨_, List.mem_singleton_self _, View.mem_set_unit_zero hz h y⟩), View.canon_unit_zero hz]

end

/-! ## The layers -/

section

variable [FloatOps F] [Named F]

/-- A layer of 128 features on a block, cut off below at zero. -/
def hidden (x : FVec F S2048x128 .f32) (w : FVec F S128x128 .f32) (b : FVec F S1x128 .f32) : FVec F S2048x128 .f32 :=
  maximumf (addf (matmul dot_S2048x128_S128x128_S2048x128_1_0_0_1_n_n (some .fp32) x w (constant S2048x128 .f32 0x00000000#32))
    (broadcastTo S2048x128 (shapeCast S1x128 b shapeCasts_S1x128_S1x128) broadcasts_S1x128_S2048x128)) (broadcast S2048x128 (Scalar.ofBits .f32 0x00000000#32))

/-- The layer of 32 features. -/
def narrow (x : FVec F S2048x128 .f32) (w : FVec F S128x32 .f32) (b : FVec F S1x32 .f32) : FVec F S2048x32 .f32 :=
  maximumf (addf (matmul dot_S2048x128_S128x32_S2048x32_1_0_0_1_n_n (some .fp32) x w (constant S2048x32 .f32 0x00000000#32))
    (broadcastTo S2048x32 (shapeCast S1x32 b shapeCasts_S1x32_S1x32) broadcasts_S1x32_S2048x32)) (broadcast S2048x32 (Scalar.ofBits .f32 0x00000000#32))

/-- The last layer: the two classes' numbers. -/
def classes (x : FVec F S2048x32 .f32) (w : FVec F S32x2 .f32) (b : FVec F S1x2 .f32) : FVec F S2048x2 .f32 :=
  addf (matmul dot_S2048x32_S32x2_S2048x2_1_0_0_1_n_n (some .fp32) x w (constant S2048x2 .f32 0x00000000#32))
    (broadcastTo S2048x2 (shapeCast S1x2 b shapeCasts_S1x2_S1x2) broadcasts_S1x2_S2048x2)

/-- The four layers on a block. -/
def layers (x : FVec F S2048x128 .f32) (w1 : FVec F S128x128 .f32) (b1 : FVec F S1x128 .f32) (w2 : FVec F S128x128 .f32) (b2 : FVec F S1x128 .f32)
    (w3 : FVec F S128x32 .f32) (b3 : FVec F S1x32 .f32) (w4 : FVec F S32x2 .f32) (b4 : FVec F S1x2 .f32) : FVec F S2048x2 .f32 :=
  classes (narrow (hidden (hidden (shapeCast S2048x128 x shapeCasts_S2048x128_S2048x128) w1 b1) w2 b2) w3 b3) w4 b4

theorem offs_zero : (![0, 0] : Fin 2 → ℕ) = fun _ => 0 := funext fun a => by fin_cases a <;> rfl

section

variable (d : Dev nD) (i : grid1.Coords)
  (m1 : Memref sig .tc .vmem S2048x128 .f32) (h1 : m1.IsWhole) (m2 : Memref sig .tc .vmem S128x128 .f32) (h2 : m2.IsWhole) (m3 : Memref sig .tc .vmem S1x128 .f32) (h3 : m3.IsWhole)
  (m4 : Memref sig .tc .vmem S128x128 .f32) (h4 : m4.IsWhole) (m5 : Memref sig .tc .vmem S1x128 .f32) (h5 : m5.IsWhole) (m6 : Memref sig .tc .vmem S128x32 .f32) (h6 : m6.IsWhole)
  (m7 : Memref sig .tc .vmem S1x32 .f32) (h7 : m7.IsWhole) (m8 : Memref sig .tc .vmem S32x2 .f32) (h8 : m8.IsWhole) (m9 : Memref sig .tc .vmem S1x2 .f32) (h9 : m9.IsWhole)
  (m10 : Memref sig .tc .vmem S2048x2 .f32) (h10 : m10.IsWhole)
  (x : FVec F S2048x128 .f32) (w1 : FVec F S128x128 .f32) (b1 : FVec F S1x128 .f32) (w2 : FVec F S128x128 .f32) (b2 : FVec F S1x128 .f32)
  (w3 : FVec F S128x32 .f32) (b3 : FVec F S1x32 .f32) (w4 : FVec F S32x2 .f32) (b4 : FVec F S1x2 .f32)

/-- The nine inputs' blocks. -/
abbrev Ins : sProp (MM F) :=
  iprop(OB d m1 x ∗ OB d m2 w1 ∗ OB d m3 b1 ∗ OB d m4 w2 ∗ OB d m5 b2 ∗ OB d m6 w3 ∗ OB d m7 b3 ∗ OB d m8 w4 ∗ OB d m9 b4)

theorem wp_layers : Ins d m1 m2 m3 m4 m5 m6 m7 m8 m9 x w1 b1 w2 b2 w3 b3 w4 b4
    ⊢ WT d (k1_part1 (F := F) i m1 h1 m2 h2 m3 h3 m4 h4 m5 h5 m6 h6 m7 h7 m8 h8 m9 h9 m10 h10) fun v =>
        iprop(⌜v = layers x w1 b1 w2 b2 w3 b3 w4 b4⌝ ∗ Ins d m1 m2 m3 m4 m5 m6 m7 m8 m9 x w1 b1 w2 b2 w3 b3 w4 b4) := by
  unfold k1_part1
  dsimp only
  iintro ⟨H1, H2, H3, H4, H5, H6, H7, H8, H9⟩
  iapply (load_block d offs_zero) $$ H1
  iintro H1
  iapply (load_block d offs_zero) $$ H2
  iintro H2
  iapply (load_block d offs_zero) $$ H3
  iintro H3
  iapply (load_block d offs_zero) $$ H4
  iintro H4
  iapply (load_block d offs_zero) $$ H5
  iintro H5
  iapply (load_block d offs_zero) $$ H6
  iintro H6
  iapply (load_block d offs_zero) $$ H7
  iintro H7
  iapply (load_block d offs_zero) $$ H8
  iintro H8
  iapply (load_block d offs_zero) $$ H9
  iintro H9
  iapply (le_wp_ret _ _ _ _ _)
  isplitr; · ipureintro; rfl
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem wp_mlp [∀ e, Nonempty (Elt F e)] (y : FVec F S2048x2 .f32) : iprop(Ins d m1 m2 m3 m4 m5 m6 m7 m8 m9 x w1 b1 w2 b2 w3 b3 w4 b4 ∗ OB d m10 y)
    ⊢ WT d (cc1__mlp_body (F := F) i m1 h1 m2 h2 m3 h3 m4 h4 m5 h5 m6 h6 m7 h7 m8 h8 m9 h9 m10 h10) fun _ =>
        iprop(Ins d m1 m2 m3 m4 m5 m6 m7 m8 m9 x w1 b1 w2 b2 w3 b3 w4 b4 ∗ OB d m10 (layers x w1 b1 w2 b2 w3 b3 w4 b4)) := by
  unfold cc1__mlp_body WT
  rw [wp_bind]
  refine ((sep_mono_left (wp_layers d i m1 h1 m2 h2 m3 h3 m4 h4 m5 h5 m6 h6 m7 h7 m8 h8 m9 h9 m10 h10 x w1 b1 w2 b2 w3 b3 w4 b4)).trans (wp_frame_r _ _ _)).trans (wp_mono frame _ _ fun v => ?_)
  iintro ⟨⟨%hv, HI⟩, HO⟩
  subst hv
  iapply (load_block d offs_zero) $$ HO
  iintro HO
  iapply (store_block d offs_zero) $$ HO
  iintro HO
  iapply (le_wp_ret _ _ _ _ _)
  isplitl [HI]; · iexact HI
  iexact HO

end

end

end Cert.KernelIdeal.Bag

end
-- ==== Proof.Region.lean ====
/- The blocks' pipeline: eight blocks of rows through the four layers, and the array it leaves. -/
module

public import proofs.«01_k».proof.Proof.Mlp
public import Idealize.ShloMosaic.Lib.Pipeline.RegionsLoop

@[expose] public section

noncomputable section

namespace Cert.KernelIdeal.Bag

open Cert.KernelIdeal Cert.KernelIdeal.Gen
open Idealize.ShloMosaic Idealize.ShloMosaic.TcCoe Idealize.ShloMosaic.ValueIdx
open Idealize.ShloMosaic.SparseCore.Cfg (HIx Pay)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## The blocks and the arrays -/

/-- Block `b` of 2048 rows of an array of 16384. -/
def blockRows (b : ℕ) (X : FVec F S16384x128 .f32) : FVec F S2048x128 .f32 := fun j => X (ix2 (Fin.ofNat 16384 (b * 2048 + (j 0).val)) (j 1))

/-- The result's array: every block of rows through the layers. -/
def layersAll (x : FVec F S16384x128 .f32) (w1 : FVec F S128x128 .f32) (b1 : FVec F S1x128 .f32) (w2 : FVec F S128x128 .f32) (b2 : FVec F S1x128 .f32)
    (w3 : FVec F S128x32 .f32) (b3 : FVec F S1x32 .f32) (w4 : FVec F S32x2 .f32) (b4 : FVec F S1x2 .f32) : FVec F S16384x2 .f32 :=
  fun i => layers (blockRows ((i 0).val / 2048) x) w1 b1 w2 b2 w3 b3 w4 b4 (ix2 (Fin.ofNat 2048 (i 0).val) (i 1))

theorem at_block0 : ∀ t : Fin cfg1.N, win1_0.index t (0 : Fin 2) = t.val ∧ win1_0.index t (1 : Fin 2) = 0 := (by decide +kernel : ∀ t : Fin grid1.N, _)
theorem at_block9 : ∀ t : Fin cfg1.N, win1_9.index t (0 : Fin 2) = t.val ∧ win1_9.index t (1 : Fin 2) = 0 := (by decide +kernel : ∀ t : Fin grid1.N, _)
theorem at_block1 : ∀ t : Fin cfg1.N, win1_1.index t (0 : Fin 2) = 0 ∧ win1_1.index t (1 : Fin 2) = 0 := (by decide +kernel : ∀ t : Fin grid1.N, _)
theorem at_block2 : ∀ t : Fin cfg1.N, win1_2.index t (0 : Fin 2) = 0 ∧ win1_2.index t (1 : Fin 2) = 0 := (by decide +kernel : ∀ t : Fin grid1.N, _)
theorem at_block3 : ∀ t : Fin cfg1.N, win1_3.index t (0 : Fin 2) = 0 ∧ win1_3.index t (1 : Fin 2) = 0 := (by decide +kernel : ∀ t : Fin grid1.N, _)
theorem at_block4 : ∀ t : Fin cfg1.N, win1_4.index t (0 : Fin 2) = 0 ∧ win1_4.index t (1 : Fin 2) = 0 := (by decide +kernel : ∀ t : Fin grid1.N, _)
theorem at_block5 : ∀ t : Fin cfg1.N, win1_5.index t (0 : Fin 2) = 0 ∧ win1_5.index t (1 : Fin 2) = 0 := (by decide +kernel : ∀ t : Fin grid1.N, _)
theorem at_block6 : ∀ t : Fin cfg1.N, win1_6.index t (0 : Fin 2) = 0 ∧ win1_6.index t (1 : Fin 2) = 0 := (by decide +kernel : ∀ t : Fin grid1.N, _)
theorem at_block7 : ∀ t : Fin cfg1.N, win1_7.index t (0 : Fin 2) = 0 ∧ win1_7.index t (1 : Fin 2) = 0 := (by decide +kernel : ∀ t : Fin grid1.N, _)
theorem at_block8 : ∀ t : Fin cfg1.N, win1_8.index t (0 : Fin 2) = 0 ∧ win1_8.index t (1 : Fin 2) = 0 := (by decide +kernel : ∀ t : Fin grid1.N, _)

theorem points_eight (t : Fin cfg1.N) : t.val < 8 := t.isLt

/-- Row `j` of a block is row `2048 t + j` of its array. -/
theorem emb_rows (t : Fin cfg1.N) (j : S2048x128.Idx) : ((cfg1.win 0).blk t).view.emb j = (ix2 (Fin.ofNat 16384 (t.val * 2048 + (j 0).val)) (j 1) : S16384x128.Idx) := by
  obtain ⟨e0, e1⟩ := at_block0 t
  have ht := points_eight t
  have hj : (j 0).val < 2048 := (j 0).isLt
  funext a; apply Fin.ext
  match a with
  | ⟨0, _⟩ =>
    show win1_0.index t (0 : Fin 2) * 2048 + 1 * (j 0).val = (t.val * 2048 + (j 0).val) % 16384
    rw [e0, Nat.mod_eq_of_lt (by omega)]; omega
  | ⟨1, _⟩ => show win1_0.index t (1 : Fin 2) * 128 + 1 * (j 1).val = (j 1).val; omega

theorem emb_out (t : Fin cfg1.N) (j : S2048x2.Idx) : ((cfg1.win 9).blk t).view.emb j = (ix2 (Fin.ofNat 16384 (t.val * 2048 + (j 0).val)) (j 1) : S16384x2.Idx) := by
  obtain ⟨e0, e1⟩ := at_block9 t
  have ht := points_eight t
  have hj : (j 0).val < 2048 := (j 0).isLt
  funext a; apply Fin.ext
  match a with
  | ⟨0, _⟩ =>
    show win1_9.index t (0 : Fin 2) * 2048 + 1 * (j 0).val = (t.val * 2048 + (j 0).val) % 16384
    rw [e0, Nat.mod_eq_of_lt (by omega)]; omega
  | ⟨1, _⟩ => show win1_9.index t (1 : Fin 2) * 2 + 1 * (j 1).val = (j 1).val; omega

/-! ## The proof data, at the arrays' contents when the pipeline is entered -/

variable (V : (d : Dev nD) → (b : Ref sig .tc) → Buf (Elt F) ((d : Thread nD τ).loc b))

/-- An input's block at a point, as its fetch stages it. -/
abbrev blockIn (d : Dev nD) (w : Fin 10) (t : Fin cfg1.N) : ((cfg1.win w).xblock (cfg1.grid.coords t)).Idx → Elt F (cfg1.win w).elt :=
  ((cfg1.win w).blk t).view.read (Elt F) (V d (Pipeline.arrRef spec1 w))

/-- What a point leaves in the result's buffer. -/
abbrev result (d : Dev nD) (t : Fin cfg1.N) : FVec F S2048x2 .f32 :=
  layers (blockIn V d 0 t) (blockIn V d 1 t) (blockIn V d 2 t) (blockIn V d 3 t) (blockIn V d 4 t) (blockIn V d 5 t) (blockIn V d 6 t) (blockIn V d 7 t) (blockIn V d 8 t)

/-- The pairs a wait may have recorded before the pipeline: those no later than the first call. -/
def early (d : Dev nD) : Set (SemLoc sig × HIx 1) := {p | (K (F := F)).lev (SparseCore.T d, p.1) p.2 ≤ 8}

def dat (d : Dev nD) : Dat τ (Elt F) (HIx 1) ℕ UU ℕ cfg1 d where
  A w := V d (Pipeline.arrRef spec1 w)
  after w t := match w with
    | ⟨0, _⟩ => blockIn V d 0 t
    | ⟨1, _⟩ => blockIn V d 1 t
    | ⟨2, _⟩ => blockIn V d 2 t
    | ⟨3, _⟩ => blockIn V d 3 t
    | ⟨4, _⟩ => blockIn V d 4 t
    | ⟨5, _⟩ => blockIn V d 5 t
    | ⟨6, _⟩ => blockIn V d 6 t
    | ⟨7, _⟩ => blockIn V d 7 t
    | ⟨8, _⟩ => blockIn V d 8 t
    | ⟨9, _⟩ => result V d t
  Φ _ := Pipeline.scopedRest (Ix := HIx 1) (Name := ℕ) (U := UU) (Lvl := ℕ) (Val := Elt F) spec1 d
  q _ := fullShare
  owed _ := 0
  recorded _ := early (F := F) d

abbrev adm : (p : Fin 1) → (pcfgs (F := F) p).Adm := fun p => (cfgs p).toPCfg_adm

abbrev pdats : (p : Fin 1) → (d : Dev nD) → Dat τ (Elt F) (HIx 1) ℕ UU ℕ (Pipeline.pin (pcfgs (F := F)) adm p) d
  | ⟨0, _⟩ => fun d => dat V d

/-- Before a point's body runs, an input's buffer holds its block: an input is fetched when its block changes and kept otherwise. -/
theorem before_block (d : Dev nD) (t : Fin cfg1.N) :
    (∀ x, (dat V d).before 0 t x = blockIn V d 0 t) ∧ (∀ x, (dat V d).before 1 t x = blockIn V d 1 t) ∧ (∀ x, (dat V d).before 2 t x = blockIn V d 2 t)
    ∧ (∀ x, (dat V d).before 3 t x = blockIn V d 3 t) ∧ (∀ x, (dat V d).before 4 t x = blockIn V d 4 t) ∧ (∀ x, (dat V d).before 5 t x = blockIn V d 5 t)
    ∧ (∀ x, (dat V d).before 6 t x = blockIn V d 6 t) ∧ (∀ x, (dat V d).before 7 t x = blockIn V d 7 t) ∧ ∀ x, (dat V d).before 8 t x = blockIn V d 8 t :=
  ⟨fun x => ((dat V d).before_in_eq_fetched 0 rfl (fun _ => rfl) (fun _ _ _ => rfl) (fun _ => rfl) t x).trans rfl,
    fun x => ((dat V d).before_in_eq_fetched 1 rfl (fun _ => rfl) (fun _ _ _ => rfl) (fun _ => rfl) t x).trans rfl,
    fun x => ((dat V d).before_in_eq_fetched 2 rfl (fun _ => rfl) (fun _ _ _ => rfl) (fun _ => rfl) t x).trans rfl,
    fun x => ((dat V d).before_in_eq_fetched 3 rfl (fun _ => rfl) (fun _ _ _ => rfl) (fun _ => rfl) t x).trans rfl,
    fun x => ((dat V d).before_in_eq_fetched 4 rfl (fun _ => rfl) (fun _ _ _ => rfl) (fun _ => rfl) t x).trans rfl,
    fun x => ((dat V d).before_in_eq_fetched 5 rfl (fun _ => rfl) (fun _ _ _ => rfl) (fun _ => rfl) t x).trans rfl,
    fun x => ((dat V d).before_in_eq_fetched 6 rfl (fun _ => rfl) (fun _ _ _ => rfl) (fun _ => rfl) t x).trans rfl,
    fun x => ((dat V d).before_in_eq_fetched 7 rfl (fun _ => rfl) (fun _ _ _ => rfl) (fun _ => rfl) t x).trans rfl,
    fun x => ((dat V d).before_in_eq_fetched 8 rfl (fun _ => rfl) (fun _ _ _ => rfl) (fun _ => rfl) t x).trans rfl⟩

/-- The body at every point: from the blocks staged to the same blocks and the result's. -/
theorem body_obligation [∀ e, Nonempty (Elt F e)] (d : Dev nD) : BodyObligation (dat V d) (defs₀ (F := F)) 𝒱₀ none Set.univ := fun t => by
  rw [bigSep_W1, bigSep_W1]
  obtain ⟨e0, e1, e2, e3, e4, e5, e6, e7, e8⟩ := before_block V d t
  simp only [e0, e1, e2, e3, e4, e5, e6, e7, e8]
  have hrun := fun y : FVec F S2048x2 .f32 => wp_mlp d (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (win1_3.stage (cfg1.slots t 3)) (hstage1_3 ((cfg1.slots t 3).cast nbuf1_3)) (win1_4.stage (cfg1.slots t 4)) (hstage1_4 ((cfg1.slots t 4).cast nbuf1_4))
    (win1_5.stage (cfg1.slots t 5)) (hstage1_5 ((cfg1.slots t 5).cast nbuf1_5)) (win1_6.stage (cfg1.slots t 6)) (hstage1_6 ((cfg1.slots t 6).cast nbuf1_6))
    (win1_7.stage (cfg1.slots t 7)) (hstage1_7 ((cfg1.slots t 7).cast nbuf1_7)) (win1_8.stage (cfg1.slots t 8)) (hstage1_8 ((cfg1.slots t 8).cast nbuf1_8))
    (win1_9.stage (cfg1.slots t 9)) (hstage1_9 ((cfg1.slots t 9).cast nbuf1_9))
    (blockIn V d 0 t) (blockIn V d 1 t) (blockIn V d 2 t) (blockIn V d 3 t) (blockIn V d 4 t) (blockIn V d 5 t) (blockIn V d 6 t) (blockIn V d 7 t) (blockIn V d 8 t) y
  have hbeside := fun y => (sep_mono_left (Q := iprop((dat V d).Φ t.castSucc ∗ (dat V d).owesAt none t.castSucc)) (hrun y)).trans (wp_frame_r _ _ _)
  show _ ⊢ WT d (bodyAt1 t) fun _ => iprop((dat V d).Φ t.castSucc ∗ (dat V d).owesAt none t.castSucc
    ∗ OB d (st1_0 t) (blockIn V d 0 t) ∗ OB d (st1_1 t) (blockIn V d 1 t) ∗ OB d (st1_2 t) (blockIn V d 2 t) ∗ OB d (st1_3 t) (blockIn V d 3 t)
    ∗ OB d (st1_4 t) (blockIn V d 4 t) ∗ OB d (st1_5 t) (blockIn V d 5 t) ∗ OB d (st1_6 t) (blockIn V d 6 t) ∗ OB d (st1_7 t) (blockIn V d 7 t)
    ∗ OB d (st1_8 t) (blockIn V d 8 t) ∗ OB d (st1_9 t) (result V d t))
  iintro ⟨HΦ, HO, ⟨%x0, H0⟩, ⟨%x1, H1⟩, ⟨%x2, H2⟩, ⟨%x3, H3⟩, ⟨%x4, H4⟩, ⟨%x5, H5⟩, ⟨%x6, H6⟩, ⟨%x7, H7⟩, ⟨%x8, H8⟩, ⟨%x9, H9⟩⟩
  iapply ((hbeside ((dat V d).before 9 t x9)).trans (wp_mono frame _ _ fun _ => ?_)) $$ [HΦ HO H0 H1 H2 H3 H4 H5 H6 H7 H8 H9]
  · iintro ⟨⟨⟨H0, H1, H2, H3, H4, H5, H6, H7, H8⟩, H9⟩, HΦ, HO⟩
    isplitl [HΦ]; · iexact HΦ
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitr [HΦ HO]
  · isplitr [H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iexact H9
  isplitl [HΦ]; · iexact HΦ
  iexact HO

/-! ## The array it leaves -/

/-- An input's block is a block of rows of the pooled rows, or the whole of a layer's parameters. -/
theorem blockIn0 (d : Dev nD) (t : Fin cfg1.N) : blockIn V d 0 t = blockRows t.val (V d main_v0) := by
  funext j; show V d main_v0 (((cfg1.win 0).blk t).view.emb j) = _; rw [emb_rows]; rfl

theorem blockIn_whole (d : Dev nD) (t : Fin cfg1.N) :
    blockIn V d 1 t = V d main_arg2 ∧ blockIn V d 2 t = V d main_v1 ∧ blockIn V d 3 t = V d main_arg4 ∧ blockIn V d 4 t = V d main_v2
    ∧ blockIn V d 5 t = V d main_arg6 ∧ blockIn V d 6 t = V d main_v3 ∧ blockIn V d 7 t = V d main_arg8 ∧ blockIn V d 8 t = V d main_v4 := by
  obtain ⟨a1, b1⟩ := at_block1 t
  obtain ⟨a2, b2⟩ := at_block2 t
  obtain ⟨a3, b3⟩ := at_block3 t
  obtain ⟨a4, b4⟩ := at_block4 t
  obtain ⟨a5, b5⟩ := at_block5 t
  obtain ⟨a6, b6⟩ := at_block6 t
  obtain ⟨a7, b7⟩ := at_block7 t
  obtain ⟨a8, b8⟩ := at_block8 t
  refine ⟨?_, ?_, ?_, ?_, ?_, ?_, ?_, ?_⟩
  · funext j
    refine congrArg (V d main_arg2) (funext fun a => Fin.ext ?_)
    match a with
    | ⟨0, _⟩ => show win1_1.index t (0 : Fin 2) * 128 + 1 * (j 0).val = (j 0).val; omega
    | ⟨1, _⟩ => show win1_1.index t (1 : Fin 2) * 128 + 1 * (j 1).val = (j 1).val; omega
  · funext j
    refine congrArg (V d main_v1) (funext fun a => Fin.ext ?_)
    match a with
    | ⟨0, _⟩ => show win1_2.index t (0 : Fin 2) * 1 + 1 * (j 0).val = (j 0).val; omega
    | ⟨1, _⟩ => show win1_2.index t (1 : Fin 2) * 128 + 1 * (j 1).val = (j 1).val; omega
  · funext j
    refine congrArg (V d main_arg4) (funext fun a => Fin.ext ?_)
    match a with
    | ⟨0, _⟩ => show win1_3.index t (0 : Fin 2) * 128 + 1 * (j 0).val = (j 0).val; omega
    | ⟨1, _⟩ => show win1_3.index t (1 : Fin 2) * 128 + 1 * (j 1).val = (j 1).val; omega
  · funext j
    refine congrArg (V d main_v2) (funext fun a => Fin.ext ?_)
    match a with
    | ⟨0, _⟩ => show win1_4.index t (0 : Fin 2) * 1 + 1 * (j 0).val = (j 0).val; omega
    | ⟨1, _⟩ => show win1_4.index t (1 : Fin 2) * 128 + 1 * (j 1).val = (j 1).val; omega
  · funext j
    refine congrArg (V d main_arg6) (funext fun a => Fin.ext ?_)
    match a with
    | ⟨0, _⟩ => show win1_5.index t (0 : Fin 2) * 128 + 1 * (j 0).val = (j 0).val; omega
    | ⟨1, _⟩ => show win1_5.index t (1 : Fin 2) * 32 + 1 * (j 1).val = (j 1).val; omega
  · funext j
    refine congrArg (V d main_v3) (funext fun a => Fin.ext ?_)
    match a with
    | ⟨0, _⟩ => show win1_6.index t (0 : Fin 2) * 1 + 1 * (j 0).val = (j 0).val; omega
    | ⟨1, _⟩ => show win1_6.index t (1 : Fin 2) * 32 + 1 * (j 1).val = (j 1).val; omega
  · funext j
    refine congrArg (V d main_arg8) (funext fun a => Fin.ext ?_)
    match a with
    | ⟨0, _⟩ => show win1_7.index t (0 : Fin 2) * 32 + 1 * (j 0).val = (j 0).val; omega
    | ⟨1, _⟩ => show win1_7.index t (1 : Fin 2) * 2 + 1 * (j 1).val = (j 1).val; omega
  · funext j
    refine congrArg (V d main_v4) (funext fun a => Fin.ext ?_)
    match a with
    | ⟨0, _⟩ => show win1_8.index t (0 : Fin 2) * 1 + 1 * (j 0).val = (j 0).val; omega
    | ⟨1, _⟩ => show win1_8.index t (1 : Fin 2) * 2 + 1 * (j 1).val = (j 1).val; omega

/-- The array left by the pipeline. -/
abbrev scores (d : Dev nD) : FVec F S16384x2 .f32 :=
  layersAll (V d main_v0) (V d main_arg2) (V d main_v1) (V d main_arg4) (V d main_v2) (V d main_arg6) (V d main_v3) (V d main_arg8) (V d main_v4)

theorem result_eq (d : Dev nD) (t : Fin cfg1.N) :
    result V d t = layers (blockRows t.val (V d main_v0)) (V d main_arg2) (V d main_v1) (V d main_arg4) (V d main_v2) (V d main_arg6) (V d main_v3) (V d main_arg8) (V d main_v4) := by
  obtain ⟨e1, e2, e3, e4, e5, e6, e7, e8⟩ := blockIn_whole V d t
  unfold result
  rw [blockIn0, e1, e2, e3, e4, e5, e6, e7, e8]

theorem flushed_eq (d : Dev nD) (t : Fin cfg1.N) : (dat V d).flushed 9 t = ((cfg1.win 9).blk t).view.read (Elt F) (scores V d) := by
  have ht := points_eight t
  show (fun j : S2048x2.Idx => result V d t j) = fun j => scores V d (((cfg1.win 9).blk t).view.emb j)
  funext j
  have hj : (j 0).val < 2048 := (j 0).isLt
  rw [emb_out, result_eq]
  have hr : (Fin.ofNat 16384 (t.val * 2048 + (j 0).val)).val = t.val * 2048 + (j 0).val := Nat.mod_eq_of_lt (by omega)
  show layers _ _ _ _ _ _ _ _ _ j
    = layers (blockRows ((Fin.ofNat 16384 (t.val * 2048 + (j 0).val)).val / 2048) (V d main_v0)) _ _ _ _ _ _ _ _ (ix2 (Fin.ofNat 2048 (Fin.ofNat 16384 (t.val * 2048 + (j 0).val)).val) (j 1))
  rw [hr, show (t.val * 2048 + (j 0).val) / 2048 = t.val by omega]
  refine congrArg _ (funext fun a => Fin.ext ?_)
  match a with
  | ⟨0, _⟩ => show (j 0).val = (t.val * 2048 + (j 0).val) % 2048; omega
  | ⟨1, _⟩ => rfl

/-- Every row of the result is in one of the blocks. -/
theorem covered (i : S16384x2.Idx) : ∃ t : Fin cfg1.N, (cfg1.win 9).flush t = true ∧ i ∈ ((cfg1.win 9).blk t).view.set := by
  have hi : (i 0).val < 16384 := (i 0).isLt
  have ht : (i 0).val / 2048 < cfg1.N := show (i 0).val / 2048 < 8 by omega
  refine ⟨⟨(i 0).val / 2048, ht⟩, flush1_9 _, ?_⟩
  have h := ((cfg1.win 9).blk (⟨(i 0).val / 2048, ht⟩ : Fin cfg1.N)).view.emb_mem_set (ix2 (Fin.ofNat 2048 (i 0).val) (i 1) : S2048x2.Idx)
  rw [emb_out] at h
  refine cast (congrArg (· ∈ _) (funext fun a => Fin.ext ?_)) h
  match a with
  | ⟨0, _⟩ =>
    show ((i 0).val / 2048 * 2048 + (i 0).val % 2048) % 16384 = (i 0).val
    omega
  | ⟨1, _⟩ => rfl

theorem final (d : Dev nD) : (dat V d).arrAt 9 cfg1.N = scores V d :=
  (dat V d).arrAt_eq_of_cover 9 (scores V d) (fun t _ => flushed_eq V d t) covered

/-! ## The pipeline entered from the launch's buffers and left to them -/

/-- The core owing nothing, every pair it has recorded no later than the first call. -/
abbrev calm (d : Dev nD) : sProp (MM F) :=
  iprop(∃ W, ⌜(K (F := F)).WBelow (SparseCore.T d) W 8⌝ ∗ owes (d : Thread nD τ) (0 : CellTallies nD τ sig (HIx 1)) W)

theorem early_of_wait (d : Dev nD) (p : SemLoc sig × HIx 1) (hp : p ∈ early (F := F) d ∪ cfg1.waitPairs none) : (K (F := F)).lev (SparseCore.T d, p.1) p.2 ≤ 8 := by
  rcases hp with h | ⟨w, s, h⟩
  · exact h
  · subst h; exact Nat.zero_le 8

set_option backward.isDefEq.respectTransparency.types false in
/-- The pipeline over the launch's buffers at `V`, left at `V'`: the result's array at the four layers' scores, every other buffer as it was. -/
def reg [∀ e, Nonempty (Elt F e)] (V' : (d : Dev nD) → (b : Ref sig .tc) → Buf (Elt F) ((d : Thread nD τ).loc b)) (hout : ∀ d, V' d main_v5 = scores V d)
    (hother : ∀ d (b : Ref sig .tc), b ≠ main_v5 → V' d b = V d b) :
    Pipeline.RegionSeg (pcfgs (F := F)) adm (pdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody d := (body_obligation V d).loose
  hwaits := Pipeline.hwaits_of_owed_zero _ _ _ _ (K (F := F)).L (K (F := F)).lev 0 fun _ _ => rfl
  pre d := iprop(unscopedBufs d (V d) ∗ calm d)
  post d := iprop(unscopedBufs d (V' d) ∗ calm d)
  X _ := BI.emp
  Y _ := BI.emp
  Z d := Pipeline.unscopedRest (Ix := HIx 1) (Name := ℕ) (U := UU) (Lvl := ℕ) spec1 d (V d)
  hentry d := by
    rw [Pipeline.ownSems0_none]
    have hsplit := Pipeline.arrays_of_unscopedBufs (p := 0) (pcfgs (F := F)) adm (pdats V) launch1.win launch1.arr_whole d
      ((pdats V 0 d).share_full fun _ => rfl) (V d) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin d := by
    rw [show (pdats V 0 d).Φ 0 = Pipeline.scopedRest (Ix := HIx 1) (Name := ℕ) (U := UU) (Lvl := ℕ) (Val := Elt F) spec1 d from rfl]
    iintro ⟨-, -, Hr⟩; iexact Hr
  hout d := by
    rw [Pipeline.ownSems0_none, show (pdats V 0 d).Φ (Fin.last _) = Pipeline.scopedRest (Ix := HIx 1) (Name := ℕ) (U := UU) (Lvl := ℕ) (Val := Elt F) spec1 d from rfl]
    iintro Hr
    isplitr; · iempintro
    isplitr; · iempintro
    iexact Hr
  hexit d := by
    have hjoin := Pipeline.unscopedBufs_of_arrays (p := 0) (pcfgs (F := F)) adm (Ix := HIx 1) (Name := ℕ) (U := UU) (Lvl := ℕ) launch1.win launch1.arr_whole d
      (pdats V) ((pdats V 0 d).share_full fun _ => rfl) (V d) (V' d) ((pdats V 0 d).arrAt · cfg1.N)
      (fun w => by
        match w with
        | ⟨0, _⟩ => exact ((pdats V 0 d).arrAt_in 0 rfl _).trans (hother d main_v0 (by decide)).symm
        | ⟨1, _⟩ => exact ((pdats V 0 d).arrAt_in 1 rfl _).trans (hother d main_arg2 (by decide)).symm
        | ⟨2, _⟩ => exact ((pdats V 0 d).arrAt_in 2 rfl _).trans (hother d main_v1 (by decide)).symm
        | ⟨3, _⟩ => exact ((pdats V 0 d).arrAt_in 3 rfl _).trans (hother d main_arg4 (by decide)).symm
        | ⟨4, _⟩ => exact ((pdats V 0 d).arrAt_in 4 rfl _).trans (hother d main_v2 (by decide)).symm
        | ⟨5, _⟩ => exact ((pdats V 0 d).arrAt_in 5 rfl _).trans (hother d main_arg6 (by decide)).symm
        | ⟨6, _⟩ => exact ((pdats V 0 d).arrAt_in 6 rfl _).trans (hother d main_v3 (by decide)).symm
        | ⟨7, _⟩ => exact ((pdats V 0 d).arrAt_in 7 rfl _).trans (hother d main_arg8 (by decide)).symm
        | ⟨8, _⟩ => exact ((pdats V 0 d).arrAt_in 8 rfl _).trans (hother d main_v4 (by decide)).symm
        | ⟨9, _⟩ => exact (final V d).trans (hout d).symm)
      (fun b hb => hother d b fun h => hb (h ▸ Finset.mem_image.mpr ⟨9, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr; · ipureintro; exact fun p hp => early_of_wait d p (hW hp)
    iexact HO

end Cert.KernelIdeal.Bag

end
-- ==== Proof.Launch.lean ====
/- The whole program's run: the bags pooled by the SparseCores, then the four layers on the pooled rows. -/
module

public import proofs.«01_k».proof.Proof.Deal
public import proofs.«01_k».proof.Proof.Region

@[expose] public section

noncomputable section

namespace Cert.KernelIdeal.Bag

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The buffers, from the launch to the end -/

variable (m : (ℓ : Loc nD τ sig) → Buf (Elt F) ℓ) (ρ : Dev nD → PrngReg)

/-- A buffer of the TensorCore's as a device's reference. -/
abbrev at_ (b : Ref sig .tc) : DevRef τ sig := Proc.devRef .tc b

/-- The four biases as rows of one. -/
abbrev bias1 : HloOp τ sig (Elt F) := StableHlo.reshape main_arg3 main_v1 (rfl : (.f32 : EltTy) = .f32) shapeCasts_S128_S1x128
abbrev bias2 : HloOp τ sig (Elt F) := StableHlo.reshape main_arg5 main_v2 (rfl : (.f32 : EltTy) = .f32) shapeCasts_S128_S1x128
abbrev bias3 : HloOp τ sig (Elt F) := StableHlo.reshape main_arg7 main_v3 (rfl : (.f32 : EltTy) = .f32) shapeCasts_S32_S1x32
abbrev bias4 : HloOp τ sig (Elt F) := StableHlo.reshape main_arg9 main_v4 (rfl : (.f32 : EltTy) = .f32) shapeCasts_S2_S1x2

/-- After the call: the pooled rows in their buffer. -/
def afterCall (d : Dev nD) : Valuation τ sig (Elt F) := Function.update (fun b => m (d, b)) (at_ main_v0) (bags m d)

/-- After the four reshapes. -/
def afterHost (d : Dev nD) : Valuation τ sig (Elt F) := bias4.result (bias3.result (bias2.result (bias1.result (afterCall m d))))

/-- The program's result. -/
def logits (d : Dev nD) : FVec F S16384x2 .f32 :=
  layersAll (bags m d) (m ((SparseCore.T d).loc main_arg2)) (shapeCast S1x128 (m ((SparseCore.T d).loc main_arg3) : FVec F S128 .f32) shapeCasts_S128_S1x128)
    (m ((SparseCore.T d).loc main_arg4)) (shapeCast S1x128 (m ((SparseCore.T d).loc main_arg5) : FVec F S128 .f32) shapeCasts_S128_S1x128)
    (m ((SparseCore.T d).loc main_arg6)) (shapeCast S1x32 (m ((SparseCore.T d).loc main_arg7) : FVec F S32 .f32) shapeCasts_S32_S1x32)
    (m ((SparseCore.T d).loc main_arg8)) (shapeCast S1x2 (m ((SparseCore.T d).loc main_arg9) : FVec F S2 .f32) shapeCasts_S2_S1x2)

/-- At the end. -/
def atEnd (d : Dev nD) : Valuation τ sig (Elt F) := Function.update (afterHost m d) (at_ main_v5) (logits m d)

theorem at_ne {a b : Ref sig .tc} (h : a ≠ b) : at_ a ≠ at_ b := StableHlo.devRef_ne_of_ne h

theorem afterCall_ne (d : Dev nD) {b : Ref sig .tc} (h : b ≠ main_v0) : afterCall m d (at_ b) = m ((SparseCore.T d).loc b) := by
  unfold afterCall
  rw [Function.update_of_ne (at_ne h)]

theorem afterHost_ne (d : Dev nD) {b : Ref sig .tc} (h1 : b ≠ main_v1) (h2 : b ≠ main_v2) (h3 : b ≠ main_v3) (h4 : b ≠ main_v4) :
    afterHost m d (at_ b) = afterCall m d (at_ b) := by
  unfold afterHost
  rw [StableHlo.reshape_result_ne _ _ _ _ _ _ _ h4, StableHlo.reshape_result_ne _ _ _ _ _ _ _ h3, StableHlo.reshape_result_ne _ _ _ _ _ _ _ h2, StableHlo.reshape_result_ne _ _ _ _ _ _ _ h1]

theorem afterHost_kept (d : Dev nD) {b : Ref sig .tc} (h0 : b ≠ main_v0) (h1 : b ≠ main_v1) (h2 : b ≠ main_v2) (h3 : b ≠ main_v3) (h4 : b ≠ main_v4) :
    afterHost m d (at_ b) = m ((SparseCore.T d).loc b) := (afterHost_ne m d h1 h2 h3 h4).trans (afterCall_ne m d h0)

theorem atEnd_kept (d : Dev nD) {b : Ref sig .tc} (h0 : b ≠ main_v0) (h1 : b ≠ main_v1) (h2 : b ≠ main_v2) (h3 : b ≠ main_v3) (h4 : b ≠ main_v4) (h5 : b ≠ main_v5) :
    atEnd m d (at_ b) = m ((SparseCore.T d).loc b) := by
  unfold atEnd
  rw [Function.update_of_ne (at_ne h5), afterHost_kept m d h0 h1 h2 h3 h4]

theorem afterHost_v0 (d : Dev nD) : afterHost m d (at_ main_v0) = bags m d :=
  (afterHost_ne m d (by decide) (by decide) (by decide) (by decide)).trans (Function.update_self _ _ _)

theorem afterHost_v1 (d : Dev nD) : afterHost m d (at_ main_v1) = shapeCast S1x128 (m ((SparseCore.T d).loc main_arg3) : FVec F S128 .f32) shapeCasts_S128_S1x128 := by
  unfold afterHost
  rw [StableHlo.reshape_result_ne _ _ _ _ _ _ _ (by decide), StableHlo.reshape_result_ne _ _ _ _ _ _ _ (by decide), StableHlo.reshape_result_ne _ _ _ _ _ _ _ (by decide),
    StableHlo.reshape_result, afterCall_ne m d (by decide)]
  rfl

theorem afterHost_v2 (d : Dev nD) : afterHost m d (at_ main_v2) = shapeCast S1x128 (m ((SparseCore.T d).loc main_arg5) : FVec F S128 .f32) shapeCasts_S128_S1x128 := by
  unfold afterHost
  rw [StableHlo.reshape_result_ne _ _ _ _ _ _ _ (by decide), StableHlo.reshape_result_ne _ _ _ _ _ _ _ (by decide), StableHlo.reshape_result,
    StableHlo.reshape_result_ne _ _ _ _ _ _ _ (by decide), afterCall_ne m d (by decide)]
  rfl

theorem afterHost_v3 (d : Dev nD) : afterHost m d (at_ main_v3) = shapeCast S1x32 (m ((SparseCore.T d).loc main_arg7) : FVec F S32 .f32) shapeCasts_S32_S1x32 := by
  unfold afterHost
  rw [StableHlo.reshape_result_ne _ _ _ _ _ _ _ (by decide), StableHlo.reshape_result, StableHlo.reshape_result_ne _ _ _ _ _ _ _ (by decide),
    StableHlo.reshape_result_ne _ _ _ _ _ _ _ (by decide), afterCall_ne m d (by decide)]
  rfl

theorem afterHost_v4 (d : Dev nD) : afterHost m d (at_ main_v4) = shapeCast S1x2 (m ((SparseCore.T d).loc main_arg9) : FVec F S2 .f32) shapeCasts_S2_S1x2 := by
  unfold afterHost
  rw [StableHlo.reshape_result, StableHlo.reshape_result_ne _ _ _ _ _ _ _ (by decide), StableHlo.reshape_result_ne _ _ _ _ _ _ _ (by decide),
    StableHlo.reshape_result_ne _ _ _ _ _ _ _ (by decide), afterCall_ne m d (by decide)]
  rfl

abbrev VH (d : Dev nD) (b : Ref sig .tc) : Buf (Elt F) ((d : Thread nD τ).loc b) := afterHost m d (at_ b)
abbrev VE (d : Dev nD) (b : Ref sig .tc) : Buf (Elt F) ((d : Thread nD τ).loc b) := atEnd m d (at_ b)

/-- What the pipeline leaves is the program's result. -/
theorem scores_eq (d : Dev nD) : scores (VH m) d = logits m d := by
  show layersAll (afterHost m d (at_ main_v0)) (afterHost m d (at_ main_arg2)) (afterHost m d (at_ main_v1)) (afterHost m d (at_ main_arg4)) (afterHost m d (at_ main_v2))
    (afterHost m d (at_ main_arg6)) (afterHost m d (at_ main_v3)) (afterHost m d (at_ main_arg8)) (afterHost m d (at_ main_v4)) = _
  rw [afterHost_v0, afterHost_v1, afterHost_v2, afterHost_v3, afterHost_v4, afterHost_kept m d (b := main_arg2) (by decide) (by decide) (by decide) (by decide) (by decide),
    afterHost_kept m d (b := main_arg4) (by decide) (by decide) (by decide) (by decide) (by decide), afterHost_kept m d (b := main_arg6) (by decide) (by decide) (by decide) (by decide) (by decide),
    afterHost_kept m d (b := main_arg8) (by decide) (by decide) (by decide) (by decide) (by decide)]
  rfl

theorem VE_out (d : Dev nD) : VE m d main_v5 = scores (VH m) d := (Function.update_self _ _ _).trans (scores_eq m d).symm
theorem VE_other (d : Dev nD) (b : Ref sig .tc) (h : b ≠ main_v5) : VE m d b = VH m d b := Function.update_of_ne (at_ne h) _ _

/-! ## The buffers as the operations hold them -/

/-- The TensorCore's buffers that live through the program. -/
def lasting : Finset (DevRef τ sig) := (StableHlo.tcRefs τ sig).filter fun b => ¬ b.isScoped

theorem unscoped_held (d : Dev nD) (W : Valuation τ sig (Elt F)) :
    (unscopedBufs d (fun b => W (at_ b)) : sProp (MM F)) = StableHlo.held (d : Thread nD τ) lasting W := by
  unfold unscopedBufs StableHlo.held lasting StableHlo.tcRefs
  rw [Finset.filter_map, bigSep_map]
  rfl

/-- Those the call does not name. -/
def others : Finset (Ref sig .tc) :=
  {main_arg2, main_arg3, main_arg4, main_arg5, main_arg6, main_arg7, main_arg8, main_arg9, main_v1, main_v2, main_v3, main_v4, main_v5}

theorem unscoped_eq (d : Dev nD) (W : (b : Ref sig .tc) → Buf (Elt F) ((d : Thread nD τ).loc b)) :
    (unscopedBufs d W : sProp (MM F)) = iprop((iL d ↦{fullShare} W main_arg0) ∗ (tL d ↦{fullShare} W main_arg1) ∗ (oL d ↦{fullShare} W main_v0)
      ∗ bigSep others fun b => ((d : Thread nD τ).loc b) ↦{fullShare} W b) := by
  unfold unscopedBufs
  rw [show (Finset.univ.filter fun b : Ref sig .tc => ¬ b.isScoped) = insert main_arg0 (insert main_arg1 (insert main_v0 others)) by decide,
    SparseCore.bigSep_insert' (by decide), SparseCore.bigSep_insert' (by decide), SparseCore.bigSep_insert' (by decide)]

/-- Before the call the buffers are the launch's, and after it the pooled rows are in theirs. -/
theorem before_call (d : Dev nD) : (unscopedBufs d (fun b => m ((SparseCore.T d).loc b)) : sProp (MM F))
    = iprop((iL d ↦{fullShare} m (iL d)) ∗ (tL d ↦{fullShare} m (tL d)) ∗ (oL d ↦{fullShare} m (oL d)) ∗ bigSep others fun b => ((d : Thread nD τ).loc b) ↦{fullShare} m ((SparseCore.T d).loc b)) :=
  unscoped_eq d _

theorem after_call (d : Dev nD) : StableHlo.held (d : Thread nD τ) lasting (afterCall m d)
    = (iprop((iL d ↦{fullShare} m (iL d)) ∗ (tL d ↦{fullShare} m (tL d)) ∗ (oL d ↦{fullShare} bags m d) ∗ bigSep others fun b => ((d : Thread nD τ).loc b) ↦{fullShare} m ((SparseCore.T d).loc b)) : sProp (MM F)) := by
  rw [← unscoped_held, unscoped_eq, afterCall_ne m d (by decide), afterCall_ne m d (by decide), show afterCall m d (at_ main_v0) = bags m d from Function.update_self _ _ _]
  have ho : ∀ b ∈ others, b ≠ main_v0 := by decide
  rw [bigSep_congr fun b hb => by rw [afterCall_ne m d (ho b hb)]]

/-! ## The ghost state the launch starts from -/

def u₀ : UU := (initOf (K (F := F)).hsCells (K (F := F)).hsToks,
  (initOf (Pipeline.cells cfgs cellOf_inj) (Pipeline.launchToks cfgs cellOf_inj), 1))

/-- What the TensorCore needs to enter the pipeline. -/
abbrev ticket (d : Dev nD) : sProp (MM F) := iprop(Pipeline.cellsGhost cfgs (EP (F := F)) 0 d ∗ Pipeline.toksInit cfgs (EP (F := F)) 0 d)

theorem tickets : iprop((bigSep Finset.univ fun d : Dev nD => bigSep Finset.univ fun p => Pipeline.cellsGhost cfgs (EP (F := F)) p d)
      ∗ (bigSep Finset.univ fun d : Dev nD => bigSep Finset.univ fun p => (Pipeline.toksInit cfgs (EP (F := F)) p d : sProp (MM F))))
    = bigSep Finset.univ (ticket (F := F)) := by
  rw [← bigSep_sep']
  exact bigSep_congr fun d _ => by rw [bigSep_univ_of_subsingleton (0 : Fin 1), bigSep_univ_of_subsingleton (0 : Fin 1)]

theorem hu₀ : (ownU (u₀ (F := F)) : sProp (MM F))
    ⊢ |={Set.univ}=> iprop(BI.own (EH (initOf (K (F := F)).hsCells (K (F := F)).hsToks)) ∗ bigSep Finset.univ (ticket (F := F))
        ∗ bigSep Finset.univ fun thr : Thread nD τ => bigSep Finset.univ fun q : Fin 1 => (P m).x q thr) := by
  have he : (bigSep (Finset.univ : Finset (Thread nD τ)) fun _ => iprop(emp)) = (iprop(emp) : sProp (MM F)) := bigSep_emp_const _
  unfold u₀
  iintro Hu
  ihave H := (ownU_pair (initOf (K (F := F)).hsCells (K (F := F)).hsToks) (initOf (Pipeline.cells cfgs cellOf_inj) (Pipeline.launchToks cfgs cellOf_inj), (1 : Counters))) $$ Hu
  icases H with ⟨HH, HR⟩
  ihave H := (own_pair_emb (embR : Emb (UP × Counters) (MM F)) (initOf (Pipeline.cells cfgs cellOf_inj) (Pipeline.launchToks cfgs cellOf_inj)) (1 : Counters)) $$ HR
  icases H with ⟨HP, -⟩
  ihave H := (Pipeline.fund_ghost cfgs (EP (F := F)) cellOf_inj) $$ HP
  imod H with H
  imodintro
  isplitl [HH]; · iexact HH
  isplitl [H]
  · iapply (show iprop((bigSep Finset.univ fun d : Dev nD => bigSep Finset.univ fun p => Pipeline.cellsGhost cfgs (EP (F := F)) p d)
      ∗ (bigSep Finset.univ fun d : Dev nD => bigSep Finset.univ fun p => (Pipeline.toksInit cfgs (EP (F := F)) p d : sProp (MM F))))
        ⊢ bigSep Finset.univ (ticket (F := F)) from (by rw [tickets])) $$ H
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), he]
  iempintro

/-! ## The program on the TensorCore -/

abbrev FIN (d : Dev nD) : sProp (MM F) := unscopedBufs d (VE m d)

/-- The weakest precondition of the TensorCore's program. -/
abbrev WM {α : Type} (d : Dev nD) (x : Prog (TpuEff nD τ sig (Elt F) (SparseCore.Sig (ΛP (F := F)) 1) .tc) α) (Q : α → sProp (MM F)) : sProp (MM F) :=
  wp frame (wpE ((K (F := F)).defs (D (F := F))) 𝒱 (SparseCore.T d) none) Set.univ x Q

/-- One of the reshapes, on the buffers held. -/
theorem wp_reshape (d : Dev nD) (op : HloOp τ sig (Elt F)) (hop : op.bufs ⊆ lasting) (hf : op.fresh = ∅) (W : Valuation τ sig (Elt F)) (Q : PUnit → sProp (MM F)) :
    iprop((boundary (SparseCore.T d) ∗ StableHlo.held (SparseCore.T d) lasting W) ∗ ((boundary (SparseCore.T d) ∗ StableHlo.held (SparseCore.T d) lasting (op.result W)) -∗ Q ⟨⟩))
      ⊢ WM d (hlo rfl op fun _ => .ret ⟨⟩) Q := by
  iintro ⟨H, Hk⟩
  iapply (StableHlo.wp_hlo_within 𝒱 (SparseCore.T d) none Set.univ (V := W) hop (hf := hf)) $$ H
  iintro H
  iapply (le_wp_ret _ _ _ _ _)
  iapply Hk $$ H

theorem bias_lasting : (bias1 (F := F)).bufs ⊆ lasting ∧ (bias2 (F := F)).bufs ⊆ lasting ∧ (bias3 (F := F)).bufs ⊆ lasting ∧ (bias4 (F := F)).bufs ⊆ lasting :=
  ⟨(by decide : ({at_ main_arg3, at_ main_v1} : Finset (DevRef τ sig)) ⊆ lasting), (by decide : ({at_ main_arg5, at_ main_v2} : Finset (DevRef τ sig)) ⊆ lasting),
    (by decide : ({at_ main_arg7, at_ main_v3} : Finset (DevRef τ sig)) ⊆ lasting), (by decide : ({at_ main_arg9, at_ main_v4} : Finset (DevRef τ sig)) ⊆ lasting)⟩

/-- The call of the pipeline, in the program's signature and in the pipelines' own. -/
abbrev enter : Prog (TpuEff nD τ sig (Elt F) (ΛP (F := F)) .tc) PUnit := .op (.customCall (Pipeline.entry 0) ()) fun x => .ret x

theorem enter_lift : (Prog.lift (.customCall (SparseCore.inner (Pipeline.entry 0)) ()) : Prog (TpuEff nD τ sig (Elt F) (SparseCore.Sig (ΛP (F := F)) 1) .tc) PUnit)
    = SparseCore.liftProg enter := rfl

/-- The pipeline entered by the TensorCore: from the buffers after the reshapes to those at the end. -/
theorem wp_blocks [∀ e, Nonempty (Elt F e)] (d : Dev nD) :
    iprop(boundary (SparseCore.T d) ∗ (unscopedBufs d (VH m d) ∗ calm d) ∗ levAts (K (F := F)).L (K (F := F)).lev ∗ ticket (F := F) d)
      ⊢ WM d (Prog.lift (.customCall (SparseCore.inner (Pipeline.entry 0)) ())) fun _ => iprop(boundary (SparseCore.T d) ∗ unscopedBufs d (VE m d) ∗ calm d) := by
  rw [enter_lift]
  have hlift := (K (F := F)).wp_liftProg (D (F := F)) 𝒱 (SparseCore.T d) Set.univ none enter fun _ => iprop(boundary (SparseCore.T d) ∗ unscopedBufs d (VE m d) ∗ calm d)
  refine BIBase.Entails.trans ?_ hlift
  have hreg := (reg (VH m) (VE m) (VE_out m) (VE_other m)).wp (pcfgs (F := F)) adm (pdats (VH m)) none cellOf_inj EP defs₀ 𝒱₀ (K (F := F)).L (K (F := F)).lev d none
    (fun u hu => nomatch hu) (fun x => .ret x) (fun _ => iprop(boundary (SparseCore.T d) ∗ unscopedBufs d (VE m d) ∗ calm d))
  rw [show (reg (VH m) (VE m) (VE_out m) (VE_other m)).pre d = iprop(unscopedBufs d (VH m d) ∗ calm d) from rfl] at hreg
  iintro ⟨Hb, Hpre, Hl, Hg, Ht⟩
  iapply hreg
  isplitr [Hb Hpre Hl Hg Ht]
  · iintro H
    iapply (le_wp_ret _ _ _ _ _)
    iexact H
  isplitl [Hb]; · iexact Hb
  isplitl [Hpre]; · iexact Hpre
  isplitl [Hl]; · iexact Hl
  isplitl [Hg]; · iexact Hg
  iexact Ht

/-- The TensorCore's state after the call, apart from what it owes. -/
abbrev Rest (d : Dev nD) : sProp (MM F) :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_eq (d : Dev nD) : (K (F := F)).tcSt EH d 1 = (iprop(calm d ∗ Rest d) : sProp (MM F)) := by
  unfold SparseCore.Cfg.tcSt
  rw [(K (F := F)).Otc_end d (le_refl 1)]
  rfl

/-- The program on device `d`'s TensorCore: the call, the reshapes, the blocks. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ ticket (F := F) d)
      ⊢ WM d (main d) fun _ => iprop((K (F := F)).tcSt EH d 1 ∗ FIN m d ∗ (K (F := F)).tcEnd d) := by
  unfold SparseCore.Cfg.tcRes SparseCore.Cfg.tcEnd
  rw [before_call]
  simp only [main, wp_bind, wp_pure]
  obtain ⟨l1, l2, l3, l4⟩ := bias_lasting (F := F)
  iintro ⟨#Hctx, Hst, ⟨Hb, ⟨Hi, Hx, Ho, Hr⟩, Hts, -⟩, HG⟩
  iapply ((K (F := F)).wp_run (D (F := F)) 𝒱 (EH := EH) (P := P m) κ d 0) $$ [Hst Hi Hx Ho Hr Hb Hts HG]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (show _ ⊢ iprop((iL d ↦{fullShare} m (iL d)) ∗ (tL d ↦{fullShare} m (tL d)) ∗ oL d ↦{fullShare} bags m d) from (by rw [← dn0_eq])) $$ Hdn
  icases Hdn' with ⟨Hi, Hx, Ho⟩
  ihave HV := (show iprop((iL d ↦{fullShare} m (iL d)) ∗ (tL d ↦{fullShare} m (tL d)) ∗ (oL d ↦{fullShare} bags m d)
      ∗ bigSep others fun b => ((d : Thread nD τ).loc b) ↦{fullShare} m ((SparseCore.T d).loc b)) ⊢ StableHlo.held (d : Thread nD τ) lasting (afterCall m d) from (by rw [after_call])) $$ [Hi Hx Ho Hr]
  · isplitl [Hi]; · iexact Hi
    isplitl [Hx]; · iexact Hx
    isplitl [Ho]; · iexact Ho
    iexact Hr
  iapply (wp_reshape d bias1 l1 rfl (afterCall m d) _)
  isplitl [Hb HV]; · isplitl [Hb] <;> iassumption
  iintro ⟨Hb, HV⟩
  iapply (wp_reshape d bias2 l2 rfl _ _)
  isplitl [Hb HV]; · isplitl [Hb] <;> iassumption
  iintro ⟨Hb, HV⟩
  iapply (wp_reshape d bias3 l3 rfl _ _)
  isplitl [Hb HV]; · isplitl [Hb] <;> iassumption
  iintro ⟨Hb, HV⟩
  iapply (wp_reshape d bias4 l4 rfl _ _)
  isplitl [Hb HV]; · isplitl [Hb] <;> iassumption
  iintro ⟨Hb, HV⟩
  ihave Hu := (show StableHlo.held (SparseCore.T d) lasting (bias4.result (bias3.result (bias2.result (bias1.result (afterCall m d))))) ⊢ unscopedBufs d (VH m d) from
    (by rw [show unscopedBufs d (VH m d) = _ from unscoped_held d (afterHost m d)]; exact BI.Entails.refl _)) $$ HV
  ihave Hs := (show (K (F := F)).tcSt EH d ((0 : Fin 1).val + 1) ⊢ iprop(calm d ∗ Rest d) from (show (K (F := F)).tcSt EH d 1 ⊢ _ from (by rw [tcSt_eq]))) $$ Hst
  icases Hs with ⟨Hc, Hs⟩
  ihave Hl := (SparseCore.Cfg.ctx_levAts κ) $$ Hctx
  iapply (((BIBase.Entails.trans (sep_mono_left (Q := iprop(Rest d ∗ (K (F := F)).tcSems0 d)) (wp_blocks m d)) (wp_frame_r _ _ _)).trans (wp_mono frame _ _ fun _ => ?_))) $$ [Hb Hu Hc Hl HG Hs Hts]
  · iintro ⟨⟨Hb, Hu, Hc⟩, Hs, Hts⟩
    imodintro
    isplitl [Hc Hs]
    · iapply (show iprop(calm d ∗ Rest d) ⊢ (K (F := F)).tcSt EH d 1 from (by rw [tcSt_eq])) $$ [Hc Hs]
      isplitl [Hc] <;> iassumption
    isplitl [Hu]; · iexact Hu
    isplitl [Hb] <;> iassumption
  isplitr [Hs Hts]
  · isplitl [Hb]; · iexact Hb
    isplitl [Hu Hc]; · isplitl [Hu] <;> iassumption
    isplitl [Hl]; · iexact Hl
    iexact HG
  isplitl [Hs] <;> iassumption

/-! ## The run -/

/-- A buffer that lives through the program, as a final state has it. -/
def fq (d : Dev nD) (s : Phys nD τ sig (Elt F)) : Prop :=
  ∀ b ∈ Finset.univ.filter (fun b : Ref sig .tc => ¬ b.isScoped), s.mem.mem ((d : Thread nD τ).loc b) = VE m d b

theorem agree (d : Dev nD) (s : Phys nD τ sig (Elt F)) (W : (b : Ref sig .tc) → Buf (Elt F) ((d : Thread nD τ).loc b)) (B : Finset (Ref sig .tc)) :
    iprop((bigSep B fun b => ((d : Thread nD τ).loc b) ↦{fullShare} W b) ∗ SI s) ⊢ (⌜∀ b ∈ B, s.mem.mem ((d : Thread nD τ).loc b) = W b⌝ : sProp (MM F)) := by
  induction B using Finset.induction_on with
  | empty => iintro -; ipureintro; exact fun b hb => absurd hb (Finset.notMem_empty b)
  | insert a B ha ih =>
    rw [SparseCore.bigSep_insert' ha]
    iintro ⟨⟨Ha, HB⟩, HS⟩
    ihave H := (persistent_entails_right (SI_pointsTo_agree (st := s) (ℓ := (d : Thread nD τ).loc a) (I := Finset.univ) (q := fullShare) (f := W a))) $$ [HS Ha]
    · isplitl [HS] <;> iassumption
    icases H with ⟨%h1, HS, -⟩
    ihave H := ih $$ [HB HS]
    · isplitl [HB] <;> iassumption
    icases H with %h2
    ipureintro
    intro b hb
    rcases Finset.mem_insert.mp hb with rfl | hb
    · exact funext fun i => h1 i (Finset.mem_univ i)
    · exact h2 b hb

theorem hfin (d : Dev nD) (s : Phys nD τ sig (Elt F)) : iprop(FIN m d ∗ SI s) ⊢ (⌜fq m d s⌝ : sProp (MM F)) := agree d s (VE m d) _

def QC : PUnit × MemSt nD τ sig (Elt F) → Prop := fun r =>
  (∀ d : Dev nD, ∀ b ∈ Finset.univ.filter (fun b : Ref sig .tc => ¬ b.isScoped), r.2.mem ((d : Thread nD τ).loc b) = VE m d b) ∧ r.2.sem = fun _ => 0

/-- From any memory whose indices name rows of the table, the program ends, its semaphores at zero and its buffers at `VE`. -/
theorem run_main [∀ e, Nonempty (Elt F e)] (hv : InVocab m) :
    θ_run (Cert.KernelIdeal.defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hv)
    (fun q _ => match q with | 0 => SparseCore.Cfg.VecSplit.of_plain (vecSplit m))
    m ρ main (ticket (F := F)) (FIN m) (u₀ (F := F)) (sep_elim_left.trans (hu₀ m)) (hmain m ρ) (fq m) (hfin m) (QC m) (fun _ h hz => ⟨h, hz⟩)

end Cert.KernelIdeal.Bag

end
-- ==== Proof.Range.lean ====
/- The precondition's meaning: every index of every bag is one of the table's rows. -/
module

public import proofs.«01_k».proof.Proof.Gen.Pre_ids_in_vocab
public import Idealize.ShloMosaic.Lib.ReduceAll

@[expose] public section

noncomputable section

namespace Cert.Range

open Idealize.ShloMosaic Cert.Pre_ids_in_vocab Cert.Pre_ids_in_vocab.Gen

instance : Subsingleton S_.Idx := ⟨fun a b => funext fun k => k.elim0⟩

theorem both {a b : BitVec 1} (h : IntOp.andi a b = 1#1) : a = 1#1 ∧ b = 1#1 := by
  revert a b; decide

variable {F : FTy → Type} [FloatOps F]

/-- Where the precondition holds every index, read as a signed number, lies in the vocabulary. -/
theorem signed (ids : IVec S16384x50 32) (T : FVec F S100000x128 .f32) (w1 : FVec F S128x128 .f32) (b1 : FVec F S128 .f32)
    (w2 : FVec F S128x128 .f32) (b2 : FVec F S128 .f32) (w3 : FVec F S128x32 .f32) (b3 : FVec F S32 .f32)
    (w4 : FVec F S32x2 .f32) (b4 : FVec F S2 .f32)
    (h : Cert.Pre_ids_in_vocab.fn ids T w1 b1 w2 b2 w3 b3 w4 b4 = fun _ => 1#1) (x : S16384x50.Idx) :
    0 ≤ (ids x).toInt ∧ (ids x).toInt < 100000 := by
  have e := Host.reduce_andi_all _ _ _ _ _ (congrFun h (fun k => k.elim0)) x
  obtain ⟨e₁, e₂⟩ := both e
  exact ⟨IntOp.cmpi_sge.1 e₁, IntOp.cmpi_slt.1 e₂⟩

/-- The same index read as an unsigned number. -/
theorem unsigned {a : BitVec 32} (h : 0 ≤ a.toInt ∧ a.toInt < 100000) : a.toNat < 100000 := by
  rw [BitVec.toInt_eq_toNat_cond] at h
  split at h <;> omega

end Cert.Range

end
-- ==== Proof.Frames.lean ====
/- What a run of the whole program leaves, as the claims state it: the result of each device, its arguments as they were,
   and every counter at zero. -/
module

public import proofs.«01_k».proof.Proof.Launch
public import proofs.«01_k».proof.Proof.Range
public import Idealize.ShloMosaic.Adequacy

@[expose] public section

noncomputable section

namespace Cert.KernelIdeal.Bag

open Cert.KernelIdeal Cert.KernelIdeal.Gen
open Idealize.ShloMosaic Idealize.SL.Sem

variable {F : FTy → Type} [FloatOps F] [Named F]

/-- Every device's indices are in the vocabulary where the precondition holds. -/
theorem inVocab_of (m : (ℓ : Loc nD τ sig) → Buf (Elt F) ℓ)
    (h : ∀ c : Dev nD, Cert.Pre_ids_in_vocab.fn (m (c.tc.loc main_arg0)) (m (c.tc.loc main_arg1)) (m (c.tc.loc main_arg2))
      (m (c.tc.loc main_arg3)) (m (c.tc.loc main_arg4)) (m (c.tc.loc main_arg5)) (m (c.tc.loc main_arg6))
      (m (c.tc.loc main_arg7)) (m (c.tc.loc main_arg8)) (m (c.tc.loc main_arg9)) = fun _ => 1#1) : InVocab m :=
  fun d x => Cert.Range.unsigned (Cert.Range.signed _ _ _ _ _ _ _ _ _ _ (h d) x)

/-- An argument's buffer at the end of the run is what it was at the start. -/
theorem kept {m : (ℓ : Loc nD τ sig) → Buf (Elt F) ℓ} {r : PUnit × MemSt nD τ sig (Elt F)} (h : QC m r) (d : Dev nD) (b : Ref sig .tc) (hb : ¬ b.isScoped)
    (h0 : b ≠ main_v0) (h1 : b ≠ main_v1) (h2 : b ≠ main_v2) (h3 : b ≠ main_v3) (h4 : b ≠ main_v4) (h5 : b ≠ main_v5) :
    r.2.mem ((d.tc : Thread nD τ).loc b) = m ((d.tc : Thread nD τ).loc b) :=
  (h.1 d b (Finset.mem_filter.mpr ⟨Finset.mem_univ _, hb⟩)).trans (atEnd_kept m d h0 h1 h2 h3 h4 h5)

/-- All ten arguments of a device. -/
theorem kept_all {m : (ℓ : Loc nD τ sig) → Buf (Elt F) ℓ} {r : PUnit × MemSt nD τ sig (Elt F)} (h : QC m r) (d : Dev nD) :
    r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_arg2) = m ((d.tc : Thread nD τ).loc main_arg2)
    ∧ r.2.mem ((d.tc : Thread nD τ).loc main_arg3) = m ((d.tc : Thread nD τ).loc main_arg3)
    ∧ r.2.mem ((d.tc : Thread nD τ).loc main_arg4) = m ((d.tc : Thread nD τ).loc main_arg4)
    ∧ r.2.mem ((d.tc : Thread nD τ).loc main_arg5) = m ((d.tc : Thread nD τ).loc main_arg5)
    ∧ r.2.mem ((d.tc : Thread nD τ).loc main_arg6) = m ((d.tc : Thread nD τ).loc main_arg6)
    ∧ r.2.mem ((d.tc : Thread nD τ).loc main_arg7) = m ((d.tc : Thread nD τ).loc main_arg7)
    ∧ r.2.mem ((d.tc : Thread nD τ).loc main_arg8) = m ((d.tc : Thread nD τ).loc main_arg8)
    ∧ r.2.mem ((d.tc : Thread nD τ).loc main_arg9) = m ((d.tc : Thread nD τ).loc main_arg9) := by
  refine ⟨?_, ?_, ?_, ?_, ?_, ?_, ?_, ?_, ?_, ?_⟩ <;>
    exact kept h d _ (by decide) (by decide) (by decide) (by decide) (by decide) (by decide) (by decide)

/-- A device's result. -/
theorem scores_kept {m : (ℓ : Loc nD τ sig) → Buf (Elt F) ℓ} {r : PUnit × MemSt nD τ sig (Elt F)} (h : QC m r) (d : Dev nD) :
    r.2.mem ((d.tc : Thread nD τ).loc main_v5) = logits m d :=
  (h.1 d main_v5 (Finset.mem_filter.mpr ⟨Finset.mem_univ _, by decide⟩)).trans (Function.update_self _ _ _)

end Cert.KernelIdeal.Bag

end
-- ==== Proof.Reference.lean ====
/- The reference's result, written as the steps it takes: the rows taken from the table, their mean, four layers. -/
module

public import proofs.«01_k».proof.Proof.Gen.ReferenceIdeal.Run

@[expose] public section

noncomputable section

namespace Cert.ReferenceIdeal.Bag

open Cert.ReferenceIdeal Cert.ReferenceIdeal.Gen Idealize.ShloMosaic Idealize.ShloMosaic.TcCoe Idealize.SL.Sem

variable {F : FTy → Type} [FloatOps F]

/-- The row numbers the reference looks up: a negative one counts from the table's end. -/
def wrapped (ids : IVec S16384x50 32) : IVec S16384x50 32 :=
  select (cmpi .slt ids (broadcastInDim S16384x50 ![] bcast_S_S16384x50 (constantI S_ 32 0#32)))
    (addi ids (broadcastInDim S16384x50 ![] bcast_S_S16384x50 (constantI S_ 32 100000#32))) ids

/-- Those row numbers, each a vector of one. -/
def starts (ids : IVec S16384x50 32) : IVec S16384x50x1 32 :=
  broadcastInDim S16384x50x1 ![0, 1] bcast_S16384x50_S16384x50x1_0_1 (wrapped ids)

/-- Which of them name a row of the table. -/
def inside (ids : IVec S16384x50 32) : IVec S16384x50x1 1 :=
  andi (cmpi .sge (starts ids) (broadcastInDim S16384x50x1 ![] bcast_S_S16384x50x1 (constantI S_ 32 0#32)))
    (cmpi .sle (starts ids) (broadcastInDim S16384x50x1 ![0, 1, 2] bcast_S1x1x1_S16384x50x1_0_1_2
      (broadcastInDim S1x1x1 ![2] bcast_S1_S1x1x1_2 (constantI S1 32 99999#32))))

/-- The rows taken, a row outside the table being no number. -/
def taken (ids : IVec S16384x50 32) (T : FVec F S100000x128 .f32) : FVec F S16384x50x128 .f32 :=
  select (broadcastInDim S16384x50x128 ![0, 1] bcast_S16384x50_S16384x50x128_0_1
      (Host.reduce IntOp.andi (inside ids) (constantI S_ 1 1#1) reducesTo_S16384x50x1_S16384x50_d2 h_S_))
    (Host.gather gather_S100000x128_S16384x50x1_S16384x50x128_2_0_n_n_0_2_1128 T (starts ids))
    (broadcastInDim S16384x50x128 ![] bcast_S_S16384x50x128 (constant S_ .f32 0x7FC00000#32))

/-- Each bag's mean. -/
def mean (x : FVec F S16384x50x128 .f32) : FVec F S16384x128 .f32 :=
  Host.divf (Host.reduceAdd x (constant S_ .f32 0x00000000#32) reducesTo_S16384x50x128_S16384x128_d1 h_S_)
    (broadcastInDim S16384x128 ![] bcast_S_S16384x128 (constant S_ .f32 0x42480000#32))

/-- A layer of 128 features. -/
def hidden (x : FVec F S16384x128 .f32) (w : FVec F S128x128 .f32) (b : FVec F S128 .f32) : FVec F S16384x128 .f32 :=
  maximumf (addf (Host.dotGeneral dot_S16384x128_S128x128_S16384x128_1_0_0_1_n_n none x w)
    (broadcastInDim S16384x128 ![0, 1] bcast_S1x128_S16384x128_0_1 (broadcastInDim S1x128 ![1] bcast_S128_S1x128_1 b)))
    (broadcastInDim S16384x128 ![] bcast_S_S16384x128 (constant S_ .f32 0x00000000#32))

/-- The layer of 32 features. -/
def narrow (x : FVec F S16384x128 .f32) (w : FVec F S128x32 .f32) (b : FVec F S32 .f32) : FVec F S16384x32 .f32 :=
  maximumf (addf (Host.dotGeneral dot_S16384x128_S128x32_S16384x32_1_0_0_1_n_n none x w)
    (broadcastInDim S16384x32 ![0, 1] bcast_S1x32_S16384x32_0_1 (broadcastInDim S1x32 ![1] bcast_S32_S1x32_1 b)))
    (broadcastInDim S16384x32 ![] bcast_S_S16384x32 (constant S_ .f32 0x00000000#32))

/-- The two classes' numbers. -/
def classes (x : FVec F S16384x32 .f32) (w : FVec F S32x2 .f32) (b : FVec F S2 .f32) : FVec F S16384x2 .f32 :=
  addf (Host.dotGeneral dot_S16384x32_S32x2_S16384x2_1_0_0_1_n_n none x w)
    (broadcastInDim S16384x2 ![0, 1] bcast_S1x2_S16384x2_0_1 (broadcastInDim S1x2 ![1] bcast_S2_S1x2_1 b))

/-- The four layers. -/
def layers (x : FVec F S16384x128 .f32) (w1 : FVec F S128x128 .f32) (b1 : FVec F S128 .f32) (w2 : FVec F S128x128 .f32) (b2 : FVec F S128 .f32)
    (w3 : FVec F S128x32 .f32) (b3 : FVec F S32 .f32) (w4 : FVec F S32x2 .f32) (b4 : FVec F S2 .f32) : FVec F S16384x2 .f32 :=
  classes (narrow (hidden (hidden x w1 b1) w2 b2) w3 b3) w4 b4

/-- The reference's run in these words. -/
theorem run_steps (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22)
        = layers (mean (taken (m ((c.tc : Thread nD τ).loc main_arg0)) (m ((c.tc : Thread nD τ).loc main_arg1))))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  Cert.ReferenceIdeal.Value.run m ρ

end Cert.ReferenceIdeal.Bag

end
-- ==== Proof.Dense.lean ====
/- The four layers over the extended reals: a block of rows through the kernel's layer is that block of the
   reference's layer on the whole array. -/
module

public import proofs.«01_k».proof.Proof.Region
public import proofs.«01_k».proof.Proof.Reference
public import Idealize.ShloMosaic.Lib.StackMember
public import Idealize.ShloMosaic.Lib.MatmulPlain
public import Idealize.ShloMosaic.Lib.Pointwise.Reshape

@[expose] public section

noncomputable section

namespace Cert.KernelIdeal.Bag

open Cert.KernelIdeal Cert.KernelIdeal.Gen
open Idealize.ShloMosaic hiding ix0 ix1 ix2 ix3 eq_ix1 eq_ix2 eq_ix3
open Idealize.ShloMosaic.ValueIdx
open scoped BigOperators

/-! ## One entry of a product, of a bias -/

section

variable {M K N : ℕ}

/-- The kernel's product and the host's agree on rows that agree. -/
theorem product_row {P : ℕ} (prec prec' : Option ContractPrecision) (x : FVec Ideal ⟨2, ![P, K]⟩ .f32) (y : FVec Ideal ⟨2, ![M, K]⟩ .f32)
    (w : FVec Ideal ⟨2, ![K, N]⟩ .f32) (p : Fin P) (r : Fin M) (c : Fin N) (h : ∀ k, x (ix2 p k) = y (ix2 r k)) :
    matmul (DotDims.plain P K N) prec x w (constant ⟨2, ![P, N]⟩ .f32 0x00000000#32) (ix2 p c)
      = Host.dotGeneral (DotDims.plain M K N) prec' y w (ix2 r c) := by
  rw [StackMember.dotGeneral_plain_apply]
  show FloatOps.matmul (DotDims.plain P K N) prec x w _ (ix2 p c) = _
  rw [Ideal.matmul_plain_apply, constant_apply, Ideal.ofBits_zero_f32, zero_add]
  exact Finset.sum_congr rfl fun k _ => by rw [h k]

/-- A vector cast to one row. -/
theorem row_cast {α : Type} (b : (⟨1, ![N]⟩ : Shape).Idx → α) (h : (⟨1, ![N]⟩ : Shape).ShapeCasts ⟨2, ![1, N]⟩) (c : Fin N) :
    shapeCast ⟨2, ![1, N]⟩ b h (ix2 0 c) = b (ix1 c) := by
  show b (Shape.reshapeEquiv h (ix2 0 c)) = _
  refine congrArg b (Shape.reshapeEquiv_eq_of_rowMajor h ?_)
  rw [rowMajor_val1, rowMajor_val2 _ N (by simp)]
  show c.val = 0 * N + c.val
  rw [Nat.zero_mul, Nat.zero_add]

/-- The kernel's bias, on every row. -/
theorem bias_block {P : ℕ} {α : Type} (b : (⟨1, ![N]⟩ : Shape).Idx → α) (h : (⟨1, ![N]⟩ : Shape).ShapeCasts ⟨2, ![1, N]⟩)
    (h' : (⟨2, ![1, N]⟩ : Shape).ShapeCasts ⟨2, ![1, N]⟩) (hb : (⟨2, ![1, N]⟩ : Shape).Broadcasts ⟨2, ![P, N]⟩) (p : Fin P) (c : Fin N) :
    broadcastTo ⟨2, ![P, N]⟩ (shapeCast ⟨2, ![1, N]⟩ (shapeCast ⟨2, ![1, N]⟩ b h) h') hb (ix2 p c) = b (ix1 c) := by
  rw [shapeCast_id, ← row_cast b h c]
  unfold broadcastTo
  refine congrArg _ (funext fun a => ?_)
  match a with
  | ⟨0, _⟩ => exact Subsingleton.elim (α := Fin 1) _ _
  | ⟨1, _⟩ =>
    by_cases h1 : N = 1
    · subst h1; exact Subsingleton.elim (α := Fin 1) _ _
    · exact Fin.ext (by simp [h1])

/-- The reference's bias, on every row. -/
theorem bias_all {α : Type} (b : (⟨1, ![N]⟩ : Shape).Idx → α) (h : (⟨1, ![N]⟩ : Shape).BroadcastsInDim ⟨2, ![1, N]⟩ ![1])
    (hb : (⟨2, ![1, N]⟩ : Shape).BroadcastsInDim ⟨2, ![M, N]⟩ ![0, 1]) (r : Fin M) (c : Fin N) :
    broadcastInDim ⟨2, ![M, N]⟩ ![0, 1] hb (broadcastInDim ⟨2, ![1, N]⟩ ![1] h b) (ix2 r c) = b (ix1 c) := by
  unfold broadcastInDim
  refine congrArg b (funext fun a => ?_)
  match a with
  | ⟨0, _⟩ =>
    by_cases h1 : N = 1
    · subst h1; exact Subsingleton.elim (α := Fin 1) _ _
    · exact Fin.ext (by simp [h1])

end

/-! ## The layers, block by block -/

/-- Block `b` of 2048 rows of an array of 16384 rows of any width. -/
def rowsOf {N : ℕ} (b : ℕ) (X : FVec Ideal ⟨2, ![16384, N]⟩ .f32) : FVec Ideal ⟨2, ![2048, N]⟩ .f32 :=
  fun j => X (ix2 (Fin.ofNat 16384 (b * 2048 + (j 0).val)) (j 1))

theorem blockRows_eq (b : ℕ) (x : FVec Ideal S16384x128 .f32) : blockRows b x = rowsOf b x := rfl

/-- Every row is a row of its block. -/
theorem rowsOf_at {N : ℕ} (X : FVec Ideal ⟨2, ![16384, N]⟩ .f32) (i : (⟨2, ![16384, N]⟩ : Shape).Idx) :
    rowsOf ((i 0).val / 2048) X (ix2 (Fin.ofNat 2048 (i 0).val) (i 1)) = X i := by
  have hi : (i 0).val < 16384 := (i 0).isLt
  have hr : Fin.ofNat 16384 ((i 0).val / 2048 * 2048 + (i 0).val % 2048) = (i 0 : Fin 16384) :=
    Fin.ext (show ((i 0).val / 2048 * 2048 + (i 0).val % 2048) % 16384 = (i 0).val by omega)
  show X (ix2 (Fin.ofNat 16384 ((i 0).val / 2048 * 2048 + (i 0).val % 2048)) (i 1)) = X i
  rw [hr]
  exact congrArg X (eq_ix2 i).symm

theorem hidden_rows (b : ℕ) (x : FVec Ideal S16384x128 .f32) (w : FVec Ideal S128x128 .f32) (v : FVec Ideal S128 .f32) :
    hidden (rowsOf b x) w (shapeCast S1x128 v shapeCasts_S128_S1x128) = rowsOf b (Cert.ReferenceIdeal.Bag.hidden x w v) := by
  funext j
  rw [eq_ix2 j]
  refine congrArg₂ max (congrArg₂ (· + ·) ?_ ?_) ?_
  · exact product_row _ _ (rowsOf b x) x w (j 0) _ (j 1) fun k => rfl
  · exact (bias_block v _ _ _ (j 0) (j 1)).trans (bias_all v _ _ _ (j 1)).symm
  · rfl

theorem narrow_rows (b : ℕ) (x : FVec Ideal S16384x128 .f32) (w : FVec Ideal S128x32 .f32) (v : FVec Ideal S32 .f32) :
    narrow (rowsOf b x) w (shapeCast S1x32 v shapeCasts_S32_S1x32) = rowsOf b (Cert.ReferenceIdeal.Bag.narrow x w v) := by
  funext j
  rw [eq_ix2 j]
  refine congrArg₂ max (congrArg₂ (· + ·) ?_ ?_) ?_
  · exact product_row _ _ (rowsOf b x) x w (j 0) _ (j 1) fun k => rfl
  · exact (bias_block v _ _ _ (j 0) (j 1)).trans (bias_all v _ _ _ (j 1)).symm
  · rfl

theorem classes_rows (b : ℕ) (x : FVec Ideal Cert.ReferenceIdeal.S16384x32 .f32) (w : FVec Ideal S32x2 .f32) (v : FVec Ideal S2 .f32) :
    classes (rowsOf b x) w (shapeCast S1x2 v shapeCasts_S2_S1x2) = rowsOf b (Cert.ReferenceIdeal.Bag.classes x w v) := by
  funext j
  rw [eq_ix2 j]
  refine congrArg₂ (· + ·) ?_ ?_
  · exact product_row _ _ (rowsOf b x) x w (j 0) _ (j 1) fun k => rfl
  · exact (bias_block v _ _ _ (j 0) (j 1)).trans (bias_all v _ _ _ (j 1)).symm

/-- All rows through the kernel's layers, block by block, are all rows through the reference's. -/
theorem layersAll_eq (x : FVec Ideal S16384x128 .f32) (w1 : FVec Ideal S128x128 .f32) (b1 : FVec Ideal S128 .f32) (w2 : FVec Ideal S128x128 .f32)
    (b2 : FVec Ideal S128 .f32) (w3 : FVec Ideal S128x32 .f32) (b3 : FVec Ideal S32 .f32) (w4 : FVec Ideal S32x2 .f32) (b4 : FVec Ideal S2 .f32) :
    layersAll x w1 (shapeCast S1x128 b1 shapeCasts_S128_S1x128) w2 (shapeCast S1x128 b2 shapeCasts_S128_S1x128)
        w3 (shapeCast S1x32 b3 shapeCasts_S32_S1x32) w4 (shapeCast S1x2 b4 shapeCasts_S2_S1x2)
      = Cert.ReferenceIdeal.Bag.layers x w1 b1 w2 b2 w3 b3 w4 b4 := by
  funext i
  unfold layersAll layers
  rw [shapeCast_id, blockRows_eq, hidden_rows, hidden_rows, narrow_rows, classes_rows, rowsOf_at]
  rfl

end Cert.KernelIdeal.Bag

end
-- ==== Proof.Pool.lean ====
/- The means over the extended reals: the reference's row taken, sum and quotient is the mean the kernel pools. -/
module

public import proofs.«01_k».proof.Proof.Tile
public import proofs.«01_k».proof.Proof.Reference
public import proofs.«01_k».proof.Proof.Range
public import Idealize.ShloMosaic.Lib.IdealHost
public import Idealize.ShloMosaic.Lib.WordCmp
public import Idealize.ShloMosaic.Lib.Pointwise.Reduce

@[expose] public section

noncomputable section

namespace Cert.ReferenceIdeal.Bag

open Cert.ReferenceIdeal Cert.ReferenceIdeal.Gen
open Idealize.ShloMosaic hiding ix0 ix1 ix2 ix3 eq_ix1 eq_ix2 eq_ix3
open Idealize.ShloMosaic.ValueIdx
open scoped BigOperators

/-! ## The rows taken -/

/-- Whole rows of an array of rank two gathered by an array of row numbers of rank two: entry `(b, s, c)` is the row
    `idx[b, s, 0]` names, held within the array, at column `c`. -/
theorem gather_rows {α : Type} {N C B S w : ℕ} (hN : 0 < N)
    (wf : GatherDims.WF ⟨2, ![N, C]⟩ ⟨3, ![B, S, 1]⟩ ⟨3, ![B, S, C]⟩ [2] [0] [] [0] [] 2 ![1, C])
    (x : (⟨2, ![N, C]⟩ : Shape).Idx → α) (idx : IVec ⟨3, ![B, S, 1]⟩ w) (y : (⟨3, ![B, S, C]⟩ : Shape).Idx) :
    Host.gather (⟨[2], [0], [], [], [0], 2, ![1, C], wf⟩ : GatherDims ⟨2, ![N, C]⟩ ⟨3, ![B, S, 1]⟩ ⟨3, ![B, S, C]⟩) x idx y
      = x (ix2 ⟨min (idx (ix3 (y 0) (y 1) 0)).toInt.toNat (N - 1), by omega⟩ (y 2)) := by
  unfold Host.gather GatherDims.operandIdx
  refine congrArg x (funext fun a => Fin.ext ?_)
  match a with
  | ⟨0, _⟩ =>
    show GatherDims.start _ y idx 0 + GatherDims.batchCoord _ y 0 + GatherDims.offCoord _ y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ ([0] : List (Fin 2)) from List.mem_singleton.mpr rfl)]
    refine congrArg (fun z => min (idx z).toInt.toNat (N - 1)) (funext fun b => Fin.ext ?_)
    match b with
    | ⟨0, _⟩ => rfl
    | ⟨1, _⟩ => rfl
    | ⟨2, _⟩ => rfl
  | ⟨1, _⟩ =>
    show GatherDims.start _ y idx 1 + GatherDims.batchCoord _ y 1 + GatherDims.offCoord _ y 1 = _
    rw [GatherDims.batchCoord_eq_zero _ _ _ List.not_mem_nil]
    unfold GatherDims.start GatherDims.offCoord
    rw [dif_neg (show ¬ (1 : Fin 2) ∈ ([0] : List (Fin 2)) by decide),
      dif_pos ((GatherDims.mem_sKept _ _).mpr ⟨show ¬ (1 : Fin 2) ∈ ([0] : List (Fin 2)) by decide, List.not_mem_nil⟩)]
    simp only [Nat.zero_add]
    rfl

section

variable {F : FTy → Type} [FloatOps F] {ids : IVec S16384x50 32} (h : ∀ x, 0 ≤ (ids x).toInt ∧ (ids x).toInt < 100000)
include h

theorem wrapped_eq : wrapped ids = ids := by
  funext x
  show Scalar.select (IntOp.cmpi .slt (ids x) 0#32) _ (ids x) = ids x
  rw [WordCmp.cmpi_slt_eq, decide_eq_false (by have := (h x).1; simpa using this)]
  exact select_zero _ _

theorem starts_eq (y : S16384x50x1.Idx) : starts ids y = ids (ix2 (y 0) (y 1)) := by
  unfold starts
  rw [wrapped_eq h]
  unfold broadcastInDim
  refine congrArg ids (funext fun a => ?_)
  match a with
  | ⟨0, _⟩ => exact Fin.ext (by simp)
  | ⟨1, _⟩ => exact Fin.ext (by simp)

theorem inside_eq (y : S16384x50x1.Idx) : inside ids y = 1#1 := by
  have hy := h (ix2 (y 0) (y 1))
  show IntOp.andi (IntOp.cmpi .sge (starts ids y) 0#32) (IntOp.cmpi .sle (starts ids y) 99999#32) = 1#1
  rw [starts_eq h, WordCmp.cmpi_sge_eq, WordCmp.cmpi_sle_eq, decide_eq_true (by simpa using hy.1),
    decide_eq_true (by have : (99999#32 : BitVec 32).toInt = 99999 := by decide
                       omega)]
  decide

theorem mask_eq :
    broadcastInDim S16384x50x128 ![0, 1] bcast_S16384x50_S16384x50x128_0_1
      (Host.reduce IntOp.andi (inside ids) (constantI S_ 1 1#1) reducesTo_S16384x50x1_S16384x50_d2 h_S_) = fun _ => 1#1 := by
  funext x
  unfold broadcastInDim
  exact Host.reduce_andi_one _ _ _ _ _ rfl (inside_eq h)

/-- Where every row number names a row of the table, the rows taken are those rows. -/
theorem taken_eq (T : FVec F S100000x128 .f32) (x : S16384x50x128.Idx) :
    taken ids T x = T (ix2 (Fin.ofNat 100000 (ids (ix2 (x 0) (x 1))).toNat) (x 2)) := by
  unfold taken
  rw [mask_eq h, select_apply, select_one]
  refine (gather_rows (by decide) gather_S100000x128_S16384x50x1_S16384x50x128_2_0_n_n_0_2_1128_wf T (starts ids) x).trans ?_
  refine congrArg (fun r => T (ix2 r (x 2))) (Fin.ext ((congrArg (fun v : BitVec 32 => min v.toInt.toNat (100000 - 1)) (starts_eq h _)).trans ?_))
  show min (ids (ix2 (x 0) (x 1))).toInt.toNat (100000 - 1) = (ids (ix2 (x 0) (x 1))).toNat % 100000
  have hx := h (ix2 (x 0) (x 1))
  have hn := Cert.Range.unsigned hx
  have e : (ids (ix2 (x 0) (x 1))).toInt = (ids (ix2 (x 0) (x 1))).toNat := by
    rw [BitVec.toInt_eq_toNat_cond] at hx ⊢
    split at hx <;> omega
  rw [e, Nat.mod_eq_of_lt hn]
  omega

end

/-! ## The mean -/

theorem fifty : Ideal.ofBits .f32 0x42480000#32 = ((50 : ℝ) : EReal) := by
  simp [Ideal.ofBits, Ideal.ieee, -EReal.coe_mul]; norm_num

/-- The reciprocal named in the kernel is one fiftieth. -/
theorem invS_eq : (Cert.KernelIdeal.Bag.invS : Ideal .f32) = ((50⁻¹ : ℝ) : EReal) := rfl

/-- The kernel's running sum is a sum. -/
theorem colSum_eq (g : ℕ → EReal) (n : ℕ) : Cert.KernelIdeal.Bag.colSum (F := Ideal) g n = ∑ k : Fin n, g k.val := by
  induction n with
  | zero => exact Ideal.ofBits_zero_f32
  | succ n ih =>
    rw [Fin.sum_univ_castSucc]
    exact congrArg (· + g n) ih

/-- The reference's mean of a column is the kernel's. -/
theorem mean_eq (x : FVec Ideal S16384x50x128 .f32) (j : S16384x128.Idx) :
    mean x j = Cert.KernelIdeal.Bag.colMean (F := Ideal) fun s => x (ix3 (j 0) (Fin.ofNat 50 s) (j 1)) := by
  show Ideal.div (Ideal.hostReduceAdd reducesTo_S16384x50x128_S16384x128_d1 x (Ideal.ofBits .f32 0x00000000#32) j) (Ideal.ofBits .f32 0x42480000#32)
    = Cert.KernelIdeal.Bag.colSum (F := Ideal) _ 50 * Cert.KernelIdeal.Bag.invS (F := Ideal)
  rw [fifty, Ideal.div_coe (by norm_num), Ideal.ofBits_zero_f32, Ideal.hostReduceAdd_r3_a1, zero_add, colSum_eq, invS_eq, one_div]
  refine congrArg (· * _) (Finset.sum_congr rfl fun k _ => congrArg x (funext fun a => Fin.ext ?_))
  match a with
  | ⟨0, _⟩ => rfl
  | ⟨1, _⟩ => exact (Nat.mod_eq_of_lt k.isLt).symm
  | ⟨2, _⟩ => rfl

/-- The reference's means are the kernel's pooled rows. -/
theorem pooled_eq {ids : IVec S16384x50 32} (h : ∀ x, 0 ≤ (ids x).toInt ∧ (ids x).toInt < 100000) (T : FVec Ideal S100000x128 .f32) :
    mean (taken ids T) = Cert.KernelIdeal.Bag.pooled (F := Ideal) ids T := by
  funext j
  rw [mean_eq]
  exact congrArg _ (funext fun s => taken_eq h T _)

end Cert.ReferenceIdeal.Bag

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_ids_in_vocab
public import proofs.«01_k».proof.Proof.Frames
public import proofs.«01_k».proof.Proof.Printed.Frames
public import proofs.«01_k».proof.Proof.Dense
public import proofs.«01_k».proof.Proof.Pool
public import Idealize.ShloMosaic.Adequacy
public import Idealize.ShloMosaic.Init

@[expose] public section

noncomputable section

namespace Cert.Proof

open Idealize.ShloMosaic Idealize.SL.Sem Cert.Kernel

/-- The kernel as printed ends with its arguments as they were. -/
theorem kernel_frame : Cert.quiescent_Kernel :=
  fun m g hp => (θ_run Cert.Kernel.defs _ _).mono (fun _ h => ⟨fun c => Cert.Kernel.Bag.kept_all h c, h.2⟩)
    (Cert.Kernel.Bag.run_main (F := Bits) m g (Cert.Kernel.Bag.inVocab_of m hp))

/-- So does the kernel over the extended reals. -/
theorem ideal_frame : Cert.quiescent_KernelIdeal :=
  fun m g hp => (θ_run Cert.KernelIdeal.defs _ _).mono (fun _ h => ⟨fun c => Cert.KernelIdeal.Bag.kept_all h c, h.2⟩)
    (Cert.KernelIdeal.Bag.run_main (F := Ideal) m g (Cert.KernelIdeal.Bag.inVocab_of m hp))

/-- So does the reference, whatever its arguments. -/
theorem reference_frame : Cert.quiescent_ReferenceIdeal :=
  fun m g _ => (θ_run Cert.ReferenceIdeal.defs _ _).mono
    (fun r h => ⟨fun c => (h c).2, Idealize.ShloMosaic.sem_eq_zero_of_no_sems (by decide) r.2⟩)
    (Cert.ReferenceIdeal.Bag.run_steps (F := Ideal) m g)

/-- Two memories that agree on the arguments have one result: the kernel's and the reference's. -/
theorem results_agree (m : (ℓ : Loc Cert.KernelIdeal.nD Cert.KernelIdeal.τ Cert.KernelIdeal.sig) → Buf (Elt Ideal) ℓ) (hp : Cert.Pre_KernelIdeal m)
    (c : Dev Cert.KernelIdeal.nD) :
    Cert.ReferenceIdeal.Bag.layers (F := Ideal)
        (Cert.ReferenceIdeal.Bag.mean (Cert.ReferenceIdeal.Bag.taken (m ((c.tc : Thread Cert.KernelIdeal.nD Cert.KernelIdeal.τ).loc Cert.KernelIdeal.main_arg0))
          (m ((c.tc : Thread Cert.KernelIdeal.nD Cert.KernelIdeal.τ).loc Cert.KernelIdeal.main_arg1))))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      = Cert.KernelIdeal.Bag.logits (F := Ideal) m c :=
  (congrArg (fun x => Cert.ReferenceIdeal.Bag.layers (F := Ideal) x _ _ _ _ _ _ _ _)
      (Cert.ReferenceIdeal.Bag.pooled_eq (Cert.Range.signed _ _ _ _ _ _ _ _ _ _ (hp c)) _)).trans
    (Cert.KernelIdeal.Bag.layersAll_eq _ _ _ _ _ _ _ _ _).symm

/-- Over the extended reals the kernel's result is the reference's. -/
theorem kernel_is_reference : Cert.algebraic_KernelIdeal_ReferenceIdeal := by
  intro m g m' g' hp hagree
  refine ⟨fun c => Cert.KernelIdeal.Bag.logits (F := Ideal) m c, ?_, ?_⟩
  · exact (θ_run Cert.KernelIdeal.defs _ _).mono (fun _ h c => ⟨Cert.KernelIdeal.Bag.scores_kept h c, Cert.KernelIdeal.Bag.kept_all h c⟩)
      (Cert.KernelIdeal.Bag.run_main (F := Ideal) m g (Cert.KernelIdeal.Bag.inVocab_of m hp))
  · refine (θ_run Cert.ReferenceIdeal.defs _ _).mono (fun _ h c => ⟨(h c).1.trans ?_, (h c).2⟩)
      (Cert.ReferenceIdeal.Bag.run_steps (F := Ideal) m' g')
    obtain ⟨e0, e1, e2, e3, e4, e5, e6, e7, e8, e9⟩ := hagree c
    rw [e0, e1, e2, e3, e4, e5, e6, e7, e8, e9]
    exact results_agree m hp c

/-- All claims of this certificate. -/
theorem claim : Cert.Claim := ⟨Cert.Kernel.Gen.facts, Cert.KernelIdeal.Gen.facts, Cert.ReferenceIdeal.Gen.facts, Cert.Pre_ids_in_vocab.Gen.facts,
  kernel_frame, ideal_frame, reference_frame, fun m g _ => reference_frame m g trivial,
  IdealRules.named_const.statement Cert.KernelIdeal.κ "inv_s" .f32 0x3CA3D70A#32 ((50⁻¹ : ℝ) : EReal) rfl,
  kernel_is_reference⟩

end Cert.Proof

end
